-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.Statement Cert.KernelIdeal.S128x896 Cert.KernelIdeal.S64x896
  ∧ IdealRules.bf16_pack.Statement Cert.KernelIdeal.S64x896

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27_0) = v0 c
          ∧ r.2.mem ((c.tc : Thread Cert.ReferenceIdeal.nD Cert.ReferenceIdeal.τ).loc Cert.ReferenceIdeal.main_v27_1) = v1 c
          ∧ r.2.mem ((c.tc : Thread Cert.ReferenceIdeal.nD Cert.ReferenceIdeal.τ).loc Cert.ReferenceIdeal.main_v27_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1024x4864 : Shape := ⟨3, ![16, 1024, 4864]⟩
abbrev S19x19 : Shape := ⟨2, ![19, 19]⟩
abbrev S2432x896 : Shape := ⟨2, ![2432, 896]⟩
abbrev S38x896 : Shape := ⟨2, ![38, 896]⟩
abbrev S896 : Shape := ⟨1, ![896]⟩
abbrev S_ : Shape := ⟨0, ![]⟩
abbrev S16384x4864 : Shape := ⟨2, ![16384, 4864]⟩
abbrev S1x896 : Shape := ⟨2, ![1, 896]⟩
abbrev S16384x896 : Shape := ⟨2, ![16384, 896]⟩
abbrev S16384x1 : Shape := ⟨2, ![16384, 1]⟩
abbrev S256x4864 : Shape := ⟨2, ![256, 4864]⟩
abbrev S256x896 : Shape := ⟨2, ![256, 896]⟩
abbrev S256x1 : Shape := ⟨2, ![256, 1]⟩
abbrev S4864x896 : Shape := ⟨2, ![4864, 896]⟩
abbrev S19x256x256 : Shape := ⟨3, ![19, 256, 256]⟩
abbrev S64x896 : Shape := ⟨2, ![64, 896]⟩
abbrev S128x896 : Shape := ⟨2, ![128, 896]⟩
abbrev S256x256 : Shape := ⟨2, ![256, 256]⟩
abbrev S1x256x256 : Shape := ⟨3, ![1, 256, 256]⟩
abbrev S16x256 : Shape := ⟨2, ![16, 256]⟩
abbrev S1x16x256 : Shape := ⟨3, ![1, 16, 256]⟩
abbrev S1x1 : Shape := ⟨2, ![1, 1]⟩
abbrev S16 : Shape := ⟨1, ![16]⟩
abbrev S16x1 : Shape := ⟨2, ![16, 1]⟩

abbrev nBuf : Space → Nat
  | .hbm => 19
  | .vmem => 15
  | .smem => 1
  | _ => 0

abbrev bufTy : (tb : Table) → Fin (tcTables nBuf tb) → BufTy
  | .hbm, ⟨0, _⟩ => ⟨S16x1024x4864, .bf16⟩
  | .hbm, ⟨1, _⟩ => ⟨S19x19, .f32⟩
  | .hbm, ⟨2, _⟩ => ⟨S2432x896, .i8⟩
  | .hbm, ⟨3, _⟩ => ⟨S38x896, .i8⟩
  | .hbm, ⟨4, _⟩ => ⟨S896, .f32⟩
  | .hbm, ⟨5, _⟩ => ⟨S38x896, .i32⟩
  | .hbm, ⟨6, _⟩ => ⟨S38x896, .i32⟩
  | .hbm, ⟨7, _⟩ => ⟨S38x896, .f32⟩
  | .hbm, ⟨8, _⟩ => ⟨S_, .f32⟩
  | .hbm, ⟨9, _⟩ => ⟨S38x896, .f32⟩
  | .hbm, ⟨10, _⟩ => ⟨S38x896, .f32⟩
  | .hbm, ⟨11, _⟩ => ⟨S38x896, .f32⟩
  | .hbm, ⟨12, _⟩ => ⟨S38x896, .bf16⟩
  | .hbm, ⟨13, _⟩ => ⟨S38x896, .f32⟩
  | .hbm, ⟨14, _⟩ => ⟨S16384x4864, .bf16⟩
  | .hbm, ⟨15, _⟩ => ⟨S1x896, .f32⟩
  | .hbm, ⟨16, _⟩ => ⟨S16384x896, .bf16⟩
  | .hbm, ⟨17, _⟩ => ⟨S16384x4864, .i8⟩
  | .hbm, ⟨18, _⟩ => ⟨S16384x1, .f32⟩
  | .local _ .vmem, ⟨0, _⟩ => ⟨S256x4864, .bf16⟩
  | .local _ .vmem, ⟨1, _⟩ => ⟨S256x4864, .bf16⟩
  | .local _ .vmem, ⟨2, _⟩ => ⟨S2432x896, .i8⟩
  | .local _ .vmem, ⟨3, _⟩ => ⟨S38x896, .f32⟩
  | .local _ .vmem, ⟨4, _⟩ => ⟨S1x896, .f32⟩
  | .local _ .vmem, ⟨5, _⟩ => ⟨S256x896, .bf16⟩
  | .local _ .vmem, ⟨6, _⟩ => ⟨S256x896, .bf16⟩
  | .local _ .vmem, ⟨7, _⟩ => ⟨S256x4864, .i8⟩
  | .local _ .vmem, ⟨8, _⟩ => ⟨S256x4864, .i8⟩
  | .local _ .vmem, ⟨9, _⟩ => ⟨S256x1, .f32⟩
  | .local _ .vmem, ⟨10, _⟩ => ⟨S256x1, .f32⟩
  | .local _ .vmem, ⟨11, _⟩ => ⟨S4864x896, .fp8e4m3⟩
  | .local _ .vmem, ⟨12, _⟩ => ⟨S19x256x256, .f32⟩
  | .local _ .vmem, ⟨13, _⟩ => ⟨S19x256x256, .f32⟩
  | .local _ .vmem, ⟨14, _⟩ => ⟨S256x4864, .fp8e4m3⟩
  | .local _ .smem, ⟨0, _⟩ => ⟨S19x19, .f32⟩
  | _, _ => ⟨S16x1024x4864, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [BitOps F]

abbrev grid0 : Pipeline.Grid := ⟨1, ![64], ![false]⟩

@[reducible] def k0_t1_loop : Scf.Loop 32 :=
  let c0_i32_78 : BitVec 32 := 0#32
  let c16_i32 : BitVec 32 := 16#32
  let v129 : BitVec 32 := Scalar.addi c0_i32_78 c16_i32
  let c1_i32_79 : BitVec 32 := 1#32
  ⟨c0_i32_78, v129, c1_i32_79⟩
def k0_mult1 (k0_t1 : Fin k0_t1_loop.trips) : BitVec 32 :=
  let c0_i32_78 : BitVec 32 := 0#32
  let c1_i32_79 : BitVec 32 := 1#32
  let arg13 : BitVec 32 := Scf.iv c0_i32_78 c1_i32_79 k0_t1
  let c16_i32_264 : BitVec 32 := 16#32
  let v430 : BitVec 32 := Scalar.muli arg13 c16_i32_264
  v430
def k0_off1 (k0_t1 : Fin k0_t1_loop.trips) : Fin 3 → Nat :=
  let c0_266 : Index := 0#32
  let c0_i32_78 : BitVec 32 := 0#32
  let c1_i32_79 : BitVec 32 := 1#32
  let arg13 : BitVec 32 := Scf.iv c0_i32_78 c1_i32_79 k0_t1
  let c16_i32_264 : BitVec 32 := 16#32
  let v430 : BitVec 32 := Scalar.muli arg13 c16_i32_264
  let v431 : BitVec 32 := v430
  let v433 : Index := Scalar.indexCast v431
  let c0_267 : Index := 0#32
  ![0, v433.toNat, 0]
def k0_off2 (k0_t1 : Fin k0_t1_loop.trips) : Fin 3 → Nat :=
  let c1_270 : Index := 1#32
  let c0_i32_78 : BitVec 32 := 0#32
  let c1_i32_79 : BitVec 32 := 1#32
  let arg13 : BitVec 32 := Scf.iv c0_i32_78 c1_i32_79 k0_t1
  let c16_i32_264 : BitVec 32 := 16#32
  let v430 : BitVec 32 := Scalar.muli arg13 c16_i32_264
  let v431 : BitVec 32 := v430
  let v439 : Index := Scalar.indexCast v431
  let c0_271 : Index := 0#32
  ![1, v439.toNat, 0]
def k0_off3 (k0_t1 : Fin k0_t1_loop.trips) : Fin 3 → Nat :=
  let c2_274 : Index := 2#32
  let c0_i32_78 : BitVec 32 := 0#32
  let c1_i32_79 : BitVec 32 := 1#32
  let arg13 : BitVec 32 := Scf.iv c0_i32_78 c1_i32_79 k0_t1
  let c16_i32_264 : BitVec 32 := 16#32
  let v430 : BitVec 32 := Scalar.muli arg13 c16_i32_264
  let v431 : BitVec 32 := v430
  let v446 : Index := Scalar.indexCast v431
  let c0_275 : Index := 0#32
  ![2, v446.toNat, 0]
def k0_off4 (k0_t1 : Fin k0_t1_loop.trips) : Fin 3 → Nat :=
  let c3_278 : Index := 3#32
  let c0_i32_78 : BitVec 32 := 0#32
  let c1_i32_79 : BitVec 32 := 1#32
  let arg13 : BitVec 32 := Scf.iv c0_i32_78 c1_i32_79 k0_t1
  let c16_i32_264 : BitVec 32 := 16#32
  let v430 : BitVec 32 := Scalar.muli arg13 c16_i32_264
  let v431 : BitVec 32 := v430
  let v453 : Index := Scalar.indexCast v431
  let c0_279 : Index := 0#32
  ![3, v453.toNat, 0]
def k0_off5 (k0_t1 : Fin k0_t1_loop.trips) : Fin 3 → Nat :=
  let c4_282 : Index := 4#32
  let c0_i32_78 : BitVec 32 := 0#32
  let c1_i32_79 : BitVec 32 := 1#32
  let arg13 : BitVec 32 := Scf.iv c0_i32_78 c1_i32_79 k0_t1
  let c16_i32_264 : BitVec 32 := 16#32
  let v430 : BitVec 32 := Scalar.muli arg13 c16_i32_264
  let v431 : BitVec 32 := v430
  let v460 : Index := Scalar.indexCast v431
  let c0_283 : Index := 0#32
  ![4, v460.toNat, 0]
def k0_off6 (k0_t1 : Fin k0_t1_loop.trips) : Fin 3 → Nat :=
  let c5_286 : Index := 5#32
  let c0_i32_78 : BitVec 32 := 0#32
  let c1_i32_79 : BitVec 32 := 1#32
  let arg13 : BitVec 32 := Scf.iv c0_i32_78 c1_i32_79 k0_t1
  let c16_i32_264 : BitVec 32 := 16#32
  let v430 : BitVec 32 := Scalar.muli arg13 c16_i32_264
  let v431 : BitVec 32 := v430
  let v467 : Index := Scalar.indexCast v431
  let c0_287 : Index := 0#32
  ![5, v467.toNat, 0]
def k0_off7 (k0_t1 : Fin k0_t1_loop.trips) : Fin 3 → Nat :=
  let c6_290 : Index := 6#32
  let c0_i32_78 : BitVec 32 := 0#32
  let c1_i32_79 : BitVec 32 := 1#32
  let arg13 : BitVec 32 := Scf.iv c0_i32_78 c1_i32_79 k0_t1
  let c16_i32_264 : BitVec 32 := 16#32
  let v430 : BitVec 32 := Scalar.muli arg13 c16_i32_264
  let v431 : BitVec 32 := v430
  let v474 : Index := Scalar.indexCast v431
  let c0_291 : Index := 0#32
  ![6, v474.toNat, 0]
def k0_off8 (k0_t1 : Fin k0_t1_loop.trips) : Fin 3 → Nat :=
  let c7_294 : Index := 7#32
  let c0_i32_78 : BitVec 32 := 0#32
  let c1_i32_79 : BitVec 32 := 1#32
  let arg13 : BitVec 32 := Scf.iv c0_i32_78 c1_i32_79 k0_t1
  let c16_i32_264 : BitVec 32 := 16#32
  let v430 : BitVec 32 := Scalar.muli arg13 c16_i32_264
  let v431 : BitVec 32 := v430
  let v481 : Index := Scalar.indexCast v431
  let c0_295 : Index := 0#32
  ![7, v481.toNat, 0]
def k0_off9 (k0_t1 : Fin k0_t1_loop.trips) : Fin 3 → Nat :=
  let c8_298 : Index := 8#32
  let c0_i32_78 : BitVec 32 := 0#32
  let c1_i32_79 : BitVec 32 := 1#32
  let arg13 : BitVec 32 := Scf.iv c0_i32_78 c1_i32_79 k0_t1
  let c16_i32_264 : BitVec 32 := 16#32
  let v430 : BitVec 32 := Scalar.muli arg13 c16_i32_264
  let v431 : BitVec 32 := v430
  let v488 : Index := Scalar.indexCast v431
  let c0_299 : Index := 0#32
  ![8, v488.toNat, 0]
def k0_off10 (k0_t1 : Fin k0_t1_loop.trips) : Fin 3 → Nat :=
  let c9_302 : Index := 9#32
  let c0_i32_78 : BitVec 32 := 0#32
  let c1_i32_79 : BitVec 32 := 1#32
  let arg13 : BitVec 32 := Scf.iv c0_i32_78 c1_i32_79 k0_t1
  let c16_i32_264 : BitVec 32 := 16#32
  let v430 : BitVec 32 := Scalar.muli arg13 c16_i32_264
  let v431 : BitVec 32 := v430
  let v495 : Index := Scalar.indexCast v431
  let c0_303 : Index := 0#32
  ![9, v495.toNat, 0]
def k0_off11 (k0_t1 : Fin k0_t1_loop.trips) : Fin 3 → Nat :=
  let c10_306 : Index := 10#32
  let c0_i32_78 : BitVec 32 := 0#32
  let c1_i32_79 : BitVec 32 := 1#32
  let arg13 : BitVec 32 := Scf.iv c0_i32_78 c1_i32_79 k0_t1
  let c16_i32_264 : BitVec 32 := 16#32
  let v430 : BitVec 32 := Scalar.muli arg13 c16_i32_264
  let v431 : BitVec 32 := v430
  let v502 : Index := Scalar.indexCast v431
  let c0_307 : Index := 0#32
  ![10, v502.toNat, 0]
def k0_off12 (k0_t1 : Fin k0_t1_loop.trips) : Fin 3 → Nat :=
  let c11_310 : Index := 11#32
  let c0_i32_78 : BitVec 32 := 0#32
  let c1_i32_79 : BitVec 32 := 1#32
  let arg13 : BitVec 32 := Scf.iv c0_i32_78 c1_i32_79 k0_t1
  let c16_i32_264 : BitVec 32 := 16#32
  let v430 : BitVec 32 := Scalar.muli arg13 c16_i32_264
  let v431 : BitVec 32 := v430
  let v509 : Index := Scalar.indexCast v431
  let c0_311 : Index := 0#32
  ![11, v509.toNat, 0]
def k0_off13 (k0_t1 : Fin k0_t1_loop.trips) : Fin 3 → Nat :=
  let c12_314 : Index := 12#32
  let c0_i32_78 : BitVec 32 := 0#32
  let c1_i32_79 : BitVec 32 := 1#32
  let arg13 : BitVec 32 := Scf.iv c0_i32_78 c1_i32_79 k0_t1
  let c16_i32_264 : BitVec 32 := 16#32
  let v430 : BitVec 32 := Scalar.muli arg13 c16_i32_264
  let v431 : BitVec 32 := v430
  let v516 : Index := Scalar.indexCast v431
  let c0_315 : Index := 0#32
  ![12, v516.toNat, 0]
def k0_off14 (k0_t1 : Fin k0_t1_loop.trips) : Fin 3 → Nat :=
  let c13_318 : Index := 13#32
  let c0_i32_78 : BitVec 32 := 0#32
  let c1_i32_79 : BitVec 32 := 1#32
  let arg13 : BitVec 32 := Scf.iv c0_i32_78 c1_i32_79 k0_t1
  let c16_i32_264 : BitVec 32 := 16#32
  let v430 : BitVec 32 := Scalar.muli arg13 c16_i32_264
  let v431 : BitVec 32 := v430
  let v523 : Index := Scalar.indexCast v431
  let c0_319 : Index := 0#32
  ![13, v523.toNat, 0]
def k0_off15 (k0_t1 : Fin k0_t1_loop.trips) : Fin 3 → Nat :=
  let c14_322 : Index := 14#32
  let c0_i32_78 : BitVec 32 := 0#32
  let c1_i32_79 : BitVec 32 := 1#32
  let arg13 : BitVec 32 := Scf.iv c0_i32_78 c1_i32_79 k0_t1
  let c16_i32_264 : BitVec 32 := 16#32
  let v430 : BitVec 32 := Scalar.muli arg13 c16_i32_264
  let v431 : BitVec 32 := v430
  let v530 : Index := Scalar.indexCast v431
  let c0_323 : Index := 0#32
  ![14, v530.toNat, 0]
def k0_off16 (k0_t1 : Fin k0_t1_loop.trips) : Fin 3 → Nat :=
  let c15_326 : Index := 15#32
  let c0_i32_78 : BitVec 32 := 0#32
  let c1_i32_79 : BitVec 32 := 1#32
  let arg13 : BitVec 32 := Scf.iv c0_i32_78 c1_i32_79 k0_t1
  let c16_i32_264 : BitVec 32 := 16#32
  let v430 : BitVec 32 := Scalar.muli arg13 c16_i32_264
  let v431 : BitVec 32 := v430
  let v537 : Index := Scalar.indexCast v431
  let c0_327 : Index := 0#32
  ![15, v537.toNat, 0]
def k0_off17 (k0_t1 : Fin k0_t1_loop.trips) : Fin 3 → Nat :=
  let c16_330 : Index := 16#32
  let c0_i32_78 : BitVec 32 := 0#32
  let c1_i32_79 : BitVec 32 := 1#32
  let arg13 : BitVec 32 := Scf.iv c0_i32_78 c1_i32_79 k0_t1
  let c16_i32_264 : BitVec 32 := 16#32
  let v430 : BitVec 32 := Scalar.muli arg13 c16_i32_264
  let v431 : BitVec 32 := v430
  let v544 : Index := Scalar.indexCast v431
  let c0_331 : Index := 0#32
  ![16, v544.toNat, 0]
def k0_off18 (k0_t1 : Fin k0_t1_loop.trips) : Fin 3 → Nat :=
  let c17_334 : Index := 17#32
  let c0_i32_78 : BitVec 32 := 0#32
  let c1_i32_79 : BitVec 32 := 1#32
  let arg13 : BitVec 32 := Scf.iv c0_i32_78 c1_i32_79 k0_t1
  let c16_i32_264 : BitVec 32 := 16#32
  let v430 : BitVec 32 := Scalar.muli arg13 c16_i32_264
  let v431 : BitVec 32 := v430
  let v551 : Index := Scalar.indexCast v431
  let c0_335 : Index := 0#32
  ![17, v551.toNat, 0]
def k0_off19 (k0_t1 : Fin k0_t1_loop.trips) : Fin 3 → Nat :=
  let c18_338 : Index := 18#32
  let c0_i32_78 : BitVec 32 := 0#32
  let c1_i32_79 : BitVec 32 := 1#32
  let arg13 : BitVec 32 := Scf.iv c0_i32_78 c1_i32_79 k0_t1
  let c16_i32_264 : BitVec 32 := 16#32
  let v430 : BitVec 32 := Scalar.muli arg13 c16_i32_264
  let v431 : BitVec 32 := v430
  let v558 : Index := Scalar.indexCast v431
  let c0_339 : Index := 0#32
  ![18, v558.toNat, 0]
def k0_off20 (k0_t1 : Fin k0_t1_loop.trips) : Fin 2 → Nat :=
  let c0_i32_78 : BitVec 32 := 0#32
  let c1_i32_79 : BitVec 32 := 1#32
  let arg13 : BitVec 32 := Scf.iv c0_i32_78 c1_i32_79 k0_t1
  let c16_i32_264 : BitVec 32 := 16#32
  let v430 : BitVec 32 := Scalar.muli arg13 c16_i32_264
  let v431 : BitVec 32 := v430
  let v3101 : Index := Scalar.indexCast v431
  let c0_1771 : Index := 0#32
  ![v3101.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S19x19 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4864 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2432x896 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S38x896 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x896 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x896 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4864 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F]
-- ==== ReferenceIdeal.lean ====
abbrev S16x1024x4864 : Shape := ⟨3, ![16, 1024, 4864]⟩
abbrev S19x19 : Shape := ⟨2, ![19, 19]⟩
abbrev S2432x896 : Shape := ⟨2, ![2432, 896]⟩
abbrev S38x896 : Shape := ⟨2, ![38, 896]⟩
abbrev S896 : Shape := ⟨1, ![896]⟩
abbrev S16x1024x19x256 : Shape := ⟨4, ![16, 1024, 19, 256]⟩
abbrev S256x256 : Shape := ⟨2, ![256, 256]⟩
abbrev S_ : Shape := ⟨0, ![]⟩
abbrev S16x1024x256x19 : Shape := ⟨4, ![16, 1024, 256, 19]⟩
abbrev S16384x4864 : Shape := ⟨2, ![16384, 4864]⟩
abbrev S1x896 : Shape := ⟨2, ![1, 896]⟩
abbrev S16384x896 : Shape := ⟨2, ![16384, 896]⟩
abbrev S16384x1 : Shape := ⟨2, ![16384, 1]⟩
abbrev S16384 : Shape := ⟨1, ![16384]⟩
abbrev S16384x2432x2 : Shape := ⟨3, ![16384, 2432, 2]⟩
abbrev S16384x2432x1 : Shape := ⟨3, ![16384, 2432, 1]⟩
abbrev S16384x2432 : Shape := ⟨2, ![16384, 2432]⟩
abbrev S38x64x896 : Shape := ⟨3, ![38, 64, 896]⟩
abbrev S38x1x896 : Shape := ⟨3, ![38, 1, 896]⟩

abbrev nBuf : Space → Nat
  | .hbm => 40
  | .vmem => 7
  | .smem => 0
  | _ => 0

abbrev bufTy : (tb : Table) → Fin (tcTables nBuf tb) → BufTy
  | .hbm, ⟨0, _⟩ => ⟨S16x1024x4864, .bf16⟩
  | .hbm, ⟨1, _⟩ => ⟨S19x19, .f32⟩
  | .hbm, ⟨2, _⟩ => ⟨S2432x896, .i8⟩
  | .hbm, ⟨3, _⟩ => ⟨S38x896, .i8⟩
  | .hbm, ⟨4, _⟩ => ⟨S896, .f32⟩
  | .hbm, ⟨5, _⟩ => ⟨S16x1024x4864, .f32⟩
  | .hbm, ⟨6, _⟩ => ⟨S16x1024x19x256, .f32⟩
  | .hbm, ⟨7, _⟩ => ⟨S256x256, .i32⟩
  | .hbm, ⟨8, _⟩ => ⟨S256x256, .i32⟩
  | .hbm, ⟨9, _⟩ => ⟨S256x256, .i32⟩
  | .hbm, ⟨10, _⟩ => ⟨S256x256, .i32⟩
  | .hbm, ⟨11, _⟩ => ⟨S_, .i32⟩
  | .hbm, ⟨12, _⟩ => ⟨S256x256, .i32⟩
  | .hbm, ⟨13, _⟩ => ⟨S256x256, .i32⟩
  | .hbm, ⟨14, _⟩ => ⟨S_, .i32⟩
  | .hbm, ⟨15, _⟩ => ⟨S256x256, .i32⟩
  | .hbm, ⟨16, _⟩ => ⟨S256x256, .i32⟩
  | .hbm, ⟨17, _⟩ => ⟨S_, .i32⟩
  | .hbm, ⟨18, _⟩ => ⟨S256x256, .i32⟩
  | .hbm, ⟨19, _⟩ => ⟨S256x256, .i32⟩
  | .hbm, ⟨20, _⟩ => ⟨S256x256, .f32⟩
  | .hbm, ⟨21, _⟩ => ⟨S16x1024x19x256, .f32⟩
  | .hbm, ⟨22, _⟩ => ⟨S16x1024x256x19, .f32⟩
  | .hbm, ⟨23, _⟩ => ⟨S16x1024x19x256, .f32⟩
  | .hbm, ⟨24, _⟩ => ⟨S_, .f32⟩
  | .hbm, ⟨25, _⟩ => ⟨S16x1024x19x256, .f32⟩
  | .hbm, ⟨26, _⟩ => ⟨S16x1024x19x256, .f32⟩
  | .hbm, ⟨27, _⟩ => ⟨S16384x4864, .f32⟩
  | .hbm, ⟨28, _⟩ => ⟨S38x896, .i32⟩
  | .hbm, ⟨29, _⟩ => ⟨S38x896, .f32⟩
  | .hbm, ⟨30, _⟩ => ⟨S38x896, .f32⟩
  | .hbm, ⟨31, _⟩ => ⟨S_, .f32⟩
  | .hbm, ⟨32, _⟩ => ⟨S38x896, .f32⟩
  | .hbm, ⟨33, _⟩ => ⟨S38x896, .f32⟩
  | .hbm, ⟨34, _⟩ => ⟨S38x896, .f32⟩
  | .hbm, ⟨35, _⟩ => ⟨S38x896, .bf16⟩
  | .hbm, ⟨36, _⟩ => ⟨S1x896, .f32⟩
  | .hbm, ⟨37, _⟩ => ⟨S16384x896, .bf16⟩
  | .hbm, ⟨38, _⟩ => ⟨S16384x4864, .i8⟩
  | .hbm, ⟨39, _⟩ => ⟨S16384x1, .f32⟩
  | .local _ .vmem, ⟨0, _⟩ => ⟨S16384x4864, .f32⟩
  | .local _ .vmem, ⟨1, _⟩ => ⟨S2432x896, .i8⟩
  | .local _ .vmem, ⟨2, _⟩ => ⟨S38x896, .bf16⟩
  | .local _ .vmem, ⟨3, _⟩ => ⟨S1x896, .f32⟩
  | .local _ .vmem, ⟨4, _⟩ => ⟨S16384x896, .bf16⟩
  | .local _ .vmem, ⟨5, _⟩ => ⟨S16384x4864, .i8⟩
  | .local _ .vmem, ⟨6, _⟩ => ⟨S16384x1, .f32⟩
  | _, _ => ⟨S16x1024x4864, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27_0 : Ref sig .tc := ⟨.hbm, 37, rfl⟩
abbrev main_v27_1 : Ref sig .tc := ⟨.hbm, 38, rfl⟩
abbrev main_v27_2 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S16384x4864 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2432x896 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S38x896 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x896 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x896 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x4864 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.WordRunA.lean ====
/- The body at the first grid point, run with the transform scratch at stated contents. -/
module

public import proofs.«01_k».proof.Proof.Gen.Kernel.Frame.Runs

@[expose] public section

set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option backward.proofsInPublic true in
set_option maxHeartbeats 2772000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), run step by step — each `scf.if` decided by the case's hypotheses `hc·`; the pieces are
    the witness that run finds (assigned when `iexact` hands the buffer to the continuation). -/
noncomputable def runAAt (c : Dev nD) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (hc0 : cond0_0 i)
    (x0 : Vec F S19x19 .f32) (x1 : Vec F S256x4864 .bf16) (x2 : Vec F S2432x896 .i8) (x3 : Vec F S38x896 .f32) (x4 : Vec F S1x896 .f32) (xs1 : Vec F S19x256x256 .f32) :
    Σ' (L5 : List (View.Piece (Elt F) S256x896 .bf16)), Σ' (L6 : List (View.Piece (Elt F) S256x4864 .i8)), Σ' (L7 : List (View.Piece (Elt F) S256x1 .f32)), { LS0 : List (View.Piece (Elt F) S4864x896 .fp8e4m3) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs1 ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_quarot_down_proj i arg1 harg1 arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_quarot_down_proj_eq_skeleton]; unfold cc0_quarot_down_proj_skel
    simp only [k0_part106_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%fs1, %hfs1, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg10.eq_unread hfs1
    have hrd0 : ∀ (𝒱 : Variants) (c : Dev nD) (bd : Option 𝒱.V) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (v14 : FVec F S256x256 .bf16) (v113 : FVec F S256x256 .f32) (v114 : Vec F S1x256x256 .f32) (X_arg1 : BufTy.Contents (Elt F) arg1.view.ty) (X_arg10 : BufTy.Contents (Elt F) arg10.view.ty) (hrdF : BufTy.Contents (Elt F) arg8.view.ty) (hrdB : LoadRect S256x1), arg8.view.readAt (Elt F) hrdB (arg8.view.writes (Elt F) hrdF (pb_k0_t1 (F := F) 𝒱 c bd i arg1 harg1 arg2 harg2 arg3 harg3 arg4 harg4 arg5 harg5 arg6 harg6 arg7 harg7 arg8 harg8 arg9 harg9 arg10 harg10 arg11 harg11 arg12 harg12 v14 v113 v114 X_arg1 X_arg10 (Scf.trips k0_t1_loop.lb k0_t1_loop.ub k0_t1_loop.st)).1) = arg8.view.readCov (pb_k0_t1 (F := F) 𝒱 c bd i arg1 harg1 arg2 harg2 arg3 harg3 arg4 harg4 arg5 harg5 arg6 harg6 arg7 harg7 arg8 harg8 arg9 harg9 arg10 harg10 arg11 harg11 arg12 harg12 v14 v113 v114 X_arg1 X_arg10 (Scf.trips k0_t1_loop.lb k0_t1_loop.ub k0_t1_loop.st)).1 hrdB := fun 𝒱 c bd i arg1 harg1 arg2 harg2 arg3 harg3 arg4 harg4 arg5 harg5 arg6 harg6 arg7 harg7 arg8 harg8 arg9 harg9 arg10 harg10 arg11 harg11 arg12 harg12 v14 v113 v114 X_arg1 X_arg10 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 arg10 harg10 arg11 harg11 arg12 harg12 v14 v113 v114 X_arg1 X_arg10 (Scf.trips k0_t1_loop.lb k0_t1_loop.ub k0_t1_loop.st)).1 S16x1.size (by sl_kernel_rfl) (hrdB.idx hrdJ))
    have hrd1 : ∀ (𝒱 : Variants) (c : Dev nD) (bd : Option 𝒱.V) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (v14 : FVec F S256x256 .bf16) (v113 : FVec F S256x256 .f32) (v114 : Vec F S1x256x256 .f32) (X_arg1 : BufTy.Contents (Elt F) arg1.view.ty) (X_arg10 : BufTy.Contents (Elt F) arg10.view.ty) (hrdF : BufTy.Contents (Elt F) arg11.view.ty) (hrdB : LoadRect S19x256x256), arg11.view.readAt (Elt F) hrdB (arg11.view.writes (Elt F) hrdF (pb_k0_t1 (F := F) 𝒱 c bd i arg1 harg1 arg2 harg2 arg3 harg3 arg4 harg4 arg5 harg5 arg6 harg6 arg7 harg7 arg8 harg8 arg9 harg9 arg10 harg10 arg11 harg11 arg12 harg12 v14 v113 v114 X_arg1 X_arg10 (Scf.trips k0_t1_loop.lb k0_t1_loop.ub k0_t1_loop.st)).2) = arg11.view.readCov (pb_k0_t1 (F := F) 𝒱 c bd i arg1 harg1 arg2 harg2 arg3 harg3 arg4 harg4 arg5 harg5 arg6 harg6 arg7 harg7 arg8 harg8 arg9 harg9 arg10 harg10 arg11 harg11 arg12 harg12 v14 v113 v114 X_arg1 X_arg10 (Scf.trips k0_t1_loop.lb k0_t1_loop.ub k0_t1_loop.st)).2 hrdB := fun 𝒱 c bd i arg1 harg1 arg2 harg2 arg3 harg3 arg4 harg4 arg5 harg5 arg6 harg6 arg7 harg7 arg8 harg8 arg9 harg9 arg10 harg10 arg11 harg11 arg12 harg12 v14 v113 v114 X_arg1 X_arg10 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 arg10 harg10 arg11 harg11 arg12 harg12 v14 v113 v114 X_arg1 X_arg10 (Scf.trips k0_t1_loop.lb k0_t1_loop.ub k0_t1_loop.st)).2 S1x16x256.size (by sl_kernel_rfl) (hrdB.idx hrdJ))
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Own

end
-- ==== Proof.WordRunB.lean ====
/- The body away from the first grid point, run with the transform scratch at stated contents. -/
module

public import proofs.«01_k».proof.Proof.WordRunA

@[expose] public section

set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option backward.proofsInPublic true in
set_option maxHeartbeats 1004000 in
/-- What the body's stores leave in each output's staging memref, as pieces (last first) IN CASE B (`scf.if` 0 not taken: points 1, 2, … 63: 63 of 64), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), run step by step — each `scf.if` decided by the case's hypotheses `hc·`; the pieces are
    the witness that run finds (assigned when `iexact` hands the buffer to the continuation). -/
noncomputable def runBAt (c : Dev nD) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (hc0 : ¬cond0_0 i)
    (x0 : Vec F S19x19 .f32) (x1 : Vec F S256x4864 .bf16) (x2 : Vec F S2432x896 .i8) (x3 : Vec F S38x896 .f32) (x4 : Vec F S1x896 .f32) (xs0 : Vec F S4864x896 .fp8e4m3) (xs1 : Vec F S19x256x256 .f32) :
    Σ' (L5 : List (View.Piece (Elt F) S256x896 .bf16)), Σ' (L6 : List (View.Piece (Elt F) S256x4864 .i8)), Σ' (L7 : List (View.Piece (Elt F) S256x1 .f32)), { LS0 : List (View.Piece (Elt F) S4864x896 .fp8e4m3) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ owns (c : Thread nD τ) arg9 fullShare xs0 ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_quarot_down_proj i arg1 harg1 arg2 harg2 arg3 harg3 arg4 harg4 arg5 harg5 arg6 harg6 arg7 harg7 arg8 harg8 arg9 harg9 arg10 harg10 arg11 harg11 arg12 harg12) K } := by
  refine ⟨?_, ?_, ?_, [], fun E K => ?run⟩
  case run =>
    simp only [cc0_quarot_down_proj_eq_skeleton]; unfold cc0_quarot_down_proj_skel
    simp only [k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg10.eq_unread hfs1; obtain rfl := harg9.eq_unread hfs0
    have hrd0 : ∀ (𝒱 : Variants) (c : Dev nD) (bd : Option 𝒱.V) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (v14 : FVec F S256x256 .bf16) (v113 : FVec F S256x256 .f32) (v114 : Vec F S1x256x256 .f32) (X_arg1 : BufTy.Contents (Elt F) arg1.view.ty) (X_arg10 : BufTy.Contents (Elt F) arg10.view.ty) (hrdF : BufTy.Contents (Elt F) arg8.view.ty) (hrdB : LoadRect S256x1), arg8.view.readAt (Elt F) hrdB (arg8.view.writes (Elt F) hrdF (pb_k0_t1 (F := F) 𝒱 c bd i arg1 harg1 arg2 harg2 arg3 harg3 arg4 harg4 arg5 harg5 arg6 harg6 arg7 harg7 arg8 harg8 arg9 harg9 arg10 harg10 arg11 harg11 arg12 harg12 v14 v113 v114 X_arg1 X_arg10 (Scf.trips k0_t1_loop.lb k0_t1_loop.ub k0_t1_loop.st)).1) = arg8.view.readCov (pb_k0_t1 (F := F) 𝒱 c bd i arg1 harg1 arg2 harg2 arg3 harg3 arg4 harg4 arg5 harg5 arg6 harg6 arg7 harg7 arg8 harg8 arg9 harg9 arg10 harg10 arg11 harg11 arg12 harg12 v14 v113 v114 X_arg1 X_arg10 (Scf.trips k0_t1_loop.lb k0_t1_loop.ub k0_t1_loop.st)).1 hrdB := fun 𝒱 c bd i arg1 harg1 arg2 harg2 arg3 harg3 arg4 harg4 arg5 harg5 arg6 harg6 arg7 harg7 arg8 harg8 arg9 harg9 arg10 harg10 arg11 harg11 arg12 harg12 v14 v113 v114 X_arg1 X_arg10 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 arg10 harg10 arg11 harg11 arg12 harg12 v14 v113 v114 X_arg1 X_arg10 (Scf.trips k0_t1_loop.lb k0_t1_loop.ub k0_t1_loop.st)).1 S16x1.size (by sl_kernel_rfl) (hrdB.idx hrdJ))
    have hrd1 : ∀ (𝒱 : Variants) (c : Dev nD) (bd : Option 𝒱.V) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (v14 : FVec F S256x256 .bf16) (v113 : FVec F S256x256 .f32) (v114 : Vec F S1x256x256 .f32) (X_arg1 : BufTy.Contents (Elt F) arg1.view.ty) (X_arg10 : BufTy.Contents (Elt F) arg10.view.ty) (hrdF : BufTy.Contents (Elt F) arg11.view.ty) (hrdB : LoadRect S19x256x256), arg11.view.readAt (Elt F) hrdB (arg11.view.writes (Elt F) hrdF (pb_k0_t1 (F := F) 𝒱 c bd i arg1 harg1 arg2 harg2 arg3 harg3 arg4 harg4 arg5 harg5 arg6 harg6 arg7 harg7 arg8 harg8 arg9 harg9 arg10 harg10 arg11 harg11 arg12 harg12 v14 v113 v114 X_arg1 X_arg10 (Scf.trips k0_t1_loop.lb k0_t1_loop.ub k0_t1_loop.st)).2) = arg11.view.readCov (pb_k0_t1 (F := F) 𝒱 c bd i arg1 harg1 arg2 harg2 arg3 harg3 arg4 harg4 arg5 harg5 arg6 harg6 arg7 harg7 arg8 harg8 arg9 harg9 arg10 harg10 arg11 harg11 arg12 harg12 v14 v113 v114 X_arg1 X_arg10 (Scf.trips k0_t1_loop.lb k0_t1_loop.ub k0_t1_loop.st)).2 hrdB := fun 𝒱 c bd i arg1 harg1 arg2 harg2 arg3 harg3 arg4 harg4 arg5 harg5 arg6 harg6 arg7 harg7 arg8 harg8 arg9 harg9 arg10 harg10 arg11 harg11 arg12 harg12 v14 v113 v114 X_arg1 X_arg10 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 arg10 harg10 arg11 harg11 arg12 harg12 v14 v113 v114 X_arg1 X_arg10 (Scf.trips k0_t1_loop.lb k0_t1_loop.ub k0_t1_loop.st)).2 S1x16x256.size (by sl_kernel_rfl) (hrdB.idx hrdJ))
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]
    · iexists _; isplitr; · ipureintro; exact harg9.read_unread _
      iexact HS0
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Own

end
-- ==== Proof.WordBody.lean ====
/- The transform scratch is overwritten before it is read, so what the body computes does not depend on what the
   scratch held; the two runs of the body from any contents of that scratch. -/
module

public import proofs.«01_k».proof.Proof.WordRunB

@[expose] public section

set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- A trip of the mixing loop does not use the values read from the scratch before the loop. -/
theorem trip_any (𝒱 : Variants) (c : Dev nD) (bd : Option 𝒱.V) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (v14 : FVec F S256x256 .bf16) (v113 : FVec F S256x256 .f32) (v114 w114 : Vec F S1x256x256 .f32) (X_arg1 : BufTy.Contents (Elt F) arg1.view.ty) (X_arg10 : BufTy.Contents (Elt F) arg10.view.ty) (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 v14 v113 v114 X_arg1 X_arg10 k = tripL_k0_t1 (F := F) 𝒱 c bd i arg1 harg1 arg2 harg2 arg3 harg3 arg4 harg4 arg5 harg5 arg6 harg6 arg7 harg7 arg8 harg8 arg9 harg9 arg10 harg10 arg11 harg11 arg12 harg12 v14 v113 w114 X_arg1 X_arg10 k := by
  dsimp only [tripL_k0_t1]; unfold trip_k0_t1; rfl

theorem pb_any (𝒱 : Variants) (c : Dev nD) (bd : Option 𝒱.V) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (v14 : FVec F S256x256 .bf16) (v113 : FVec F S256x256 .f32) (v114 w114 : Vec F S1x256x256 .f32) (X_arg1 : BufTy.Contents (Elt F) arg1.view.ty) (X_arg10 : BufTy.Contents (Elt F) arg10.view.ty) (n : ℕ) :
    pb_k0_t1 (F := F) 𝒱 c bd i arg1 harg1 arg2 harg2 arg3 harg3 arg4 harg4 arg5 harg5 arg6 harg6 arg7 harg7 arg8 harg8 arg9 harg9 arg10 harg10 arg11 harg11 arg12 harg12 v14 v113 v114 X_arg1 X_arg10 n = pb_k0_t1 (F := F) 𝒱 c bd i arg1 harg1 arg2 harg2 arg3 harg3 arg4 harg4 arg5 harg5 arg6 harg6 arg7 harg7 arg8 harg8 arg9 harg9 arg10 harg10 arg11 harg11 arg12 harg12 v14 v113 w114 X_arg1 X_arg10 n := by
  induction n with
  | zero => rfl
  | succ n ih =>
    rw [pb_k0_t1.eq_2, pb_k0_t1.eq_2, ih]; unfold pb_k0_t1Step
    by_cases h : n < k0_t1_loop.trips
    · rw [dif_pos h, dif_pos h, trip_any 𝒱 c bd i arg1 harg1 arg2 harg2 arg3 harg3 arg4 harg4 arg5 harg5 arg6 harg6 arg7 harg7 arg8 harg8 arg9 harg9 arg10 harg10 arg11 harg11 arg12 harg12 v14 v113 v114 w114 X_arg1 X_arg10 ⟨n, h⟩]
    · rw [dif_neg h, dif_neg h]

theorem runA_indep0 (c : Dev nD) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (hc0 : cond0_0 i)
    (x0 : Vec F S19x19 .f32) (x1 : Vec F S256x4864 .bf16) (x2 : Vec F S2432x896 .i8) (x3 : Vec F S38x896 .f32) (x4 : Vec F S1x896 .f32) (xs1 ys1 : Vec F S19x256x256 .f32) :
    (runAAt c i arg1 harg1 arg2 harg2 arg3 harg3 arg4 harg4 arg5 harg5 arg6 harg6 arg7 harg7 arg8 harg8 arg9 harg9 arg10 harg10 arg11 harg11 arg12 harg12 hc0 x0 x1 x2 x3 x4 xs1).1 = (runAAt c i arg1 harg1 arg2 harg2 arg3 harg3 arg4 harg4 arg5 harg5 arg6 harg6 arg7 harg7 arg8 harg8 arg9 harg9 arg10 harg10 arg11 harg11 arg12 harg12 hc0 x0 x1 x2 x3 x4 ys1).1 := by
  unfold runAAt; dsimp only; sl_unfold_words
  rw [pb_any (v114 := View.readAt (Elt F) arg10.view (Rect.unit (s := S19x256x256) ![16, 0, 0] S1x256x256.size inb_S19x256x256_S1x256x256_16_0_0).toLoadRect (harg10.unread xs1)) (w114 := View.readAt (Elt F) arg10.view (Rect.unit (s := S19x256x256) ![16, 0, 0] S1x256x256.size inb_S19x256x256_S1x256x256_16_0_0).toLoadRect (harg10.unread ys1))]

theorem runA_indep1 (c : Dev nD) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (hc0 : cond0_0 i)
    (x0 : Vec F S19x19 .f32) (x1 : Vec F S256x4864 .bf16) (x2 : Vec F S2432x896 .i8) (x3 : Vec F S38x896 .f32) (x4 : Vec F S1x896 .f32) (xs1 ys1 : Vec F S19x256x256 .f32) :
    (runAAt c i arg1 harg1 arg2 harg2 arg3 harg3 arg4 harg4 arg5 harg5 arg6 harg6 arg7 harg7 arg8 harg8 arg9 harg9 arg10 harg10 arg11 harg11 arg12 harg12 hc0 x0 x1 x2 x3 x4 xs1).2.1 = (runAAt c i arg1 harg1 arg2 harg2 arg3 harg3 arg4 harg4 arg5 harg5 arg6 harg6 arg7 harg7 arg8 harg8 arg9 harg9 arg10 harg10 arg11 harg11 arg12 harg12 hc0 x0 x1 x2 x3 x4 ys1).2.1 := by
  unfold runAAt; dsimp only; sl_unfold_words
  rw [pb_any (v114 := View.readAt (Elt F) arg10.view (Rect.unit (s := S19x256x256) ![16, 0, 0] S1x256x256.size inb_S19x256x256_S1x256x256_16_0_0).toLoadRect (harg10.unread xs1)) (w114 := View.readAt (Elt F) arg10.view (Rect.unit (s := S19x256x256) ![16, 0, 0] S1x256x256.size inb_S19x256x256_S1x256x256_16_0_0).toLoadRect (harg10.unread ys1))]

theorem runA_indep2 (c : Dev nD) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (hc0 : cond0_0 i)
    (x0 : Vec F S19x19 .f32) (x1 : Vec F S256x4864 .bf16) (x2 : Vec F S2432x896 .i8) (x3 : Vec F S38x896 .f32) (x4 : Vec F S1x896 .f32) (xs1 ys1 : Vec F S19x256x256 .f32) :
    (runAAt c i arg1 harg1 arg2 harg2 arg3 harg3 arg4 harg4 arg5 harg5 arg6 harg6 arg7 harg7 arg8 harg8 arg9 harg9 arg10 harg10 arg11 harg11 arg12 harg12 hc0 x0 x1 x2 x3 x4 xs1).2.2.1 = (runAAt c i arg1 harg1 arg2 harg2 arg3 harg3 arg4 harg4 arg5 harg5 arg6 harg6 arg7 harg7 arg8 harg8 arg9 harg9 arg10 harg10 arg11 harg11 arg12 harg12 hc0 x0 x1 x2 x3 x4 ys1).2.2.1 := by
  unfold runAAt; dsimp only; sl_unfold_words
  rw [pb_any (v114 := View.readAt (Elt F) arg10.view (Rect.unit (s := S19x256x256) ![16, 0, 0] S1x256x256.size inb_S19x256x256_S1x256x256_16_0_0).toLoadRect (harg10.unread xs1)) (w114 := View.readAt (Elt F) arg10.view (Rect.unit (s := S19x256x256) ![16, 0, 0] S1x256x256.size inb_S19x256x256_S1x256x256_16_0_0).toLoadRect (harg10.unread ys1))]

theorem runA_indep3 (c : Dev nD) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (hc0 : cond0_0 i)
    (x0 : Vec F S19x19 .f32) (x1 : Vec F S256x4864 .bf16) (x2 : Vec F S2432x896 .i8) (x3 : Vec F S38x896 .f32) (x4 : Vec F S1x896 .f32) (xs1 ys1 : Vec F S19x256x256 .f32) :
    (runAAt c i arg1 harg1 arg2 harg2 arg3 harg3 arg4 harg4 arg5 harg5 arg6 harg6 arg7 harg7 arg8 harg8 arg9 harg9 arg10 harg10 arg11 harg11 arg12 harg12 hc0 x0 x1 x2 x3 x4 xs1).2.2.2.1 = (runAAt c i arg1 harg1 arg2 harg2 arg3 harg3 arg4 harg4 arg5 harg5 arg6 harg6 arg7 harg7 arg8 harg8 arg9 harg9 arg10 harg10 arg11 harg11 arg12 harg12 hc0 x0 x1 x2 x3 x4 ys1).2.2.2.1 := by
  unfold runAAt; dsimp only

theorem runB_indep0 (c : Dev nD) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (hc0 : ¬cond0_0 i)
    (x0 : Vec F S19x19 .f32) (x1 : Vec F S256x4864 .bf16) (x2 : Vec F S2432x896 .i8) (x3 : Vec F S38x896 .f32) (x4 : Vec F S1x896 .f32) (xs0 : Vec F S4864x896 .fp8e4m3) (xs1 ys1 : Vec F S19x256x256 .f32) :
    (runBAt c i arg1 harg1 arg2 harg2 arg3 harg3 arg4 harg4 arg5 harg5 arg6 harg6 arg7 harg7 arg8 harg8 arg9 harg9 arg10 harg10 arg11 harg11 arg12 harg12 hc0 x0 x1 x2 x3 x4 xs0 xs1).1 = (runBAt c i arg1 harg1 arg2 harg2 arg3 harg3 arg4 harg4 arg5 harg5 arg6 harg6 arg7 harg7 arg8 harg8 arg9 harg9 arg10 harg10 arg11 harg11 arg12 harg12 hc0 x0 x1 x2 x3 x4 xs0 ys1).1 := by
  unfold runBAt; dsimp only; sl_unfold_words
  rw [pb_any (v114 := View.readAt (Elt F) arg10.view (Rect.unit (s := S19x256x256) ![16, 0, 0] S1x256x256.size inb_S19x256x256_S1x256x256_16_0_0).toLoadRect (harg10.unread xs1)) (w114 := View.readAt (Elt F) arg10.view (Rect.unit (s := S19x256x256) ![16, 0, 0] S1x256x256.size inb_S19x256x256_S1x256x256_16_0_0).toLoadRect (harg10.unread ys1))]

theorem runB_indep1 (c : Dev nD) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (hc0 : ¬cond0_0 i)
    (x0 : Vec F S19x19 .f32) (x1 : Vec F S256x4864 .bf16) (x2 : Vec F S2432x896 .i8) (x3 : Vec F S38x896 .f32) (x4 : Vec F S1x896 .f32) (xs0 : Vec F S4864x896 .fp8e4m3) (xs1 ys1 : Vec F S19x256x256 .f32) :
    (runBAt c i arg1 harg1 arg2 harg2 arg3 harg3 arg4 harg4 arg5 harg5 arg6 harg6 arg7 harg7 arg8 harg8 arg9 harg9 arg10 harg10 arg11 harg11 arg12 harg12 hc0 x0 x1 x2 x3 x4 xs0 xs1).2.1 = (runBAt c i arg1 harg1 arg2 harg2 arg3 harg3 arg4 harg4 arg5 harg5 arg6 harg6 arg7 harg7 arg8 harg8 arg9 harg9 arg10 harg10 arg11 harg11 arg12 harg12 hc0 x0 x1 x2 x3 x4 xs0 ys1).2.1 := by
  unfold runBAt; dsimp only; sl_unfold_words
  rw [pb_any (v114 := View.readAt (Elt F) arg10.view (Rect.unit (s := S19x256x256) ![16, 0, 0] S1x256x256.size inb_S19x256x256_S1x256x256_16_0_0).toLoadRect (harg10.unread xs1)) (w114 := View.readAt (Elt F) arg10.view (Rect.unit (s := S19x256x256) ![16, 0, 0] S1x256x256.size inb_S19x256x256_S1x256x256_16_0_0).toLoadRect (harg10.unread ys1))]

theorem runB_indep2 (c : Dev nD) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (hc0 : ¬cond0_0 i)
    (x0 : Vec F S19x19 .f32) (x1 : Vec F S256x4864 .bf16) (x2 : Vec F S2432x896 .i8) (x3 : Vec F S38x896 .f32) (x4 : Vec F S1x896 .f32) (xs0 : Vec F S4864x896 .fp8e4m3) (xs1 ys1 : Vec F S19x256x256 .f32) :
    (runBAt c i arg1 harg1 arg2 harg2 arg3 harg3 arg4 harg4 arg5 harg5 arg6 harg6 arg7 harg7 arg8 harg8 arg9 harg9 arg10 harg10 arg11 harg11 arg12 harg12 hc0 x0 x1 x2 x3 x4 xs0 xs1).2.2.1 = (runBAt c i arg1 harg1 arg2 harg2 arg3 harg3 arg4 harg4 arg5 harg5 arg6 harg6 arg7 harg7 arg8 harg8 arg9 harg9 arg10 harg10 arg11 harg11 arg12 harg12 hc0 x0 x1 x2 x3 x4 xs0 ys1).2.2.1 := by
  unfold runBAt; dsimp only; sl_unfold_words
  rw [pb_any (v114 := View.readAt (Elt F) arg10.view (Rect.unit (s := S19x256x256) ![16, 0, 0] S1x256x256.size inb_S19x256x256_S1x256x256_16_0_0).toLoadRect (harg10.unread xs1)) (w114 := View.readAt (Elt F) arg10.view (Rect.unit (s := S19x256x256) ![16, 0, 0] S1x256x256.size inb_S19x256x256_S1x256x256_16_0_0).toLoadRect (harg10.unread ys1))]

/-- Some contents of the transform scratch; which ones does not matter. -/
def anyT : Vec F S19x256x256 .f32 := scM0_1.view.read (Elt F) scM0_1.view.junk

/-- A run from each contents of the transform scratch is a run from any contents of it. -/
theorem runA_any (c : Dev nD) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (hc0 : cond0_0 i)
    (x0 : Vec F S19x19 .f32) (x1 : Vec F S256x4864 .bf16) (x2 : Vec F S2432x896 .i8) (x3 : Vec F S38x896 .f32) (x4 : Vec F S1x896 .f32) (L5 : List (View.Piece (Elt F) S256x896 .bf16)) (L6 : List (View.Piece (Elt F) S256x4864 .i8)) (L7 : List (View.Piece (Elt F) S256x1 .f32)) (LS0 : List (View.Piece (Elt F) S4864x896 .fp8e4m3))
    (h0 : ∀ xs1 : Vec F S19x256x256 .f32, ∃ M5 M6 M7 M0, M5 = L5 ∧ M6 = L6 ∧ M7 = L7 ∧ M0 = LS0 ∧
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs1 ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f M5) ∗ (∃ f, arg7.view.loc (c : Thread nD τ) ↦[arg7.view.set]{fullShare} arg7.view.writes (Elt F) f M6) ∗ (∃ f, arg8.view.loc (c : Thread nD τ) ↦[arg8.view.set]{fullShare} arg8.view.writes (Elt F) f M7) ∗ (∃ f, arg9.view.loc (c : Thread nD τ) ↦[arg9.view.set]{fullShare} arg9.view.writes (Elt F) f M0) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_quarot_down_proj i arg1 harg1 arg2 harg2 arg3 harg3 arg4 harg4 arg5 harg5 arg6 harg6 arg7 harg7 arg8 harg8 arg9 harg9 arg10 harg10 arg11 harg11 arg12 harg12) K) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_quarot_down_proj i arg1 harg1 arg2 harg2 arg3 harg3 arg4 harg4 arg5 harg5 arg6 harg6 arg7 harg7 arg8 harg8 arg9 harg9 arg10 harg10 arg11 harg11 arg12 harg12) K := by
  have h : ∀ xs1 : Vec F S19x256x256 .f32,
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs1 ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_quarot_down_proj i arg1 harg1 arg2 harg2 arg3 harg3 arg4 harg4 arg5 harg5 arg6 harg6 arg7 harg7 arg8 harg8 arg9 harg9 arg10 harg10 arg11 harg11 arg12 harg12) K := by
    intro d; obtain ⟨_, _, _, _, rfl, rfl, rfl, rfl, h⟩ := h0 d; exact h
  intro E K
  iintro ⟨H0, H1, H2, H3, H4, H5, H6, H7, HS0, ⟨%d, HS1⟩, HS2, HS3, Hk⟩
  iapply (h d E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  iexact Hk

/-- The pieces each buffer ends with in case A, with the proof that the body runs from any contents of its scratch. -/
noncomputable def kernelRun0_A (c : Dev nD) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (hc0 : cond0_0 i)
    (x0 : Vec F S19x19 .f32) (x1 : Vec F S256x4864 .bf16) (x2 : Vec F S2432x896 .i8) (x3 : Vec F S38x896 .f32) (x4 : Vec F S1x896 .f32) :
    Σ' (L5 : List (View.Piece (Elt F) S256x896 .bf16)), Σ' (L6 : List (View.Piece (Elt F) S256x4864 .i8)), Σ' (L7 : List (View.Piece (Elt F) S256x1 .f32)), { LS0 : List (View.Piece (Elt F) S4864x896 .fp8e4m3) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_quarot_down_proj i arg1 harg1 arg2 harg2 arg3 harg3 arg4 harg4 arg5 harg5 arg6 harg6 arg7 harg7 arg8 harg8 arg9 harg9 arg10 harg10 arg11 harg11 arg12 harg12) K } :=
  ⟨(runAAt c i arg1 harg1 arg2 harg2 arg3 harg3 arg4 harg4 arg5 harg5 arg6 harg6 arg7 harg7 arg8 harg8 arg9 harg9 arg10 harg10 arg11 harg11 arg12 harg12 hc0 x0 x1 x2 x3 x4 anyT).1, (runAAt c i arg1 harg1 arg2 harg2 arg3 harg3 arg4 harg4 arg5 harg5 arg6 harg6 arg7 harg7 arg8 harg8 arg9 harg9 arg10 harg10 arg11 harg11 arg12 harg12 hc0 x0 x1 x2 x3 x4 anyT).2.1, (runAAt c i arg1 harg1 arg2 harg2 arg3 harg3 arg4 harg4 arg5 harg5 arg6 harg6 arg7 harg7 arg8 harg8 arg9 harg9 arg10 harg10 arg11 harg11 arg12 harg12 hc0 x0 x1 x2 x3 x4 anyT).2.2.1, (runAAt c i arg1 harg1 arg2 harg2 arg3 harg3 arg4 harg4 arg5 harg5 arg6 harg6 arg7 harg7 arg8 harg8 arg9 harg9 arg10 harg10 arg11 harg11 arg12 harg12 hc0 x0 x1 x2 x3 x4 anyT).2.2.2.1, runA_any c i arg1 harg1 arg2 harg2 arg3 harg3 arg4 harg4 arg5 harg5 arg6 harg6 arg7 harg7 arg8 harg8 arg9 harg9 arg10 harg10 arg11 harg11 arg12 harg12 hc0 x0 x1 x2 x3 x4 (runAAt c i arg1 harg1 arg2 harg2 arg3 harg3 arg4 harg4 arg5 harg5 arg6 harg6 arg7 harg7 arg8 harg8 arg9 harg9 arg10 harg10 arg11 harg11 arg12 harg12 hc0 x0 x1 x2 x3 x4 anyT).1 (runAAt c i arg1 harg1 arg2 harg2 arg3 harg3 arg4 harg4 arg5 harg5 arg6 harg6 arg7 harg7 arg8 harg8 arg9 harg9 arg10 harg10 arg11 harg11 arg12 harg12 hc0 x0 x1 x2 x3 x4 anyT).2.1 (runAAt c i arg1 harg1 arg2 harg2 arg3 harg3 arg4 harg4 arg5 harg5 arg6 harg6 arg7 harg7 arg8 harg8 arg9 harg9 arg10 harg10 arg11 harg11 arg12 harg12 hc0 x0 x1 x2 x3 x4 anyT).2.2.1 (runAAt c i arg1 harg1 arg2 harg2 arg3 harg3 arg4 harg4 arg5 harg5 arg6 harg6 arg7 harg7 arg8 harg8 arg9 harg9 arg10 harg10 arg11 harg11 arg12 harg12 hc0 x0 x1 x2 x3 x4 anyT).2.2.2.1 (fun d => ⟨_, _, _, _, runA_indep0 c i arg1 harg1 arg2 harg2 arg3 harg3 arg4 harg4 arg5 harg5 arg6 harg6 arg7 harg7 arg8 harg8 arg9 harg9 arg10 harg10 arg11 harg11 arg12 harg12 hc0 x0 x1 x2 x3 x4 d anyT, runA_indep1 c i arg1 harg1 arg2 harg2 arg3 harg3 arg4 harg4 arg5 harg5 arg6 harg6 arg7 harg7 arg8 harg8 arg9 harg9 arg10 harg10 arg11 harg11 arg12 harg12 hc0 x0 x1 x2 x3 x4 d anyT, runA_indep2 c i arg1 harg1 arg2 harg2 arg3 harg3 arg4 harg4 arg5 harg5 arg6 harg6 arg7 harg7 arg8 harg8 arg9 harg9 arg10 harg10 arg11 harg11 arg12 harg12 hc0 x0 x1 x2 x3 x4 d anyT, runA_indep3 c i arg1 harg1 arg2 harg2 arg3 harg3 arg4 harg4 arg5 harg5 arg6 harg6 arg7 harg7 arg8 harg8 arg9 harg9 arg10 harg10 arg11 harg11 arg12 harg12 hc0 x0 x1 x2 x3 x4 d anyT, (runAAt c i arg1 harg1 arg2 harg2 arg3 harg3 arg4 harg4 arg5 harg5 arg6 harg6 arg7 harg7 arg8 harg8 arg9 harg9 arg10 harg10 arg11 harg11 arg12 harg12 hc0 x0 x1 x2 x3 x4 d).2.2.2.2⟩)⟩

/-- A run from each contents of the transform scratch is a run from any contents of it. -/
theorem runB_any (c : Dev nD) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (hc0 : ¬cond0_0 i)
    (x0 : Vec F S19x19 .f32) (x1 : Vec F S256x4864 .bf16) (x2 : Vec F S2432x896 .i8) (x3 : Vec F S38x896 .f32) (x4 : Vec F S1x896 .f32) (xs0 : Vec F S4864x896 .fp8e4m3) (L5 : List (View.Piece (Elt F) S256x896 .bf16)) (L6 : List (View.Piece (Elt F) S256x4864 .i8)) (L7 : List (View.Piece (Elt F) S256x1 .f32))
    (h0 : ∀ xs1 : Vec F S19x256x256 .f32, ∃ M5 M6 M7, M5 = L5 ∧ M6 = L6 ∧ M7 = L7 ∧
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f M5) ∗ (∃ f, arg7.view.loc (c : Thread nD τ) ↦[arg7.view.set]{fullShare} arg7.view.writes (Elt F) f M6) ∗ (∃ f, arg8.view.loc (c : Thread nD τ) ↦[arg8.view.set]{fullShare} arg8.view.writes (Elt F) f M7) ∗ owns (c : Thread nD τ) arg9 fullShare xs0 ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_quarot_down_proj i arg1 harg1 arg2 harg2 arg3 harg3 arg4 harg4 arg5 harg5 arg6 harg6 arg7 harg7 arg8 harg8 arg9 harg9 arg10 harg10 arg11 harg11 arg12 harg12) K) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ owns (c : Thread nD τ) arg9 fullShare xs0 ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_quarot_down_proj i arg1 harg1 arg2 harg2 arg3 harg3 arg4 harg4 arg5 harg5 arg6 harg6 arg7 harg7 arg8 harg8 arg9 harg9 arg10 harg10 arg11 harg11 arg12 harg12) K := by
  have h : ∀ xs1 : Vec F S19x256x256 .f32,
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ owns (c : Thread nD τ) arg9 fullShare xs0 ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_quarot_down_proj i arg1 harg1 arg2 harg2 arg3 harg3 arg4 harg4 arg5 harg5 arg6 harg6 arg7 harg7 arg8 harg8 arg9 harg9 arg10 harg10 arg11 harg11 arg12 harg12) K := by
    intro d; obtain ⟨_, _, _, rfl, rfl, rfl, h⟩ := h0 d; exact h
  intro E K
  iintro ⟨H0, H1, H2, H3, H4, H5, H6, H7, HS0, ⟨%d, HS1⟩, HS2, HS3, Hk⟩
  iapply (h d E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  iexact Hk

/-- The pieces each buffer ends with in case B, with the proof that the body runs from any contents of its scratch. -/
noncomputable def kernelRun0_B (c : Dev nD) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (hc0 : ¬cond0_0 i)
    (x0 : Vec F S19x19 .f32) (x1 : Vec F S256x4864 .bf16) (x2 : Vec F S2432x896 .i8) (x3 : Vec F S38x896 .f32) (x4 : Vec F S1x896 .f32) (xs0 : Vec F S4864x896 .fp8e4m3) :
    Σ' (L5 : List (View.Piece (Elt F) S256x896 .bf16)), Σ' (L6 : List (View.Piece (Elt F) S256x4864 .i8)), Σ' (L7 : List (View.Piece (Elt F) S256x1 .f32)), { LS0 : List (View.Piece (Elt F) S4864x896 .fp8e4m3) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ owns (c : Thread nD τ) arg9 fullShare xs0 ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_quarot_down_proj i arg1 harg1 arg2 harg2 arg3 harg3 arg4 harg4 arg5 harg5 arg6 harg6 arg7 harg7 arg8 harg8 arg9 harg9 arg10 harg10 arg11 harg11 arg12 harg12) K } :=
  ⟨(runBAt c i arg1 harg1 arg2 harg2 arg3 harg3 arg4 harg4 arg5 harg5 arg6 harg6 arg7 harg7 arg8 harg8 arg9 harg9 arg10 harg10 arg11 harg11 arg12 harg12 hc0 x0 x1 x2 x3 x4 xs0 anyT).1, (runBAt c i arg1 harg1 arg2 harg2 arg3 harg3 arg4 harg4 arg5 harg5 arg6 harg6 arg7 harg7 arg8 harg8 arg9 harg9 arg10 harg10 arg11 harg11 arg12 harg12 hc0 x0 x1 x2 x3 x4 xs0 anyT).2.1, (runBAt c i arg1 harg1 arg2 harg2 arg3 harg3 arg4 harg4 arg5 harg5 arg6 harg6 arg7 harg7 arg8 harg8 arg9 harg9 arg10 harg10 arg11 harg11 arg12 harg12 hc0 x0 x1 x2 x3 x4 xs0 anyT).2.2.1, [], runB_any c i arg1 harg1 arg2 harg2 arg3 harg3 arg4 harg4 arg5 harg5 arg6 harg6 arg7 harg7 arg8 harg8 arg9 harg9 arg10 harg10 arg11 harg11 arg12 harg12 hc0 x0 x1 x2 x3 x4 xs0 (runBAt c i arg1 harg1 arg2 harg2 arg3 harg3 arg4 harg4 arg5 harg5 arg6 harg6 arg7 harg7 arg8 harg8 arg9 harg9 arg10 harg10 arg11 harg11 arg12 harg12 hc0 x0 x1 x2 x3 x4 xs0 anyT).1 (runBAt c i arg1 harg1 arg2 harg2 arg3 harg3 arg4 harg4 arg5 harg5 arg6 harg6 arg7 harg7 arg8 harg8 arg9 harg9 arg10 harg10 arg11 harg11 arg12 harg12 hc0 x0 x1 x2 x3 x4 xs0 anyT).2.1 (runBAt c i arg1 harg1 arg2 harg2 arg3 harg3 arg4 harg4 arg5 harg5 arg6 harg6 arg7 harg7 arg8 harg8 arg9 harg9 arg10 harg10 arg11 harg11 arg12 harg12 hc0 x0 x1 x2 x3 x4 xs0 anyT).2.2.1 (fun d => ⟨_, _, _, runB_indep0 c i arg1 harg1 arg2 harg2 arg3 harg3 arg4 harg4 arg5 harg5 arg6 harg6 arg7 harg7 arg8 harg8 arg9 harg9 arg10 harg10 arg11 harg11 arg12 harg12 hc0 x0 x1 x2 x3 x4 xs0 d anyT, runB_indep1 c i arg1 harg1 arg2 harg2 arg3 harg3 arg4 harg4 arg5 harg5 arg6 harg6 arg7 harg7 arg8 harg8 arg9 harg9 arg10 harg10 arg11 harg11 arg12 harg12 hc0 x0 x1 x2 x3 x4 xs0 d anyT, runB_indep2 c i arg1 harg1 arg2 harg2 arg3 harg3 arg4 harg4 arg5 harg5 arg6 harg6 arg7 harg7 arg8 harg8 arg9 harg9 arg10 harg10 arg11 harg11 arg12 harg12 hc0 x0 x1 x2 x3 x4 xs0 d anyT, (runBAt c i arg1 harg1 arg2 harg2 arg3 harg3 arg4 harg4 arg5 harg5 arg6 harg6 arg7 harg7 arg8 harg8 arg9 harg9 arg10 harg10 arg11 harg11 arg12 harg12 hc0 x0 x1 x2 x3 x4 xs0 d).2.2.2.2⟩)⟩

end Cert.Kernel.Own

end
-- ==== Proof.WordFrame.lean ====
/- What the outputs and the carried weights hold point by point, the body obligation, and the run of the whole program. -/
module

public import proofs.«01_k».proof.Proof.WordBody
public import Idealize.ShloMosaic.Lib.Claim

@[expose] public section

set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-- Case A's pieces for output 5 tile its block (1 store of `S256x896`, checked by evaluation), so they cover it. -/
theorem cover0_A_5 (c : Dev nD) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (hc0 : cond0_0 i)
    (x0 : Vec F S19x19 .f32) (x1 : Vec F S256x4864 .bf16) (x2 : Vec F S2432x896 .i8) (x3 : Vec F S38x896 .f32) (x4 : Vec F S1x896 .f32) (y : S256x896.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).1 S256x896.size (by sl_kernel_rfl) y

/-- What case A leaves in output 5's staging buffer: its pieces read back over junk. -/
def out0_A_5 (c : Dev nD) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (hc0 : cond0_0 i)
    (x0 : Vec F S19x19 .f32) (x1 : Vec F S256x4864 .bf16) (x2 : Vec F S2432x896 .i8) (x3 : Vec F S38x896 .f32) (x4 : Vec F S1x896 .f32) : Vec F S256x896 .bf16 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).1)

/-- Case A's pieces for output 6 tile its block (19 stores of `S256x256`, checked by evaluation), so they cover it. -/
theorem cover0_A_6 (c : Dev nD) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (hc0 : cond0_0 i)
    (x0 : Vec F S19x19 .f32) (x1 : Vec F S256x4864 .bf16) (x2 : Vec F S2432x896 .i8) (x3 : Vec F S38x896 .f32) (x4 : Vec F S1x896 .f32) (y : S256x4864.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.1 S256x256.size (by sl_kernel_rfl) y

/-- What case A leaves in output 6's staging buffer: its pieces read back over junk. -/
def out0_A_6 (c : Dev nD) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (hc0 : cond0_0 i)
    (x0 : Vec F S19x19 .f32) (x1 : Vec F S256x4864 .bf16) (x2 : Vec F S2432x896 .i8) (x3 : Vec F S38x896 .f32) (x4 : Vec F S1x896 .f32) : Vec F S256x4864 .i8 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.1)

/-- Case A's pieces for output 7 tile its block (16 stores of `S16x1`, checked by evaluation), so they cover it. -/
theorem cover0_A_7 (c : Dev nD) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (hc0 : cond0_0 i)
    (x0 : Vec F S19x19 .f32) (x1 : Vec F S256x4864 .bf16) (x2 : Vec F S2432x896 .i8) (x3 : Vec F S38x896 .f32) (x4 : Vec F S1x896 .f32) (y : S256x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.2.1 S16x1.size (by sl_kernel_rfl) y

/-- What case A leaves in output 7's staging buffer: its pieces read back over junk. -/
def out0_A_7 (c : Dev nD) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (hc0 : cond0_0 i)
    (x0 : Vec F S19x19 .f32) (x1 : Vec F S256x4864 .bf16) (x2 : Vec F S2432x896 .i8) (x3 : Vec F S38x896 .f32) (x4 : Vec F S1x896 .f32) : Vec F S256x1 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.2.1)

/-- Case A's pieces for scratch `arg9`, which the kernel carries between points, cover it: 38 pieces of `S128x896` tiling it. -/
theorem scover0_A_0 (c : Dev nD) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (hc0 : cond0_0 i)
    (x0 : Vec F S19x19 .f32) (x1 : Vec F S256x4864 .bf16) (x2 : Vec F S2432x896 .i8) (x3 : Vec F S38x896 .f32) (x4 : Vec F S1x896 .f32) (y : S4864x896.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.2.2.1 S128x896.size (by sl_kernel_rfl) y

/-- What case A leaves in scratch `arg9`: its pieces read back over junk. -/
def sout0_A_0 (c : Dev nD) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (hc0 : cond0_0 i)
    (x0 : Vec F S19x19 .f32) (x1 : Vec F S256x4864 .bf16) (x2 : Vec F S2432x896 .i8) (x3 : Vec F S38x896 .f32) (x4 : Vec F S1x896 .f32) : Vec F S4864x896 .fp8e4m3 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.2.2.1)

/-- Case B's pieces for output 5 tile its block (1 store of `S256x896`, checked by evaluation), so they cover it. -/
theorem cover0_B_5 (c : Dev nD) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (hc0 : ¬cond0_0 i)
    (x0 : Vec F S19x19 .f32) (x1 : Vec F S256x4864 .bf16) (x2 : Vec F S2432x896 .i8) (x3 : Vec F S38x896 .f32) (x4 : Vec F S1x896 .f32) (xs0 : Vec F S4864x896 .fp8e4m3) (y : S256x896.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xs0).1 S256x896.size (by sl_kernel_rfl) y

/-- What case B leaves in output 5's staging buffer: its pieces read back over junk. -/
def out0_B_5 (c : Dev nD) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (hc0 : ¬cond0_0 i)
    (x0 : Vec F S19x19 .f32) (x1 : Vec F S256x4864 .bf16) (x2 : Vec F S2432x896 .i8) (x3 : Vec F S38x896 .f32) (x4 : Vec F S1x896 .f32) (xs0 : Vec F S4864x896 .fp8e4m3) : Vec F S256x896 .bf16 :=
  VO0_5.read (Elt F) (VO0_5.writes (Elt F) VO0_5.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xs0).1)

/-- Case B's pieces for output 6 tile its block (19 stores of `S256x256`, checked by evaluation), so they cover it. -/
theorem cover0_B_6 (c : Dev nD) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (hc0 : ¬cond0_0 i)
    (x0 : Vec F S19x19 .f32) (x1 : Vec F S256x4864 .bf16) (x2 : Vec F S2432x896 .i8) (x3 : Vec F S38x896 .f32) (x4 : Vec F S1x896 .f32) (xs0 : Vec F S4864x896 .fp8e4m3) (y : S256x4864.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xs0).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xs0).2.1 S256x256.size (by sl_kernel_rfl) y

/-- What case B leaves in output 6's staging buffer: its pieces read back over junk. -/
def out0_B_6 (c : Dev nD) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (hc0 : ¬cond0_0 i)
    (x0 : Vec F S19x19 .f32) (x1 : Vec F S256x4864 .bf16) (x2 : Vec F S2432x896 .i8) (x3 : Vec F S38x896 .f32) (x4 : Vec F S1x896 .f32) (xs0 : Vec F S4864x896 .fp8e4m3) : Vec F S256x4864 .i8 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xs0).2.1)

/-- Case B's pieces for output 7 tile its block (16 stores of `S16x1`, checked by evaluation), so they cover it. -/
theorem cover0_B_7 (c : Dev nD) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (hc0 : ¬cond0_0 i)
    (x0 : Vec F S19x19 .f32) (x1 : Vec F S256x4864 .bf16) (x2 : Vec F S2432x896 .i8) (x3 : Vec F S38x896 .f32) (x4 : Vec F S1x896 .f32) (xs0 : Vec F S4864x896 .fp8e4m3) (y : S256x1.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xs0).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xs0).2.2.1 S16x1.size (by sl_kernel_rfl) y

/-- What case B leaves in output 7's staging buffer: its pieces read back over junk. -/
def out0_B_7 (c : Dev nD) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (hc0 : ¬cond0_0 i)
    (x0 : Vec F S19x19 .f32) (x1 : Vec F S256x4864 .bf16) (x2 : Vec F S2432x896 .i8) (x3 : Vec F S38x896 .f32) (x4 : Vec F S1x896 .f32) (xs0 : Vec F S4864x896 .fp8e4m3) : Vec F S256x1 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xs0).2.2.1)

/-- Case B stores nothing into scratch `arg9`: it holds what the point before left. -/
def sout0_B_0 (c : Dev nD) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (hc0 : ¬cond0_0 i)
    (x0 : Vec F S19x19 .f32) (x1 : Vec F S256x4864 .bf16) (x2 : Vec F S2432x896 .i8) (x3 : Vec F S38x896 .f32) (x4 : Vec F S1x896 .f32) (xs0 : Vec F S4864x896 .fp8e4m3) : Vec F S4864x896 .fp8e4m3 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x896 .bf16 × Vec F S256x4864 .i8 × Vec F S256x1 .f32 × Vec F S4864x896 .fp8e4m3
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 64 = 0 then
      (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2)

/-- `outsAt0` at a point of case A: that case's contents. -/
theorem outsAt0_A (c : Dev nD) (t : Fin cfg0.N) (h0 : t.val % 64 = 0) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 64 = 0) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's; afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2) ∗ (∃ d, owns (c : Thread nD τ) scM0_1 fullShare d) ∗ (∃ d, owns (c : Thread nD τ) scM0_2 fullShare d) ∗ (∃ d, owns (c : Thread nD τ) scM0_3 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5, after0_6, after0_7]
  rw [show (dats m 0 c).Φ t.succ = PhiS m c (t.val + 1) t.isLt from rfl, PhiS_succ]
  have hN : t.val < 64 := lt_of_lt_of_eq t.isLt (show cfg0.N = 64 from N_0)
  by_cases h0 : t.val % 64 = 0
  · by_cases hz : t.val = 0
    · rw [PhiS_castSucc m c t, PhiS_zero m c _ _ hz, PhiA0_eq]
      rw [outsAt0_A m c t h0]
      unfold out0_A_5 out0_A_6 out0_A_7 sout0_A_0; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t)).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      isplitl [HS2]; · iexact HS2
      isplitl [HS3]; · iexact HS3
      iintro ⟨H0, H1, H2, H3, H4, ⟨%e5, H5⟩, ⟨%e6, H6⟩, ⟨%e7, H7⟩, ⟨%es0, HS0⟩, HS1, HS2, HS3⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _)
          isplitl [HS1]
          · iexact HS1
          isplitl [HS2]
          · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _ _ _ _ _)
      unfold owns; iexists _; isplitr
      swap; · iexact H7
      ipureintro; exact View.read_writes_of_cover _ _ _ _ _ (cover0_A_7 c _ _ _ _ _ _ _ _ _ _ _ _ _ _ _ _ _ _ _ _ _ _ _ _ _ _ _ _ _ _ _)
    · exfalso; have hN : t.val < 64 := lt_of_lt_of_eq t.isLt (show cfg0.N = 64 from N_0); omega
  · by_cases hz : t.val = 0
    · exfalso; have hN : t.val < 64 := lt_of_lt_of_eq t.isLt (show cfg0.N = 64 from N_0); omega
    · rw [PhiS_castSucc m c t, PhiS_pos m c _ _ hz]
      rw [outsAt0_B m c t h0]
      unfold out0_B_5 out0_B_6 out0_B_7 sout0_B_0; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      isplitl [HS2]; · iexact HS2
      isplitl [HS3]; · iexact HS3
      iintro ⟨H0, H1, H2, H3, H4, ⟨%e5, H5⟩, ⟨%e6, H6⟩, ⟨%e7, H7⟩, HS0, HS1, HS2, HS3⟩
      isplitl [HS0 HS1 HS2 HS3 Hg]
      · isplitl [HS0 HS1 HS2 HS3]
        · isplitl [HS0]
          · iexact HS0
          isplitl [HS1]
          · iexact HS1
          isplitl [HS2]
          · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _ _ _)
      unfold owns; iexists _; isplitr
      swap; · iexact H7
      ipureintro; exact View.read_writes_of_cover _ _ _ _ _ (cover0_B_7 c _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexact HS1
    isplitl [HS2]
    · iexact HS2
    iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the program ends without fault, its arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Own

end
-- ==== Proof.RunA.lean ====
/- The body at the first grid point, run with the transform scratch at stated contents. -/
module

public import proofs.«01_k».proof.Proof.Gen.KernelIdeal.Frame.Runs

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option backward.proofsInPublic true in
set_option maxHeartbeats 2772000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), run step by step — each `scf.if` decided by the case's hypotheses `hc·`; the pieces are
    the witness that run finds (assigned when `iexact` hands the buffer to the continuation). -/
noncomputable def runAAt (c : Dev nD) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (hc0 : cond0_0 i)
    (x0 : Vec F S19x19 .f32) (x1 : Vec F S256x4864 .bf16) (x2 : Vec F S2432x896 .i8) (x3 : Vec F S38x896 .f32) (x4 : Vec F S1x896 .f32) (xs1 : Vec F S19x256x256 .f32) :
    Σ' (L5 : List (View.Piece (Elt F) S256x896 .bf16)), Σ' (L6 : List (View.Piece (Elt F) S256x4864 .i8)), Σ' (L7 : List (View.Piece (Elt F) S256x1 .f32)), { LS0 : List (View.Piece (Elt F) S4864x896 .fp8e4m3) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs1 ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_quarot_down_proj i arg1 harg1 arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_quarot_down_proj_eq_skeleton]; unfold cc0_quarot_down_proj_skel
    simp only [k0_part103_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%fs1, %hfs1, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg10.eq_unread hfs1
    have hrd0 : ∀ (𝒱 : Variants) (c : Dev nD) (bd : Option 𝒱.V) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (v14 : FVec F S256x256 .bf16) (v113 : FVec F S256x256 .f32) (v114 : Vec F S1x256x256 .f32) (X_arg1 : BufTy.Contents (Elt F) arg1.view.ty) (X_arg10 : BufTy.Contents (Elt F) arg10.view.ty) (hrdF : BufTy.Contents (Elt F) arg8.view.ty) (hrdB : LoadRect S256x1), arg8.view.readAt (Elt F) hrdB (arg8.view.writes (Elt F) hrdF (pb_k0_t1 (F := F) 𝒱 c bd i arg1 harg1 arg2 harg2 arg3 harg3 arg4 harg4 arg5 harg5 arg6 harg6 arg7 harg7 arg8 harg8 arg9 harg9 arg10 harg10 arg11 harg11 arg12 harg12 v14 v113 v114 X_arg1 X_arg10 (Scf.trips k0_t1_loop.lb k0_t1_loop.ub k0_t1_loop.st)).1) = arg8.view.readCov (pb_k0_t1 (F := F) 𝒱 c bd i arg1 harg1 arg2 harg2 arg3 harg3 arg4 harg4 arg5 harg5 arg6 harg6 arg7 harg7 arg8 harg8 arg9 harg9 arg10 harg10 arg11 harg11 arg12 harg12 v14 v113 v114 X_arg1 X_arg10 (Scf.trips k0_t1_loop.lb k0_t1_loop.ub k0_t1_loop.st)).1 hrdB := fun 𝒱 c bd i arg1 harg1 arg2 harg2 arg3 harg3 arg4 harg4 arg5 harg5 arg6 harg6 arg7 harg7 arg8 harg8 arg9 harg9 arg10 harg10 arg11 harg11 arg12 harg12 v14 v113 v114 X_arg1 X_arg10 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 arg10 harg10 arg11 harg11 arg12 harg12 v14 v113 v114 X_arg1 X_arg10 (Scf.trips k0_t1_loop.lb k0_t1_loop.ub k0_t1_loop.st)).1 S16x1.size (by sl_kernel_rfl) (hrdB.idx hrdJ))
    have hrd1 : ∀ (𝒱 : Variants) (c : Dev nD) (bd : Option 𝒱.V) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (v14 : FVec F S256x256 .bf16) (v113 : FVec F S256x256 .f32) (v114 : Vec F S1x256x256 .f32) (X_arg1 : BufTy.Contents (Elt F) arg1.view.ty) (X_arg10 : BufTy.Contents (Elt F) arg10.view.ty) (hrdF : BufTy.Contents (Elt F) arg11.view.ty) (hrdB : LoadRect S19x256x256), arg11.view.readAt (Elt F) hrdB (arg11.view.writes (Elt F) hrdF (pb_k0_t1 (F := F) 𝒱 c bd i arg1 harg1 arg2 harg2 arg3 harg3 arg4 harg4 arg5 harg5 arg6 harg6 arg7 harg7 arg8 harg8 arg9 harg9 arg10 harg10 arg11 harg11 arg12 harg12 v14 v113 v114 X_arg1 X_arg10 (Scf.trips k0_t1_loop.lb k0_t1_loop.ub k0_t1_loop.st)).2) = arg11.view.readCov (pb_k0_t1 (F := F) 𝒱 c bd i arg1 harg1 arg2 harg2 arg3 harg3 arg4 harg4 arg5 harg5 arg6 harg6 arg7 harg7 arg8 harg8 arg9 harg9 arg10 harg10 arg11 harg11 arg12 harg12 v14 v113 v114 X_arg1 X_arg10 (Scf.trips k0_t1_loop.lb k0_t1_loop.ub k0_t1_loop.st)).2 hrdB := fun 𝒱 c bd i arg1 harg1 arg2 harg2 arg3 harg3 arg4 harg4 arg5 harg5 arg6 harg6 arg7 harg7 arg8 harg8 arg9 harg9 arg10 harg10 arg11 harg11 arg12 harg12 v14 v113 v114 X_arg1 X_arg10 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 arg10 harg10 arg11 harg11 arg12 harg12 v14 v113 v114 X_arg1 X_arg10 (Scf.trips k0_t1_loop.lb k0_t1_loop.ub k0_t1_loop.st)).2 S1x16x256.size (by sl_kernel_rfl) (hrdB.idx hrdJ))
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Own

end
-- ==== Proof.RunB.lean ====
/- The body away from the first grid point, run with the transform scratch at stated contents. -/
module

public import proofs.«01_k».proof.Proof.RunA

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option backward.proofsInPublic true in
set_option maxHeartbeats 1004000 in
/-- What the body's stores leave in each output's staging memref, as pieces (last first) IN CASE B (`scf.if` 0 not taken: points 1, 2, … 63: 63 of 64), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), run step by step — each `scf.if` decided by the case's hypotheses `hc·`; the pieces are
    the witness that run finds (assigned when `iexact` hands the buffer to the continuation). -/
noncomputable def runBAt (c : Dev nD) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (hc0 : ¬cond0_0 i)
    (x0 : Vec F S19x19 .f32) (x1 : Vec F S256x4864 .bf16) (x2 : Vec F S2432x896 .i8) (x3 : Vec F S38x896 .f32) (x4 : Vec F S1x896 .f32) (xs0 : Vec F S4864x896 .fp8e4m3) (xs1 : Vec F S19x256x256 .f32) :
    Σ' (L5 : List (View.Piece (Elt F) S256x896 .bf16)), Σ' (L6 : List (View.Piece (Elt F) S256x4864 .i8)), Σ' (L7 : List (View.Piece (Elt F) S256x1 .f32)), { LS0 : List (View.Piece (Elt F) S4864x896 .fp8e4m3) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ owns (c : Thread nD τ) arg9 fullShare xs0 ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_quarot_down_proj i arg1 harg1 arg2 harg2 arg3 harg3 arg4 harg4 arg5 harg5 arg6 harg6 arg7 harg7 arg8 harg8 arg9 harg9 arg10 harg10 arg11 harg11 arg12 harg12) K } := by
  refine ⟨?_, ?_, ?_, [], fun E K => ?run⟩
  case run =>
    simp only [cc0_quarot_down_proj_eq_skeleton]; unfold cc0_quarot_down_proj_skel
    simp only [k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg10.eq_unread hfs1; obtain rfl := harg9.eq_unread hfs0
    have hrd0 : ∀ (𝒱 : Variants) (c : Dev nD) (bd : Option 𝒱.V) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (v14 : FVec F S256x256 .bf16) (v113 : FVec F S256x256 .f32) (v114 : Vec F S1x256x256 .f32) (X_arg1 : BufTy.Contents (Elt F) arg1.view.ty) (X_arg10 : BufTy.Contents (Elt F) arg10.view.ty) (hrdF : BufTy.Contents (Elt F) arg8.view.ty) (hrdB : LoadRect S256x1), arg8.view.readAt (Elt F) hrdB (arg8.view.writes (Elt F) hrdF (pb_k0_t1 (F := F) 𝒱 c bd i arg1 harg1 arg2 harg2 arg3 harg3 arg4 harg4 arg5 harg5 arg6 harg6 arg7 harg7 arg8 harg8 arg9 harg9 arg10 harg10 arg11 harg11 arg12 harg12 v14 v113 v114 X_arg1 X_arg10 (Scf.trips k0_t1_loop.lb k0_t1_loop.ub k0_t1_loop.st)).1) = arg8.view.readCov (pb_k0_t1 (F := F) 𝒱 c bd i arg1 harg1 arg2 harg2 arg3 harg3 arg4 harg4 arg5 harg5 arg6 harg6 arg7 harg7 arg8 harg8 arg9 harg9 arg10 harg10 arg11 harg11 arg12 harg12 v14 v113 v114 X_arg1 X_arg10 (Scf.trips k0_t1_loop.lb k0_t1_loop.ub k0_t1_loop.st)).1 hrdB := fun 𝒱 c bd i arg1 harg1 arg2 harg2 arg3 harg3 arg4 harg4 arg5 harg5 arg6 harg6 arg7 harg7 arg8 harg8 arg9 harg9 arg10 harg10 arg11 harg11 arg12 harg12 v14 v113 v114 X_arg1 X_arg10 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 arg10 harg10 arg11 harg11 arg12 harg12 v14 v113 v114 X_arg1 X_arg10 (Scf.trips k0_t1_loop.lb k0_t1_loop.ub k0_t1_loop.st)).1 S16x1.size (by sl_kernel_rfl) (hrdB.idx hrdJ))
    have hrd1 : ∀ (𝒱 : Variants) (c : Dev nD) (bd : Option 𝒱.V) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (v14 : FVec F S256x256 .bf16) (v113 : FVec F S256x256 .f32) (v114 : Vec F S1x256x256 .f32) (X_arg1 : BufTy.Contents (Elt F) arg1.view.ty) (X_arg10 : BufTy.Contents (Elt F) arg10.view.ty) (hrdF : BufTy.Contents (Elt F) arg11.view.ty) (hrdB : LoadRect S19x256x256), arg11.view.readAt (Elt F) hrdB (arg11.view.writes (Elt F) hrdF (pb_k0_t1 (F := F) 𝒱 c bd i arg1 harg1 arg2 harg2 arg3 harg3 arg4 harg4 arg5 harg5 arg6 harg6 arg7 harg7 arg8 harg8 arg9 harg9 arg10 harg10 arg11 harg11 arg12 harg12 v14 v113 v114 X_arg1 X_arg10 (Scf.trips k0_t1_loop.lb k0_t1_loop.ub k0_t1_loop.st)).2) = arg11.view.readCov (pb_k0_t1 (F := F) 𝒱 c bd i arg1 harg1 arg2 harg2 arg3 harg3 arg4 harg4 arg5 harg5 arg6 harg6 arg7 harg7 arg8 harg8 arg9 harg9 arg10 harg10 arg11 harg11 arg12 harg12 v14 v113 v114 X_arg1 X_arg10 (Scf.trips k0_t1_loop.lb k0_t1_loop.ub k0_t1_loop.st)).2 hrdB := fun 𝒱 c bd i arg1 harg1 arg2 harg2 arg3 harg3 arg4 harg4 arg5 harg5 arg6 harg6 arg7 harg7 arg8 harg8 arg9 harg9 arg10 harg10 arg11 harg11 arg12 harg12 v14 v113 v114 X_arg1 X_arg10 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 arg10 harg10 arg11 harg11 arg12 harg12 v14 v113 v114 X_arg1 X_arg10 (Scf.trips k0_t1_loop.lb k0_t1_loop.ub k0_t1_loop.st)).2 S1x16x256.size (by sl_kernel_rfl) (hrdB.idx hrdJ))
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]
    · iexists _; isplitr; · ipureintro; exact harg9.read_unread _
      iexact HS0
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Own

end
-- ==== Proof.Body.lean ====
/- The transform scratch is overwritten before it is read, so what the body computes does not depend on what the
   scratch held; the two runs of the body from any contents of that scratch. -/
module

public import proofs.«01_k».proof.Proof.RunB

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A trip of the mixing loop does not use the values read from the scratch before the loop. -/
theorem trip_any (𝒱 : Variants) (c : Dev nD) (bd : Option 𝒱.V) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (v14 : FVec F S256x256 .bf16) (v113 : FVec F S256x256 .f32) (v114 w114 : Vec F S1x256x256 .f32) (X_arg1 : BufTy.Contents (Elt F) arg1.view.ty) (X_arg10 : BufTy.Contents (Elt F) arg10.view.ty) (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 v14 v113 v114 X_arg1 X_arg10 k = tripL_k0_t1 (F := F) 𝒱 c bd i arg1 harg1 arg2 harg2 arg3 harg3 arg4 harg4 arg5 harg5 arg6 harg6 arg7 harg7 arg8 harg8 arg9 harg9 arg10 harg10 arg11 harg11 arg12 harg12 v14 v113 w114 X_arg1 X_arg10 k := by
  dsimp only [tripL_k0_t1]; unfold trip_k0_t1; rfl

theorem pb_any (𝒱 : Variants) (c : Dev nD) (bd : Option 𝒱.V) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (v14 : FVec F S256x256 .bf16) (v113 : FVec F S256x256 .f32) (v114 w114 : Vec F S1x256x256 .f32) (X_arg1 : BufTy.Contents (Elt F) arg1.view.ty) (X_arg10 : BufTy.Contents (Elt F) arg10.view.ty) (n : ℕ) :
    pb_k0_t1 (F := F) 𝒱 c bd i arg1 harg1 arg2 harg2 arg3 harg3 arg4 harg4 arg5 harg5 arg6 harg6 arg7 harg7 arg8 harg8 arg9 harg9 arg10 harg10 arg11 harg11 arg12 harg12 v14 v113 v114 X_arg1 X_arg10 n = pb_k0_t1 (F := F) 𝒱 c bd i arg1 harg1 arg2 harg2 arg3 harg3 arg4 harg4 arg5 harg5 arg6 harg6 arg7 harg7 arg8 harg8 arg9 harg9 arg10 harg10 arg11 harg11 arg12 harg12 v14 v113 w114 X_arg1 X_arg10 n := by
  induction n with
  | zero => rfl
  | succ n ih =>
    rw [pb_k0_t1.eq_2, pb_k0_t1.eq_2, ih]; unfold pb_k0_t1Step
    by_cases h : n < k0_t1_loop.trips
    · rw [dif_pos h, dif_pos h, trip_any 𝒱 c bd i arg1 harg1 arg2 harg2 arg3 harg3 arg4 harg4 arg5 harg5 arg6 harg6 arg7 harg7 arg8 harg8 arg9 harg9 arg10 harg10 arg11 harg11 arg12 harg12 v14 v113 v114 w114 X_arg1 X_arg10 ⟨n, h⟩]
    · rw [dif_neg h, dif_neg h]

theorem runA_indep0 (c : Dev nD) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (hc0 : cond0_0 i)
    (x0 : Vec F S19x19 .f32) (x1 : Vec F S256x4864 .bf16) (x2 : Vec F S2432x896 .i8) (x3 : Vec F S38x896 .f32) (x4 : Vec F S1x896 .f32) (xs1 ys1 : Vec F S19x256x256 .f32) :
    (runAAt c i arg1 harg1 arg2 harg2 arg3 harg3 arg4 harg4 arg5 harg5 arg6 harg6 arg7 harg7 arg8 harg8 arg9 harg9 arg10 harg10 arg11 harg11 arg12 harg12 hc0 x0 x1 x2 x3 x4 xs1).1 = (runAAt c i arg1 harg1 arg2 harg2 arg3 harg3 arg4 harg4 arg5 harg5 arg6 harg6 arg7 harg7 arg8 harg8 arg9 harg9 arg10 harg10 arg11 harg11 arg12 harg12 hc0 x0 x1 x2 x3 x4 ys1).1 := by
  unfold runAAt; dsimp only; sl_unfold_words
  rw [pb_any (v114 := View.readAt (Elt F) arg10.view (Rect.unit (s := S19x256x256) ![16, 0, 0] S1x256x256.size inb_S19x256x256_S1x256x256_16_0_0).toLoadRect (harg10.unread xs1)) (w114 := View.readAt (Elt F) arg10.view (Rect.unit (s := S19x256x256) ![16, 0, 0] S1x256x256.size inb_S19x256x256_S1x256x256_16_0_0).toLoadRect (harg10.unread ys1))]

theorem runA_indep1 (c : Dev nD) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (hc0 : cond0_0 i)
    (x0 : Vec F S19x19 .f32) (x1 : Vec F S256x4864 .bf16) (x2 : Vec F S2432x896 .i8) (x3 : Vec F S38x896 .f32) (x4 : Vec F S1x896 .f32) (xs1 ys1 : Vec F S19x256x256 .f32) :
    (runAAt c i arg1 harg1 arg2 harg2 arg3 harg3 arg4 harg4 arg5 harg5 arg6 harg6 arg7 harg7 arg8 harg8 arg9 harg9 arg10 harg10 arg11 harg11 arg12 harg12 hc0 x0 x1 x2 x3 x4 xs1).2.1 = (runAAt c i arg1 harg1 arg2 harg2 arg3 harg3 arg4 harg4 arg5 harg5 arg6 harg6 arg7 harg7 arg8 harg8 arg9 harg9 arg10 harg10 arg11 harg11 arg12 harg12 hc0 x0 x1 x2 x3 x4 ys1).2.1 := by
  unfold runAAt; dsimp only; sl_unfold_words
  rw [pb_any (v114 := View.readAt (Elt F) arg10.view (Rect.unit (s := S19x256x256) ![16, 0, 0] S1x256x256.size inb_S19x256x256_S1x256x256_16_0_0).toLoadRect (harg10.unread xs1)) (w114 := View.readAt (Elt F) arg10.view (Rect.unit (s := S19x256x256) ![16, 0, 0] S1x256x256.size inb_S19x256x256_S1x256x256_16_0_0).toLoadRect (harg10.unread ys1))]

theorem runA_indep2 (c : Dev nD) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (hc0 : cond0_0 i)
    (x0 : Vec F S19x19 .f32) (x1 : Vec F S256x4864 .bf16) (x2 : Vec F S2432x896 .i8) (x3 : Vec F S38x896 .f32) (x4 : Vec F S1x896 .f32) (xs1 ys1 : Vec F S19x256x256 .f32) :
    (runAAt c i arg1 harg1 arg2 harg2 arg3 harg3 arg4 harg4 arg5 harg5 arg6 harg6 arg7 harg7 arg8 harg8 arg9 harg9 arg10 harg10 arg11 harg11 arg12 harg12 hc0 x0 x1 x2 x3 x4 xs1).2.2.1 = (runAAt c i arg1 harg1 arg2 harg2 arg3 harg3 arg4 harg4 arg5 harg5 arg6 harg6 arg7 harg7 arg8 harg8 arg9 harg9 arg10 harg10 arg11 harg11 arg12 harg12 hc0 x0 x1 x2 x3 x4 ys1).2.2.1 := by
  unfold runAAt; dsimp only; sl_unfold_words
  rw [pb_any (v114 := View.readAt (Elt F) arg10.view (Rect.unit (s := S19x256x256) ![16, 0, 0] S1x256x256.size inb_S19x256x256_S1x256x256_16_0_0).toLoadRect (harg10.unread xs1)) (w114 := View.readAt (Elt F) arg10.view (Rect.unit (s := S19x256x256) ![16, 0, 0] S1x256x256.size inb_S19x256x256_S1x256x256_16_0_0).toLoadRect (harg10.unread ys1))]

theorem runA_indep3 (c : Dev nD) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (hc0 : cond0_0 i)
    (x0 : Vec F S19x19 .f32) (x1 : Vec F S256x4864 .bf16) (x2 : Vec F S2432x896 .i8) (x3 : Vec F S38x896 .f32) (x4 : Vec F S1x896 .f32) (xs1 ys1 : Vec F S19x256x256 .f32) :
    (runAAt c i arg1 harg1 arg2 harg2 arg3 harg3 arg4 harg4 arg5 harg5 arg6 harg6 arg7 harg7 arg8 harg8 arg9 harg9 arg10 harg10 arg11 harg11 arg12 harg12 hc0 x0 x1 x2 x3 x4 xs1).2.2.2.1 = (runAAt c i arg1 harg1 arg2 harg2 arg3 harg3 arg4 harg4 arg5 harg5 arg6 harg6 arg7 harg7 arg8 harg8 arg9 harg9 arg10 harg10 arg11 harg11 arg12 harg12 hc0 x0 x1 x2 x3 x4 ys1).2.2.2.1 := by
  unfold runAAt; dsimp only

theorem runB_indep0 (c : Dev nD) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (hc0 : ¬cond0_0 i)
    (x0 : Vec F S19x19 .f32) (x1 : Vec F S256x4864 .bf16) (x2 : Vec F S2432x896 .i8) (x3 : Vec F S38x896 .f32) (x4 : Vec F S1x896 .f32) (xs0 : Vec F S4864x896 .fp8e4m3) (xs1 ys1 : Vec F S19x256x256 .f32) :
    (runBAt c i arg1 harg1 arg2 harg2 arg3 harg3 arg4 harg4 arg5 harg5 arg6 harg6 arg7 harg7 arg8 harg8 arg9 harg9 arg10 harg10 arg11 harg11 arg12 harg12 hc0 x0 x1 x2 x3 x4 xs0 xs1).1 = (runBAt c i arg1 harg1 arg2 harg2 arg3 harg3 arg4 harg4 arg5 harg5 arg6 harg6 arg7 harg7 arg8 harg8 arg9 harg9 arg10 harg10 arg11 harg11 arg12 harg12 hc0 x0 x1 x2 x3 x4 xs0 ys1).1 := by
  unfold runBAt; dsimp only; sl_unfold_words
  rw [pb_any (v114 := View.readAt (Elt F) arg10.view (Rect.unit (s := S19x256x256) ![16, 0, 0] S1x256x256.size inb_S19x256x256_S1x256x256_16_0_0).toLoadRect (harg10.unread xs1)) (w114 := View.readAt (Elt F) arg10.view (Rect.unit (s := S19x256x256) ![16, 0, 0] S1x256x256.size inb_S19x256x256_S1x256x256_16_0_0).toLoadRect (harg10.unread ys1))]

theorem runB_indep1 (c : Dev nD) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (hc0 : ¬cond0_0 i)
    (x0 : Vec F S19x19 .f32) (x1 : Vec F S256x4864 .bf16) (x2 : Vec F S2432x896 .i8) (x3 : Vec F S38x896 .f32) (x4 : Vec F S1x896 .f32) (xs0 : Vec F S4864x896 .fp8e4m3) (xs1 ys1 : Vec F S19x256x256 .f32) :
    (runBAt c i arg1 harg1 arg2 harg2 arg3 harg3 arg4 harg4 arg5 harg5 arg6 harg6 arg7 harg7 arg8 harg8 arg9 harg9 arg10 harg10 arg11 harg11 arg12 harg12 hc0 x0 x1 x2 x3 x4 xs0 xs1).2.1 = (runBAt c i arg1 harg1 arg2 harg2 arg3 harg3 arg4 harg4 arg5 harg5 arg6 harg6 arg7 harg7 arg8 harg8 arg9 harg9 arg10 harg10 arg11 harg11 arg12 harg12 hc0 x0 x1 x2 x3 x4 xs0 ys1).2.1 := by
  unfold runBAt; dsimp only; sl_unfold_words
  rw [pb_any (v114 := View.readAt (Elt F) arg10.view (Rect.unit (s := S19x256x256) ![16, 0, 0] S1x256x256.size inb_S19x256x256_S1x256x256_16_0_0).toLoadRect (harg10.unread xs1)) (w114 := View.readAt (Elt F) arg10.view (Rect.unit (s := S19x256x256) ![16, 0, 0] S1x256x256.size inb_S19x256x256_S1x256x256_16_0_0).toLoadRect (harg10.unread ys1))]

theorem runB_indep2 (c : Dev nD) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (hc0 : ¬cond0_0 i)
    (x0 : Vec F S19x19 .f32) (x1 : Vec F S256x4864 .bf16) (x2 : Vec F S2432x896 .i8) (x3 : Vec F S38x896 .f32) (x4 : Vec F S1x896 .f32) (xs0 : Vec F S4864x896 .fp8e4m3) (xs1 ys1 : Vec F S19x256x256 .f32) :
    (runBAt c i arg1 harg1 arg2 harg2 arg3 harg3 arg4 harg4 arg5 harg5 arg6 harg6 arg7 harg7 arg8 harg8 arg9 harg9 arg10 harg10 arg11 harg11 arg12 harg12 hc0 x0 x1 x2 x3 x4 xs0 xs1).2.2.1 = (runBAt c i arg1 harg1 arg2 harg2 arg3 harg3 arg4 harg4 arg5 harg5 arg6 harg6 arg7 harg7 arg8 harg8 arg9 harg9 arg10 harg10 arg11 harg11 arg12 harg12 hc0 x0 x1 x2 x3 x4 xs0 ys1).2.2.1 := by
  unfold runBAt; dsimp only; sl_unfold_words
  rw [pb_any (v114 := View.readAt (Elt F) arg10.view (Rect.unit (s := S19x256x256) ![16, 0, 0] S1x256x256.size inb_S19x256x256_S1x256x256_16_0_0).toLoadRect (harg10.unread xs1)) (w114 := View.readAt (Elt F) arg10.view (Rect.unit (s := S19x256x256) ![16, 0, 0] S1x256x256.size inb_S19x256x256_S1x256x256_16_0_0).toLoadRect (harg10.unread ys1))]

/-- Some contents of the transform scratch; which ones does not matter. -/
def anyT : Vec F S19x256x256 .f32 := scM0_1.view.read (Elt F) scM0_1.view.junk

/-- A run from each contents of the transform scratch is a run from any contents of it. -/
theorem runA_any (c : Dev nD) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (hc0 : cond0_0 i)
    (x0 : Vec F S19x19 .f32) (x1 : Vec F S256x4864 .bf16) (x2 : Vec F S2432x896 .i8) (x3 : Vec F S38x896 .f32) (x4 : Vec F S1x896 .f32) (L5 : List (View.Piece (Elt F) S256x896 .bf16)) (L6 : List (View.Piece (Elt F) S256x4864 .i8)) (L7 : List (View.Piece (Elt F) S256x1 .f32)) (LS0 : List (View.Piece (Elt F) S4864x896 .fp8e4m3))
    (h0 : ∀ xs1 : Vec F S19x256x256 .f32, ∃ M5 M6 M7 M0, M5 = L5 ∧ M6 = L6 ∧ M7 = L7 ∧ M0 = LS0 ∧
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs1 ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f M5) ∗ (∃ f, arg7.view.loc (c : Thread nD τ) ↦[arg7.view.set]{fullShare} arg7.view.writes (Elt F) f M6) ∗ (∃ f, arg8.view.loc (c : Thread nD τ) ↦[arg8.view.set]{fullShare} arg8.view.writes (Elt F) f M7) ∗ (∃ f, arg9.view.loc (c : Thread nD τ) ↦[arg9.view.set]{fullShare} arg9.view.writes (Elt F) f M0) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_quarot_down_proj i arg1 harg1 arg2 harg2 arg3 harg3 arg4 harg4 arg5 harg5 arg6 harg6 arg7 harg7 arg8 harg8 arg9 harg9 arg10 harg10 arg11 harg11 arg12 harg12) K) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_quarot_down_proj i arg1 harg1 arg2 harg2 arg3 harg3 arg4 harg4 arg5 harg5 arg6 harg6 arg7 harg7 arg8 harg8 arg9 harg9 arg10 harg10 arg11 harg11 arg12 harg12) K := by
  have h : ∀ xs1 : Vec F S19x256x256 .f32,
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs1 ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_quarot_down_proj i arg1 harg1 arg2 harg2 arg3 harg3 arg4 harg4 arg5 harg5 arg6 harg6 arg7 harg7 arg8 harg8 arg9 harg9 arg10 harg10 arg11 harg11 arg12 harg12) K := by
    intro d; obtain ⟨_, _, _, _, rfl, rfl, rfl, rfl, h⟩ := h0 d; exact h
  intro E K
  iintro ⟨H0, H1, H2, H3, H4, H5, H6, H7, HS0, ⟨%d, HS1⟩, HS2, HS3, Hk⟩
  iapply (h d E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  iexact Hk

/-- The pieces each buffer ends with in case A, with the proof that the body runs from any contents of its scratch. -/
noncomputable def kernelRun0_A (c : Dev nD) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (hc0 : cond0_0 i)
    (x0 : Vec F S19x19 .f32) (x1 : Vec F S256x4864 .bf16) (x2 : Vec F S2432x896 .i8) (x3 : Vec F S38x896 .f32) (x4 : Vec F S1x896 .f32) :
    Σ' (L5 : List (View.Piece (Elt F) S256x896 .bf16)), Σ' (L6 : List (View.Piece (Elt F) S256x4864 .i8)), Σ' (L7 : List (View.Piece (Elt F) S256x1 .f32)), { LS0 : List (View.Piece (Elt F) S4864x896 .fp8e4m3) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_quarot_down_proj i arg1 harg1 arg2 harg2 arg3 harg3 arg4 harg4 arg5 harg5 arg6 harg6 arg7 harg7 arg8 harg8 arg9 harg9 arg10 harg10 arg11 harg11 arg12 harg12) K } :=
  ⟨(runAAt c i arg1 harg1 arg2 harg2 arg3 harg3 arg4 harg4 arg5 harg5 arg6 harg6 arg7 harg7 arg8 harg8 arg9 harg9 arg10 harg10 arg11 harg11 arg12 harg12 hc0 x0 x1 x2 x3 x4 anyT).1, (runAAt c i arg1 harg1 arg2 harg2 arg3 harg3 arg4 harg4 arg5 harg5 arg6 harg6 arg7 harg7 arg8 harg8 arg9 harg9 arg10 harg10 arg11 harg11 arg12 harg12 hc0 x0 x1 x2 x3 x4 anyT).2.1, (runAAt c i arg1 harg1 arg2 harg2 arg3 harg3 arg4 harg4 arg5 harg5 arg6 harg6 arg7 harg7 arg8 harg8 arg9 harg9 arg10 harg10 arg11 harg11 arg12 harg12 hc0 x0 x1 x2 x3 x4 anyT).2.2.1, (runAAt c i arg1 harg1 arg2 harg2 arg3 harg3 arg4 harg4 arg5 harg5 arg6 harg6 arg7 harg7 arg8 harg8 arg9 harg9 arg10 harg10 arg11 harg11 arg12 harg12 hc0 x0 x1 x2 x3 x4 anyT).2.2.2.1, runA_any c i arg1 harg1 arg2 harg2 arg3 harg3 arg4 harg4 arg5 harg5 arg6 harg6 arg7 harg7 arg8 harg8 arg9 harg9 arg10 harg10 arg11 harg11 arg12 harg12 hc0 x0 x1 x2 x3 x4 (runAAt c i arg1 harg1 arg2 harg2 arg3 harg3 arg4 harg4 arg5 harg5 arg6 harg6 arg7 harg7 arg8 harg8 arg9 harg9 arg10 harg10 arg11 harg11 arg12 harg12 hc0 x0 x1 x2 x3 x4 anyT).1 (runAAt c i arg1 harg1 arg2 harg2 arg3 harg3 arg4 harg4 arg5 harg5 arg6 harg6 arg7 harg7 arg8 harg8 arg9 harg9 arg10 harg10 arg11 harg11 arg12 harg12 hc0 x0 x1 x2 x3 x4 anyT).2.1 (runAAt c i arg1 harg1 arg2 harg2 arg3 harg3 arg4 harg4 arg5 harg5 arg6 harg6 arg7 harg7 arg8 harg8 arg9 harg9 arg10 harg10 arg11 harg11 arg12 harg12 hc0 x0 x1 x2 x3 x4 anyT).2.2.1 (runAAt c i arg1 harg1 arg2 harg2 arg3 harg3 arg4 harg4 arg5 harg5 arg6 harg6 arg7 harg7 arg8 harg8 arg9 harg9 arg10 harg10 arg11 harg11 arg12 harg12 hc0 x0 x1 x2 x3 x4 anyT).2.2.2.1 (fun d => ⟨_, _, _, _, runA_indep0 c i arg1 harg1 arg2 harg2 arg3 harg3 arg4 harg4 arg5 harg5 arg6 harg6 arg7 harg7 arg8 harg8 arg9 harg9 arg10 harg10 arg11 harg11 arg12 harg12 hc0 x0 x1 x2 x3 x4 d anyT, runA_indep1 c i arg1 harg1 arg2 harg2 arg3 harg3 arg4 harg4 arg5 harg5 arg6 harg6 arg7 harg7 arg8 harg8 arg9 harg9 arg10 harg10 arg11 harg11 arg12 harg12 hc0 x0 x1 x2 x3 x4 d anyT, runA_indep2 c i arg1 harg1 arg2 harg2 arg3 harg3 arg4 harg4 arg5 harg5 arg6 harg6 arg7 harg7 arg8 harg8 arg9 harg9 arg10 harg10 arg11 harg11 arg12 harg12 hc0 x0 x1 x2 x3 x4 d anyT, runA_indep3 c i arg1 harg1 arg2 harg2 arg3 harg3 arg4 harg4 arg5 harg5 arg6 harg6 arg7 harg7 arg8 harg8 arg9 harg9 arg10 harg10 arg11 harg11 arg12 harg12 hc0 x0 x1 x2 x3 x4 d anyT, (runAAt c i arg1 harg1 arg2 harg2 arg3 harg3 arg4 harg4 arg5 harg5 arg6 harg6 arg7 harg7 arg8 harg8 arg9 harg9 arg10 harg10 arg11 harg11 arg12 harg12 hc0 x0 x1 x2 x3 x4 d).2.2.2.2⟩)⟩

/-- A run from each contents of the transform scratch is a run from any contents of it. -/
theorem runB_any (c : Dev nD) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (hc0 : ¬cond0_0 i)
    (x0 : Vec F S19x19 .f32) (x1 : Vec F S256x4864 .bf16) (x2 : Vec F S2432x896 .i8) (x3 : Vec F S38x896 .f32) (x4 : Vec F S1x896 .f32) (xs0 : Vec F S4864x896 .fp8e4m3) (L5 : List (View.Piece (Elt F) S256x896 .bf16)) (L6 : List (View.Piece (Elt F) S256x4864 .i8)) (L7 : List (View.Piece (Elt F) S256x1 .f32))
    (h0 : ∀ xs1 : Vec F S19x256x256 .f32, ∃ M5 M6 M7, M5 = L5 ∧ M6 = L6 ∧ M7 = L7 ∧
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f M5) ∗ (∃ f, arg7.view.loc (c : Thread nD τ) ↦[arg7.view.set]{fullShare} arg7.view.writes (Elt F) f M6) ∗ (∃ f, arg8.view.loc (c : Thread nD τ) ↦[arg8.view.set]{fullShare} arg8.view.writes (Elt F) f M7) ∗ owns (c : Thread nD τ) arg9 fullShare xs0 ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_quarot_down_proj i arg1 harg1 arg2 harg2 arg3 harg3 arg4 harg4 arg5 harg5 arg6 harg6 arg7 harg7 arg8 harg8 arg9 harg9 arg10 harg10 arg11 harg11 arg12 harg12) K) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ owns (c : Thread nD τ) arg9 fullShare xs0 ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_quarot_down_proj i arg1 harg1 arg2 harg2 arg3 harg3 arg4 harg4 arg5 harg5 arg6 harg6 arg7 harg7 arg8 harg8 arg9 harg9 arg10 harg10 arg11 harg11 arg12 harg12) K := by
  have h : ∀ xs1 : Vec F S19x256x256 .f32,
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ owns (c : Thread nD τ) arg9 fullShare xs0 ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_quarot_down_proj i arg1 harg1 arg2 harg2 arg3 harg3 arg4 harg4 arg5 harg5 arg6 harg6 arg7 harg7 arg8 harg8 arg9 harg9 arg10 harg10 arg11 harg11 arg12 harg12) K := by
    intro d; obtain ⟨_, _, _, rfl, rfl, rfl, h⟩ := h0 d; exact h
  intro E K
  iintro ⟨H0, H1, H2, H3, H4, H5, H6, H7, HS0, ⟨%d, HS1⟩, HS2, HS3, Hk⟩
  iapply (h d E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  iexact Hk

/-- The pieces each buffer ends with in case B, with the proof that the body runs from any contents of its scratch. -/
noncomputable def kernelRun0_B (c : Dev nD) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (hc0 : ¬cond0_0 i)
    (x0 : Vec F S19x19 .f32) (x1 : Vec F S256x4864 .bf16) (x2 : Vec F S2432x896 .i8) (x3 : Vec F S38x896 .f32) (x4 : Vec F S1x896 .f32) (xs0 : Vec F S4864x896 .fp8e4m3) :
    Σ' (L5 : List (View.Piece (Elt F) S256x896 .bf16)), Σ' (L6 : List (View.Piece (Elt F) S256x4864 .i8)), Σ' (L7 : List (View.Piece (Elt F) S256x1 .f32)), { LS0 : List (View.Piece (Elt F) S4864x896 .fp8e4m3) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ owns (c : Thread nD τ) arg9 fullShare xs0 ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_quarot_down_proj i arg1 harg1 arg2 harg2 arg3 harg3 arg4 harg4 arg5 harg5 arg6 harg6 arg7 harg7 arg8 harg8 arg9 harg9 arg10 harg10 arg11 harg11 arg12 harg12) K } :=
  ⟨(runBAt c i arg1 harg1 arg2 harg2 arg3 harg3 arg4 harg4 arg5 harg5 arg6 harg6 arg7 harg7 arg8 harg8 arg9 harg9 arg10 harg10 arg11 harg11 arg12 harg12 hc0 x0 x1 x2 x3 x4 xs0 anyT).1, (runBAt c i arg1 harg1 arg2 harg2 arg3 harg3 arg4 harg4 arg5 harg5 arg6 harg6 arg7 harg7 arg8 harg8 arg9 harg9 arg10 harg10 arg11 harg11 arg12 harg12 hc0 x0 x1 x2 x3 x4 xs0 anyT).2.1, (runBAt c i arg1 harg1 arg2 harg2 arg3 harg3 arg4 harg4 arg5 harg5 arg6 harg6 arg7 harg7 arg8 harg8 arg9 harg9 arg10 harg10 arg11 harg11 arg12 harg12 hc0 x0 x1 x2 x3 x4 xs0 anyT).2.2.1, [], runB_any c i arg1 harg1 arg2 harg2 arg3 harg3 arg4 harg4 arg5 harg5 arg6 harg6 arg7 harg7 arg8 harg8 arg9 harg9 arg10 harg10 arg11 harg11 arg12 harg12 hc0 x0 x1 x2 x3 x4 xs0 (runBAt c i arg1 harg1 arg2 harg2 arg3 harg3 arg4 harg4 arg5 harg5 arg6 harg6 arg7 harg7 arg8 harg8 arg9 harg9 arg10 harg10 arg11 harg11 arg12 harg12 hc0 x0 x1 x2 x3 x4 xs0 anyT).1 (runBAt c i arg1 harg1 arg2 harg2 arg3 harg3 arg4 harg4 arg5 harg5 arg6 harg6 arg7 harg7 arg8 harg8 arg9 harg9 arg10 harg10 arg11 harg11 arg12 harg12 hc0 x0 x1 x2 x3 x4 xs0 anyT).2.1 (runBAt c i arg1 harg1 arg2 harg2 arg3 harg3 arg4 harg4 arg5 harg5 arg6 harg6 arg7 harg7 arg8 harg8 arg9 harg9 arg10 harg10 arg11 harg11 arg12 harg12 hc0 x0 x1 x2 x3 x4 xs0 anyT).2.2.1 (fun d => ⟨_, _, _, runB_indep0 c i arg1 harg1 arg2 harg2 arg3 harg3 arg4 harg4 arg5 harg5 arg6 harg6 arg7 harg7 arg8 harg8 arg9 harg9 arg10 harg10 arg11 harg11 arg12 harg12 hc0 x0 x1 x2 x3 x4 xs0 d anyT, runB_indep1 c i arg1 harg1 arg2 harg2 arg3 harg3 arg4 harg4 arg5 harg5 arg6 harg6 arg7 harg7 arg8 harg8 arg9 harg9 arg10 harg10 arg11 harg11 arg12 harg12 hc0 x0 x1 x2 x3 x4 xs0 d anyT, runB_indep2 c i arg1 harg1 arg2 harg2 arg3 harg3 arg4 harg4 arg5 harg5 arg6 harg6 arg7 harg7 arg8 harg8 arg9 harg9 arg10 harg10 arg11 harg11 arg12 harg12 hc0 x0 x1 x2 x3 x4 xs0 d anyT, (runBAt c i arg1 harg1 arg2 harg2 arg3 harg3 arg4 harg4 arg5 harg5 arg6 harg6 arg7 harg7 arg8 harg8 arg9 harg9 arg10 harg10 arg11 harg11 arg12 harg12 hc0 x0 x1 x2 x3 x4 xs0 d).2.2.2.2⟩)⟩

end Cert.KernelIdeal.Own

end
-- ==== Proof.Frame.lean ====
/- What the outputs and the carried weights hold point by point, the body obligation, and the run of the whole program. -/
module

public import proofs.«01_k».proof.Proof.Body
public import Idealize.ShloMosaic.Lib.Claim

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 5 tile its block (1 store of `S256x896`, checked by evaluation), so they cover it. -/
theorem cover0_A_5 (c : Dev nD) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (hc0 : cond0_0 i)
    (x0 : Vec F S19x19 .f32) (x1 : Vec F S256x4864 .bf16) (x2 : Vec F S2432x896 .i8) (x3 : Vec F S38x896 .f32) (x4 : Vec F S1x896 .f32) (y : S256x896.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).1 S256x896.size (by sl_kernel_rfl) y

/-- What case A leaves in output 5's staging buffer: its pieces read back over junk. -/
def out0_A_5 (c : Dev nD) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (hc0 : cond0_0 i)
    (x0 : Vec F S19x19 .f32) (x1 : Vec F S256x4864 .bf16) (x2 : Vec F S2432x896 .i8) (x3 : Vec F S38x896 .f32) (x4 : Vec F S1x896 .f32) : Vec F S256x896 .bf16 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).1)

/-- Case A's pieces for output 6 tile its block (19 stores of `S256x256`, checked by evaluation), so they cover it. -/
theorem cover0_A_6 (c : Dev nD) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (hc0 : cond0_0 i)
    (x0 : Vec F S19x19 .f32) (x1 : Vec F S256x4864 .bf16) (x2 : Vec F S2432x896 .i8) (x3 : Vec F S38x896 .f32) (x4 : Vec F S1x896 .f32) (y : S256x4864.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.1 S256x256.size (by sl_kernel_rfl) y

/-- What case A leaves in output 6's staging buffer: its pieces read back over junk. -/
def out0_A_6 (c : Dev nD) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (hc0 : cond0_0 i)
    (x0 : Vec F S19x19 .f32) (x1 : Vec F S256x4864 .bf16) (x2 : Vec F S2432x896 .i8) (x3 : Vec F S38x896 .f32) (x4 : Vec F S1x896 .f32) : Vec F S256x4864 .i8 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.1)

/-- Case A's pieces for output 7 tile its block (16 stores of `S16x1`, checked by evaluation), so they cover it. -/
theorem cover0_A_7 (c : Dev nD) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (hc0 : cond0_0 i)
    (x0 : Vec F S19x19 .f32) (x1 : Vec F S256x4864 .bf16) (x2 : Vec F S2432x896 .i8) (x3 : Vec F S38x896 .f32) (x4 : Vec F S1x896 .f32) (y : S256x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.2.1 S16x1.size (by sl_kernel_rfl) y

/-- What case A leaves in output 7's staging buffer: its pieces read back over junk. -/
def out0_A_7 (c : Dev nD) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (hc0 : cond0_0 i)
    (x0 : Vec F S19x19 .f32) (x1 : Vec F S256x4864 .bf16) (x2 : Vec F S2432x896 .i8) (x3 : Vec F S38x896 .f32) (x4 : Vec F S1x896 .f32) : Vec F S256x1 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.2.1)

/-- Case A's pieces for scratch `arg9`, which the kernel carries between points, cover it: 38 pieces of `S128x896` tiling it. -/
theorem scover0_A_0 (c : Dev nD) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (hc0 : cond0_0 i)
    (x0 : Vec F S19x19 .f32) (x1 : Vec F S256x4864 .bf16) (x2 : Vec F S2432x896 .i8) (x3 : Vec F S38x896 .f32) (x4 : Vec F S1x896 .f32) (y : S4864x896.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.2.2.1 S128x896.size (by sl_kernel_rfl) y

/-- What case A leaves in scratch `arg9`: its pieces read back over junk. -/
def sout0_A_0 (c : Dev nD) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (hc0 : cond0_0 i)
    (x0 : Vec F S19x19 .f32) (x1 : Vec F S256x4864 .bf16) (x2 : Vec F S2432x896 .i8) (x3 : Vec F S38x896 .f32) (x4 : Vec F S1x896 .f32) : Vec F S4864x896 .fp8e4m3 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.2.2.1)

/-- Case B's pieces for output 5 tile its block (1 store of `S256x896`, checked by evaluation), so they cover it. -/
theorem cover0_B_5 (c : Dev nD) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (hc0 : ¬cond0_0 i)
    (x0 : Vec F S19x19 .f32) (x1 : Vec F S256x4864 .bf16) (x2 : Vec F S2432x896 .i8) (x3 : Vec F S38x896 .f32) (x4 : Vec F S1x896 .f32) (xs0 : Vec F S4864x896 .fp8e4m3) (y : S256x896.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xs0).1 S256x896.size (by sl_kernel_rfl) y

/-- What case B leaves in output 5's staging buffer: its pieces read back over junk. -/
def out0_B_5 (c : Dev nD) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (hc0 : ¬cond0_0 i)
    (x0 : Vec F S19x19 .f32) (x1 : Vec F S256x4864 .bf16) (x2 : Vec F S2432x896 .i8) (x3 : Vec F S38x896 .f32) (x4 : Vec F S1x896 .f32) (xs0 : Vec F S4864x896 .fp8e4m3) : Vec F S256x896 .bf16 :=
  VO0_5.read (Elt F) (VO0_5.writes (Elt F) VO0_5.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xs0).1)

/-- Case B's pieces for output 6 tile its block (19 stores of `S256x256`, checked by evaluation), so they cover it. -/
theorem cover0_B_6 (c : Dev nD) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (hc0 : ¬cond0_0 i)
    (x0 : Vec F S19x19 .f32) (x1 : Vec F S256x4864 .bf16) (x2 : Vec F S2432x896 .i8) (x3 : Vec F S38x896 .f32) (x4 : Vec F S1x896 .f32) (xs0 : Vec F S4864x896 .fp8e4m3) (y : S256x4864.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xs0).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xs0).2.1 S256x256.size (by sl_kernel_rfl) y

/-- What case B leaves in output 6's staging buffer: its pieces read back over junk. -/
def out0_B_6 (c : Dev nD) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (hc0 : ¬cond0_0 i)
    (x0 : Vec F S19x19 .f32) (x1 : Vec F S256x4864 .bf16) (x2 : Vec F S2432x896 .i8) (x3 : Vec F S38x896 .f32) (x4 : Vec F S1x896 .f32) (xs0 : Vec F S4864x896 .fp8e4m3) : Vec F S256x4864 .i8 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xs0).2.1)

/-- Case B's pieces for output 7 tile its block (16 stores of `S16x1`, checked by evaluation), so they cover it. -/
theorem cover0_B_7 (c : Dev nD) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (hc0 : ¬cond0_0 i)
    (x0 : Vec F S19x19 .f32) (x1 : Vec F S256x4864 .bf16) (x2 : Vec F S2432x896 .i8) (x3 : Vec F S38x896 .f32) (x4 : Vec F S1x896 .f32) (xs0 : Vec F S4864x896 .fp8e4m3) (y : S256x1.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xs0).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xs0).2.2.1 S16x1.size (by sl_kernel_rfl) y

/-- What case B leaves in output 7's staging buffer: its pieces read back over junk. -/
def out0_B_7 (c : Dev nD) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (hc0 : ¬cond0_0 i)
    (x0 : Vec F S19x19 .f32) (x1 : Vec F S256x4864 .bf16) (x2 : Vec F S2432x896 .i8) (x3 : Vec F S38x896 .f32) (x4 : Vec F S1x896 .f32) (xs0 : Vec F S4864x896 .fp8e4m3) : Vec F S256x1 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xs0).2.2.1)

/-- Case B stores nothing into scratch `arg9`: it holds what the point before left. -/
def sout0_B_0 (c : Dev nD) (i : grid0.Coords) (arg1 : Memref sig .tc .smem S19x19 .f32) (harg1 : arg1.IsWhole) (arg2 : Memref sig .tc .vmem S256x4864 .bf16) (harg2 : arg2.IsWhole) (arg3 : Memref sig .tc .vmem S2432x896 .i8) (harg3 : arg3.IsWhole) (arg4 : Memref sig .tc .vmem S38x896 .f32) (harg4 : arg4.IsWhole) (arg5 : Memref sig .tc .vmem S1x896 .f32) (harg5 : arg5.IsWhole) (arg6 : Memref sig .tc .vmem S256x896 .bf16) (harg6 : arg6.IsWhole) (arg7 : Memref sig .tc .vmem S256x4864 .i8) (harg7 : arg7.IsWhole) (arg8 : Memref sig .tc .vmem S256x1 .f32) (harg8 : arg8.IsWhole) (arg9 : Memref sig .tc .vmem S4864x896 .fp8e4m3) (harg9 : arg9.IsWhole) (arg10 : Memref sig .tc .vmem S19x256x256 .f32) (harg10 : arg10.IsWhole) (arg11 : Memref sig .tc .vmem S19x256x256 .f32) (harg11 : arg11.IsWhole) (arg12 : Memref sig .tc .vmem S256x4864 .fp8e4m3) (harg12 : arg12.IsWhole) (hc0 : ¬cond0_0 i)
    (x0 : Vec F S19x19 .f32) (x1 : Vec F S256x4864 .bf16) (x2 : Vec F S2432x896 .i8) (x3 : Vec F S38x896 .f32) (x4 : Vec F S1x896 .f32) (xs0 : Vec F S4864x896 .fp8e4m3) : Vec F S4864x896 .fp8e4m3 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x896 .bf16 × Vec F S256x4864 .i8 × Vec F S256x1 .f32 × Vec F S4864x896 .fp8e4m3
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 64 = 0 then
      (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2)

/-- `outsAt0` at a point of case A: that case's contents. -/
theorem outsAt0_A (c : Dev nD) (t : Fin cfg0.N) (h0 : t.val % 64 = 0) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 64 = 0) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's; afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2) ∗ (∃ d, owns (c : Thread nD τ) scM0_1 fullShare d) ∗ (∃ d, owns (c : Thread nD τ) scM0_2 fullShare d) ∗ (∃ d, owns (c : Thread nD τ) scM0_3 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5, after0_6, after0_7]
  rw [show (dats m 0 c).Φ t.succ = PhiS m c (t.val + 1) t.isLt from rfl, PhiS_succ]
  have hN : t.val < 64 := lt_of_lt_of_eq t.isLt (show cfg0.N = 64 from N_0)
  by_cases h0 : t.val % 64 = 0
  · by_cases hz : t.val = 0
    · rw [PhiS_castSucc m c t, PhiS_zero m c _ _ hz, PhiA0_eq]
      rw [outsAt0_A m c t h0]
      unfold out0_A_5 out0_A_6 out0_A_7 sout0_A_0; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t)).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      isplitl [HS2]; · iexact HS2
      isplitl [HS3]; · iexact HS3
      iintro ⟨H0, H1, H2, H3, H4, ⟨%e5, H5⟩, ⟨%e6, H6⟩, ⟨%e7, H7⟩, ⟨%es0, HS0⟩, HS1, HS2, HS3⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _)
          isplitl [HS1]
          · iexact HS1
          isplitl [HS2]
          · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _ _ _ _ _)
      unfold owns; iexists _; isplitr
      swap; · iexact H7
      ipureintro; exact View.read_writes_of_cover _ _ _ _ _ (cover0_A_7 c _ _ _ _ _ _ _ _ _ _ _ _ _ _ _ _ _ _ _ _ _ _ _ _ _ _ _ _ _ _ _)
    · exfalso; have hN : t.val < 64 := lt_of_lt_of_eq t.isLt (show cfg0.N = 64 from N_0); omega
  · by_cases hz : t.val = 0
    · exfalso; have hN : t.val < 64 := lt_of_lt_of_eq t.isLt (show cfg0.N = 64 from N_0); omega
    · rw [PhiS_castSucc m c t, PhiS_pos m c _ _ hz]
      rw [outsAt0_B m c t h0]
      unfold out0_B_5 out0_B_6 out0_B_7 sout0_B_0; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      isplitl [HS2]; · iexact HS2
      isplitl [HS3]; · iexact HS3
      iintro ⟨H0, H1, H2, H3, H4, ⟨%e5, H5⟩, ⟨%e6, H6⟩, ⟨%e7, H7⟩, HS0, HS1, HS2, HS3⟩
      isplitl [HS0 HS1 HS2 HS3 Hg]
      · isplitl [HS0 HS1 HS2 HS3]
        · isplitl [HS0]
          · iexact HS0
          isplitl [HS1]
          · iexact HS1
          isplitl [HS2]
          · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _ _ _)
      unfold owns; iexists _; isplitr
      swap; · iexact H7
      ipureintro; exact View.read_writes_of_cover _ _ _ _ _ (cover0_B_7 c _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexact HS1
    isplitl [HS2]
    · iexact HS2
    iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the program ends without fault, its arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Own

end
-- ==== Proof.Value.lean ====
/- What the three result arrays hold after the run, as the blocks the body left point by point. -/
module

public import proofs.«01_k».proof.Proof.Frame
public import Idealize.ShloMosaic.Lib.Pipeline.Value

@[expose] public section

noncomputable section

namespace Cert.KernelIdeal.Own.Value

open Cert.KernelIdeal Cert.KernelIdeal.Gen Cert.KernelIdeal.Own Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 5's array: the run's contents for that window after the body (`outsAt0`: its component 0), read through the window's block. -/
theorem flushed5 (c : Dev nD) (t : Fin cfg0.N) :
    (dats m 0 c).flushed 5 t = (cfg0.win 5).cut (grid0.coords t) ((outsAt0 m c t.val t.isLt).1) := by
  show (cfg0.win 5).cut (grid0.coords t) ((dats m 0 c).after 5 t) = _
  rw [after0_5]

/-- … so at a point where case A runs, what its write-back would write is that case's NAMED TERM for the window (`out0_A_5`: the pieces
    its run found, read back) at the point's memrefs and input blocks, and for an output the case reads back what the point before left (`outsAt0` at `t - 1`) — by the frame's rewriting lemma for the case. -/
theorem flushed5_A (c : Dev nD) (t : Fin cfg0.N) (h0 : t.val % 64 = 0) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t)) := by
  simp only [flushed5, outsAt0_A m c t h0]

/-- … so at a point where case B runs, what its write-back would write is that case's NAMED TERM for the window (`out0_B_5`: the pieces
    its run found, read back) at the point's memrefs and input blocks, and for an output the case reads back what the point before left (`outsAt0` at `t - 1`) — by the frame's rewriting lemma for the case. -/
theorem flushed5_B (c : Dev nD) (t : Fin cfg0.N) (h0 : ¬t.val % 64 = 0) :
    (dats m 0 c).flushed 5 t = (cfg0.win 5).cut (grid0.coords t) (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2) := by
  simp only [flushed5, outsAt0_B m c t h0]

/-- The index map sends distinct grid points to distinct block indices (decided over the 64 points). -/
theorem idx_inj5 : ∀ t t' : Fin cfg0.N, win0_5.index t = win0_5.index t' → t = t' :=
  (by decide +kernel : ∀ t t' : Fin grid0.N, win0_5.index t = win0_5.index t' → t = t')

/-- So two flushing points' blocks share no array index. -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S16384x896.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the run's contents for that window after the body (`outsAt0`: its component 1), read through the window's block. -/
theorem flushed6 (c : Dev nD) (t : Fin cfg0.N) :
    (dats m 0 c).flushed 6 t = (cfg0.win 6).cut (grid0.coords t) ((outsAt0 m c t.val t.isLt).2.1) := by
  show (cfg0.win 6).cut (grid0.coords t) ((dats m 0 c).after 6 t) = _
  rw [after0_6]

/-- … so at a point where case A runs, what its write-back would write is that case's NAMED TERM for the window (`out0_A_6`: the pieces
    its run found, read back) at the point's memrefs and input blocks, and for an output the case reads back what the point before left (`outsAt0` at `t - 1`) — by the frame's rewriting lemma for the case. -/
theorem flushed6_A (c : Dev nD) (t : Fin cfg0.N) (h0 : t.val % 64 = 0) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t)) := by
  simp only [flushed6, outsAt0_A m c t h0]

/-- … so at a point where case B runs, what its write-back would write is that case's NAMED TERM for the window (`out0_B_6`: the pieces
    its run found, read back) at the point's memrefs and input blocks, and for an output the case reads back what the point before left (`outsAt0` at `t - 1`) — by the frame's rewriting lemma for the case. -/
theorem flushed6_B (c : Dev nD) (t : Fin cfg0.N) (h0 : ¬t.val % 64 = 0) :
    (dats m 0 c).flushed 6 t = (cfg0.win 6).cut (grid0.coords t) (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2) := by
  simp only [flushed6, outsAt0_B m c t h0]

/-- The index map sends distinct grid points to distinct block indices (decided over the 64 points). -/
theorem idx_inj6 : ∀ t t' : Fin cfg0.N, win0_6.index t = win0_6.index t' → t = t' :=
  (by decide +kernel : ∀ t t' : Fin grid0.N, win0_6.index t = win0_6.index t' → t = t')

/-- So two flushing points' blocks share no array index. -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S16384x4864.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the run's contents for that window after the body (`outsAt0`: its component 2), read through the window's block. -/
theorem flushed7 (c : Dev nD) (t : Fin cfg0.N) :
    (dats m 0 c).flushed 7 t = (cfg0.win 7).cut (grid0.coords t) ((outsAt0 m c t.val t.isLt).2.2.1) := by
  show (cfg0.win 7).cut (grid0.coords t) ((dats m 0 c).after 7 t) = _
  rw [after0_7]

/-- … so at a point where case A runs, what its write-back would write is that case's NAMED TERM for the window (`out0_A_7`: the pieces
    its run found, read back) at the point's memrefs and input blocks, and for an output the case reads back what the point before left (`outsAt0` at `t - 1`) — by the frame's rewriting lemma for the case. -/
theorem flushed7_A (c : Dev nD) (t : Fin cfg0.N) (h0 : t.val % 64 = 0) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t)) := by
  simp only [flushed7, outsAt0_A m c t h0]

/-- … so at a point where case B runs, what its write-back would write is that case's NAMED TERM for the window (`out0_B_7`: the pieces
    its run found, read back) at the point's memrefs and input blocks, and for an output the case reads back what the point before left (`outsAt0` at `t - 1`) — by the frame's rewriting lemma for the case. -/
theorem flushed7_B (c : Dev nD) (t : Fin cfg0.N) (h0 : ¬t.val % 64 = 0) :
    (dats m 0 c).flushed 7 t = (cfg0.win 7).cut (grid0.coords t) (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2) := by
  simp only [flushed7, outsAt0_B m c t h0]

/-- The index map sends distinct grid points to distinct block indices (decided over the 64 points). -/
theorem idx_inj7 : ∀ t t' : Fin cfg0.N, win0_7.index t = win0_7.index t' → t = t' :=
  (by decide +kernel : ∀ t t' : Fin grid0.N, win0_7.index t = win0_7.index t' → t = t')

/-- So two flushing points' blocks share no array index. -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S16384x1.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v10_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v10_1) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v10_2) = (dats m 0 c).arrAt 7 cfg0.N :=
  (h c).1 7

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 0 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 0).trans (((dats m 0 c).arrAt_in 0 rfl _).trans ((A_eq m c 0).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v10_0) = (dats m 0 c).arrAt 5 cfg0.N
      ∧ r.2.mem ((c : Thread nD τ).loc main_v10_1) = (dats m 0 c).arrAt 6 cfg0.N
      ∧ r.2.mem ((c : Thread nD τ).loc main_v10_2) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      post6 m r h c,
      post7 m r h c,
      kept_main_arg0 m r h c,
      kept_main_arg1 m r h c,
      kept_main_arg2 m r h c,
      kept_main_arg3 m r h c,
      kept_main_arg4 m r h c⟩)
    (run_main m ρ)

/-! ## Carried scratch 0: what each point leaves in it, and its fold -/

/-- What point `n` leaves in carried scratch 0, over what the point before left in it (`acc`): the case the conditions'
    closed forms select at `n`, the frame's own term for it (`sout0_κ_0`; anything else the case takes of the point
    before, another carried scratch or an output it reads back, stays `outsAt0`'s at `n - 1`); a case at the first point
    stores the scratch whole without reading what it held, and `acc` does not enter there (nor where no point meets the
    conditions: `acc`, never read). -/
def scAt0_0 (c : Dev nD) (n : ℕ) (hb : n < cfg0.N) (acc : Vec F S4864x896 .fp8e4m3) : Vec F S4864x896 .fp8e4m3 :=
  if h0 : n % 64 = 0 then
    sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) scM0_3 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N))
  else
    sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc

/-- WHAT CARRIED SCRATCH 0 HOLDS after point `t`: the fold of its run up to `t`, from the reset at the run's first point
    `64·(t / 64)`. -/
theorem soutsAt0_0_eq (c : Dev nD) (t : Fin cfg0.N) :
    (outsAt0 m c t.val t.isLt).2.2.2 = Pipeline.accAt (fun n h => scAt0_0 m c n h (VS0_0.read (Elt F) VS0_0.junk)) (scAt0_0 m c) (64 * (t.val / 64)) (t.val % 64)
      (by have h1 := t.isLt; have h2 := Nat.div_add_mod t.val 64; omega) :=
  Pipeline.eq_accAt_of_mod (fun n h => (outsAt0 m c n h).2.2.2) 64 (fun n h => scAt0_0 m c n h (VS0_0.read (Elt F) VS0_0.junk)) (scAt0_0 m c)
    (fun n h hn => by
      have hN := lt_of_lt_of_eq h (show cfg0.N = 64 from N_0)
      by_cases h0 : n % 64 = 0
      all_goals first | (exfalso; omega) | (rw [outsAt0_A m c ⟨n, h⟩ h0]; dsimp only; unfold scAt0_0; rw [dif_pos h0] <;> try rfl) | (rw [outsAt0_B m c ⟨n, h⟩ h0]; dsimp only; unfold scAt0_0; rw [dif_neg h0] <;> try rfl))
    (fun n h hn => by
      have hN := lt_of_lt_of_eq h (show cfg0.N = 64 from N_0)
      by_cases h0 : (n + 1) % 64 = 0
      all_goals first | (exfalso; omega) | (rw [outsAt0_A m c ⟨n + 1, h⟩ h0]; dsimp only; unfold scAt0_0; rw [dif_pos h0] <;> try rfl) | (rw [outsAt0_B m c ⟨n + 1, h⟩ h0]; dsimp only; unfold scAt0_0; rw [dif_neg h0] <;> try rfl))
    (by decide) t.val t.isLt _

/-- One run spans the grid (the only reset is at point 0): after point `n` the scratch is the fold from 0 to `n`. -/
theorem soutsAt0_0_sweep (c : Dev nD) (n : ℕ) (hn : n < cfg0.N) :
    (outsAt0 m c n hn).2.2.2 = Pipeline.accAt (fun n h => scAt0_0 m c n h (VS0_0.read (Elt F) VS0_0.junk)) (scAt0_0 m c) 0 n (by omega) := by
  have e := soutsAt0_0_eq m c ⟨n, hn⟩
  have hN := lt_of_lt_of_eq hn (show cfg0.N = 64 from N_0)
  have hd : n / 64 = 0 := Nat.div_eq_of_lt hN
  have hm : n % 64 = n := Nat.mod_eq_of_lt hN
  simpa only [hd, hm, Nat.mul_zero] using e

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S256x896 .bf16 × Vec F S256x4864 .i8 × Vec F S256x1 .f32 × Vec F S4864x896 .fp8e4m3 :=
  ((VO0_5.read (Elt F) VO0_5.junk, VO0_6.read (Elt F) VO0_6.junk, VO0_7.read (Elt F) VO0_7.junk, VS0_0.read (Elt F) VS0_0.junk) : Vec F S256x896 .bf16 × Vec F S256x4864 .i8 × Vec F S256x1 .f32 × Vec F S4864x896 .fp8e4m3)

/-- THE STEP: what point `n` leaves in the named outputs and the carried scratch (`outsAt0`'s tuple), over what the
    point before left (`acc`) — `outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S256x896 .bf16 × Vec F S256x4864 .i8 × Vec F S256x1 .f32 × Vec F S4864x896 .fp8e4m3) : Vec F S256x896 .bf16 × Vec F S256x4864 .i8 × Vec F S256x1 .f32 × Vec F S4864x896 .fp8e4m3 :=
  if h0 : n % 64 = 0 then
    (out0_A_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) scM0_3 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)), out0_A_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) scM0_3 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)), out0_A_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) scM0_3 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) scM0_3 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)))
  else
    (out0_B_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.2.2, out0_B_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.2.2, out0_B_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.2.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.2.2)

/-- `stAt0` at a point of case A: that case's contents. -/
theorem stAt0_A (c : Dev nD) (t : Fin cfg0.N) (acc : Vec F S256x896 .bf16 × Vec F S256x4864 .i8 × Vec F S256x1 .f32 × Vec F S4864x896 .fp8e4m3) (h0 : t.val % 64 = 0) :
    stAt0 m c t.val t.isLt acc = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t)) :=
  (dif_pos h0).trans rfl

/-- `stAt0` at a point of case B: that case's contents, over `acc`. -/
theorem stAt0_B (c : Dev nD) (t : Fin cfg0.N) (acc : Vec F S256x896 .bf16 × Vec F S256x4864 .i8 × Vec F S256x1 .f32 × Vec F S4864x896 .fp8e4m3) (h0 : ¬t.val % 64 = 0) :
    stAt0 m c t.val t.isLt acc = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) acc.2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) acc.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) acc.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) acc.2.2.2) :=
  (dif_neg h0).trans rfl

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _)]
  rfl

/-- WHAT THE NAMED OUTPUTS AND THE CARRIED SCRATCH HOLD after point `n`: the fold of `stAt0` from the first point,
    started at `junk0` (`Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 64 from N_0)
  have e := Pipeline.eq_accAt_of_mod (fun n h => outsAt0 m c n h) 64 (fun n h => stAt0 m c n h junk0) (stAt0 m c)
    (fun n h _ => by
      have hN := lt_of_lt_of_eq h (show cfg0.N = 64 from N_0)
      obtain rfl : n = 0 := by omega
      exact outsAt0_zero m c h)
    (fun n h _ => outsAt0_succ m c n h)
    (by decide) n hn (by have := Nat.div_add_mod n 64; omega)
  have hd : n / 64 = 0 := Nat.div_eq_of_lt hN
  have hm : n % 64 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 5 -/

/-- The block of the array that holds index `i`, numbered in the order the points write the blocks back (one per point),
    `i`'s place in it, and the point that writes it back. -/
abbrev run5Of (i : S16384x896.Idx) : ℕ := 1 * ((i 0).val / 256 - 0) + 1 * ((i 1).val / 896 - 0)
set_option backward.proofsInPublic true in
abbrev loc5Of (i : S16384x896.Idx) : S256x896.Idx := fun a => match a with
  | ⟨0, _⟩ => ⟨(i 0).val % 256, Nat.mod_lt _ (by decide)⟩
  | ⟨1, _⟩ => ⟨(i 1).val % 896, Nat.mod_lt _ (by decide)⟩
abbrev pt5Of (i : S16384x896.Idx) : ℕ := run5Of i

/-- WHAT THE ARRAY ENDS HOLDING at index `i` inside the box the flushing blocks fill: output 5's component of the carried
    state's fold at the point that writes `i`'s block back, at `i`'s place in the block. `G5` states the array's contents
    only inside the box. -/
def G5 (c : Dev nD) : Buf (Elt F) ((c : Thread nD τ).loc main_v10_0) := fun i =>
  if h : pt5Of i < cfg0.N then
    (Pipeline.accAt (fun n h => stAt0 m c n h junk0) (stAt0 m c) 0 (pt5Of i) (by omega)).1 (loc5Of i)
  else V m c (Pipeline.arrRef spec0 5) i

/-- The printed index map, decided over the grid: output window 5's block indices stay in the box, and the block number
    read off them is the point's (`t`). -/
theorem idx_facts5 : ∀ t : Fin cfg0.N, 0 ≤ win0_5.index t (0 : Fin 2) ∧ win0_5.index t (0 : Fin 2) ≤ 63
    ∧ 0 ≤ win0_5.index t (1 : Fin 2) ∧ win0_5.index t (1 : Fin 2) ≤ 0
    ∧ 1 * (win0_5.index t (0 : Fin 2) - 0) + 1 * (win0_5.index t (1 : Fin 2) - 0) = t.val :=
  (by decide +kernel : ∀ t : Fin grid0.N, _)

/-- Every block of the box is SOME flushing point's: `onto5Pt`, the point that writes back the block at place `q` of the box. -/
abbrev onto5Pt (q0 : Fin 64) (q1 : Fin 1) : Fin grid0.N :=
  ⟨1 * q0.val + 1 * q1.val, lt_of_lt_of_eq (by omega) N_0.symm⟩
theorem idx_onto5 : ∀ (q0 : Fin 64) (q1 : Fin 1), ∃ t : Fin cfg0.N, (cfg0.win 5).flush t = true ∧ win0_5.index t = ![q0.val + 0, q1.val + 0] :=
  fun q0 q1 => ⟨onto5Pt q0 q1, (by decide +kernel : ∀ (q0 : Fin 64) (q1 : Fin 1), win0_5.flush (onto5Pt q0 q1) = true ∧ win0_5.index (onto5Pt q0 q1) = ![q0.val + 0, q1.val + 0]) q0 q1⟩

/-- WHAT A FLUSHING POINT `t` WRITES BACK is block `t` of `G5`: output 5's component of the fold up to `t`. -/
theorem flushed5_eq (c : Dev nD) (t : Fin cfg0.N) (hf : (cfg0.win 5).flush t = true) :
    (dats m 0 c).flushed 5 t = ((cfg0.win 5).blk t).view.read (Elt F) (G5 m c) := by
  show (cfg0.win 5).cut (grid0.coords t) ((dats m 0 c).after 5 t) = _
  rw [after0_5, outsAt0_sweep]
  obtain ⟨e0, e1, e2⟩ := idx_facts5 t
  funext y
  have hy0 : (y 0).val < 256 := (y 0).isLt
  have hy1 : (y 1).val < 896 := (y 1).isLt
  have hb0 : (((cfg0.win 5).blk t).view.emb y 0).val = win0_5.index t (0 : Fin 2) * 256 + 1 * (y 0).val := rfl
  have hb1 : (((cfg0.win 5).blk t).view.emb y 1).val = win0_5.index t (1 : Fin 2) * 896 + 1 * (y 1).val := rfl
  have hr : run5Of (((cfg0.win 5).blk t).view.emb y) = t.val := by
    show 1 * ((((cfg0.win 5).blk t).view.emb y 0).val / 256 - 0) + 1 * ((((cfg0.win 5).blk t).view.emb y 1).val / 896 - 0) = _
    rw [hb0, hb1]
    rw [show (win0_5.index t (0 : Fin 2) * 256 + 1 * (y 0).val) / 256 = win0_5.index t (0 : Fin 2) from by omega]; rw [show (win0_5.index t (1 : Fin 2) * 896 + 1 * (y 1).val) / 896 = win0_5.index t (1 : Fin 2) from by omega]
    omega
  have hl : loc5Of (((cfg0.win 5).blk t).view.emb y) = (cfg0.win 5).xinj (grid0.coords t) y := by
    funext a; apply Fin.ext
    match a with
    | ⟨0, _⟩ => show (((cfg0.win 5).blk t).view.emb y 0).val % 256 = (y 0).val; rw [hb0]; omega
    | ⟨1, _⟩ => show (((cfg0.win 5).blk t).view.emb y 1).val % 896 = (y 1).val; rw [hb1]; omega
  have hp : pt5Of (((cfg0.win 5).blk t).view.emb y) = t.val := by
    exact hr
  show (Pipeline.accAt (fun n h => stAt0 m c n h junk0) (stAt0 m c) 0 t.val _).1 ((cfg0.win 5).xinj (grid0.coords t) y) = G5 m c (((cfg0.win 5).blk t).view.emb y)
  unfold G5
  rw [dif_pos (by rw [hp]; exact t.isLt), hl, fold0_congr m c _ _ _ _ hp.symm]

/-- An index of the array is in point `t`'s block iff each coordinate is in the block's range on its axis. -/
theorem mem_blk5 (t : Fin cfg0.N) (i : S16384x896.Idx) :
    i ∈ ((cfg0.win 5).blk t).view.set ↔ ∀ a : Fin 2, win0_5.index t a * S256x896.size a ≤ (i a).val ∧ (i a).val < win0_5.index t a * S256x896.size a + S256x896.size a := by
  show i ∈ ((View.whole main_v10_0).slice (win0_5.rect t)).set ↔ _
  rw [View.set_slice_whole, Rect.mem_set_unit]
  exact Iff.rfl

/-- THE COVERED INDICES: in some flushing point's block iff inside the box those blocks fill. -/
theorem covered_iff5 (i : S16384x896.Idx) :
    (∃ t : Fin cfg0.N, (cfg0.win 5).flush t = true ∧ i ∈ ((cfg0.win 5).blk t).view.set) ↔ 0 ≤ (i 0).val ∧ (i 0).val < 16384 ∧ 0 ≤ (i 1).val ∧ (i 1).val < 896 := by
  constructor
  · rintro ⟨t, -, hi⟩
    rw [mem_blk5] at hi
    have b0 : win0_5.index t (0 : Fin 2) * 256 ≤ (i 0).val ∧ (i 0).val < win0_5.index t (0 : Fin 2) * 256 + 256 := hi 0
    have b1 : win0_5.index t (1 : Fin 2) * 896 ≤ (i 1).val ∧ (i 1).val < win0_5.index t (1 : Fin 2) * 896 + 896 := hi 1
    obtain ⟨e0, e1, e2⟩ := idx_facts5 t
    omega
  · intro h
    have hi0 : (i 0).val < 16384 := (i 0).isLt
    have hi1 : (i 1).val < 896 := (i 1).isLt
    obtain ⟨t, hft, ht⟩ := idx_onto5 ⟨(i 0).val / 256 - 0, by omega⟩ ⟨(i 1).val / 896 - 0, by omega⟩
    have q0 : win0_5.index t (0 : Fin 2) = (i 0).val / 256 - 0 + 0 := congrFun ht 0
    have q1 : win0_5.index t (1 : Fin 2) = (i 1).val / 896 - 0 + 0 := congrFun ht 1
    refine ⟨t, hft, ?_⟩
    rw [mem_blk5]
    intro a
    match a with
    | ⟨0, _⟩ => show win0_5.index t (0 : Fin 2) * 256 ≤ (i 0).val ∧ (i 0).val < win0_5.index t (0 : Fin 2) * 256 + 256; omega
    | ⟨1, _⟩ => show win0_5.index t (1 : Fin 2) * 896 ≤ (i 1).val ∧ (i 1).val < win0_5.index t (1 : Fin 2) * 896 + 896; omega

/-- THE ARRAY after the run: `G5` (the flushing blocks tile it). -/
theorem final5 (c : Dev nD) : (dats m 0 c).arrAt 5 cfg0.N = G5 m c :=
  (dats m 0 c).arrAt_eq_of_cover 5 _ (fun t hf => flushed5_eq m c t hf) (fun i => (covered_iff5 i).2 (by
    have h0 : (i 0).val < 16384 := (i 0).isLt; have h1 : (i 1).val < 896 := (i 1).isLt; omega))

/-! ## Output window 6 -/

/-- The block of the array that holds index `i`, numbered in the order the points write the blocks back (one per point),
    `i`'s place in it, and the point that writes it back. -/
abbrev run6Of (i : S16384x4864.Idx) : ℕ := 1 * ((i 0).val / 256 - 0) + 1 * ((i 1).val / 4864 - 0)
set_option backward.proofsInPublic true in
abbrev loc6Of (i : S16384x4864.Idx) : S256x4864.Idx := fun a => match a with
  | ⟨0, _⟩ => ⟨(i 0).val % 256, Nat.mod_lt _ (by decide)⟩
  | ⟨1, _⟩ => ⟨(i 1).val % 4864, Nat.mod_lt _ (by decide)⟩
abbrev pt6Of (i : S16384x4864.Idx) : ℕ := run6Of i

/-- WHAT THE ARRAY ENDS HOLDING at index `i` inside the box the flushing blocks fill: output 6's component of the carried
    state's fold at the point that writes `i`'s block back, at `i`'s place in the block. `G6` states the array's contents
    only inside the box. -/
def G6 (c : Dev nD) : Buf (Elt F) ((c : Thread nD τ).loc main_v10_1) := fun i =>
  if h : pt6Of i < cfg0.N then
    (Pipeline.accAt (fun n h => stAt0 m c n h junk0) (stAt0 m c) 0 (pt6Of i) (by omega)).2.1 (loc6Of i)
  else V m c (Pipeline.arrRef spec0 6) i

/-- The printed index map, decided over the grid: output window 6's block indices stay in the box, and the block number
    read off them is the point's (`t`). -/
theorem idx_facts6 : ∀ t : Fin cfg0.N, 0 ≤ win0_6.index t (0 : Fin 2) ∧ win0_6.index t (0 : Fin 2) ≤ 63
    ∧ 0 ≤ win0_6.index t (1 : Fin 2) ∧ win0_6.index t (1 : Fin 2) ≤ 0
    ∧ 1 * (win0_6.index t (0 : Fin 2) - 0) + 1 * (win0_6.index t (1 : Fin 2) - 0) = t.val :=
  (by decide +kernel : ∀ t : Fin grid0.N, _)

/-- Every block of the box is SOME flushing point's: `onto6Pt`, the point that writes back the block at place `q` of the box. -/
abbrev onto6Pt (q0 : Fin 64) (q1 : Fin 1) : Fin grid0.N :=
  ⟨1 * q0.val + 1 * q1.val, lt_of_lt_of_eq (by omega) N_0.symm⟩
theorem idx_onto6 : ∀ (q0 : Fin 64) (q1 : Fin 1), ∃ t : Fin cfg0.N, (cfg0.win 6).flush t = true ∧ win0_6.index t = ![q0.val + 0, q1.val + 0] :=
  fun q0 q1 => ⟨onto6Pt q0 q1, (by decide +kernel : ∀ (q0 : Fin 64) (q1 : Fin 1), win0_6.flush (onto6Pt q0 q1) = true ∧ win0_6.index (onto6Pt q0 q1) = ![q0.val + 0, q1.val + 0]) q0 q1⟩

/-- WHAT A FLUSHING POINT `t` WRITES BACK is block `t` of `G6`: output 6's component of the fold up to `t`. -/
theorem flushed6_eq (c : Dev nD) (t : Fin cfg0.N) (hf : (cfg0.win 6).flush t = true) :
    (dats m 0 c).flushed 6 t = ((cfg0.win 6).blk t).view.read (Elt F) (G6 m c) := by
  show (cfg0.win 6).cut (grid0.coords t) ((dats m 0 c).after 6 t) = _
  rw [after0_6, outsAt0_sweep]
  obtain ⟨e0, e1, e2⟩ := idx_facts6 t
  funext y
  have hy0 : (y 0).val < 256 := (y 0).isLt
  have hy1 : (y 1).val < 4864 := (y 1).isLt
  have hb0 : (((cfg0.win 6).blk t).view.emb y 0).val = win0_6.index t (0 : Fin 2) * 256 + 1 * (y 0).val := rfl
  have hb1 : (((cfg0.win 6).blk t).view.emb y 1).val = win0_6.index t (1 : Fin 2) * 4864 + 1 * (y 1).val := rfl
  have hr : run6Of (((cfg0.win 6).blk t).view.emb y) = t.val := by
    show 1 * ((((cfg0.win 6).blk t).view.emb y 0).val / 256 - 0) + 1 * ((((cfg0.win 6).blk t).view.emb y 1).val / 4864 - 0) = _
    rw [hb0, hb1]
    rw [show (win0_6.index t (0 : Fin 2) * 256 + 1 * (y 0).val) / 256 = win0_6.index t (0 : Fin 2) from by omega]; rw [show (win0_6.index t (1 : Fin 2) * 4864 + 1 * (y 1).val) / 4864 = win0_6.index t (1 : Fin 2) from by omega]
    omega
  have hl : loc6Of (((cfg0.win 6).blk t).view.emb y) = (cfg0.win 6).xinj (grid0.coords t) y := by
    funext a; apply Fin.ext
    match a with
    | ⟨0, _⟩ => show (((cfg0.win 6).blk t).view.emb y 0).val % 256 = (y 0).val; rw [hb0]; omega
    | ⟨1, _⟩ => show (((cfg0.win 6).blk t).view.emb y 1).val % 4864 = (y 1).val; rw [hb1]; omega
  have hp : pt6Of (((cfg0.win 6).blk t).view.emb y) = t.val := by
    exact hr
  show (Pipeline.accAt (fun n h => stAt0 m c n h junk0) (stAt0 m c) 0 t.val _).2.1 ((cfg0.win 6).xinj (grid0.coords t) y) = G6 m c (((cfg0.win 6).blk t).view.emb y)
  unfold G6
  rw [dif_pos (by rw [hp]; exact t.isLt), hl, fold0_congr m c _ _ _ _ hp.symm]

/-- An index of the array is in point `t`'s block iff each coordinate is in the block's range on its axis. -/
theorem mem_blk6 (t : Fin cfg0.N) (i : S16384x4864.Idx) :
    i ∈ ((cfg0.win 6).blk t).view.set ↔ ∀ a : Fin 2, win0_6.index t a * S256x4864.size a ≤ (i a).val ∧ (i a).val < win0_6.index t a * S256x4864.size a + S256x4864.size a := by
  show i ∈ ((View.whole main_v10_1).slice (win0_6.rect t)).set ↔ _
  rw [View.set_slice_whole, Rect.mem_set_unit]
  exact Iff.rfl

/-- THE COVERED INDICES: in some flushing point's block iff inside the box those blocks fill. -/
theorem covered_iff6 (i : S16384x4864.Idx) :
    (∃ t : Fin cfg0.N, (cfg0.win 6).flush t = true ∧ i ∈ ((cfg0.win 6).blk t).view.set) ↔ 0 ≤ (i 0).val ∧ (i 0).val < 16384 ∧ 0 ≤ (i 1).val ∧ (i 1).val < 4864 := by
  constructor
  · rintro ⟨t, -, hi⟩
    rw [mem_blk6] at hi
    have b0 : win0_6.index t (0 : Fin 2) * 256 ≤ (i 0).val ∧ (i 0).val < win0_6.index t (0 : Fin 2) * 256 + 256 := hi 0
    have b1 : win0_6.index t (1 : Fin 2) * 4864 ≤ (i 1).val ∧ (i 1).val < win0_6.index t (1 : Fin 2) * 4864 + 4864 := hi 1
    obtain ⟨e0, e1, e2⟩ := idx_facts6 t
    omega
  · intro h
    have hi0 : (i 0).val < 16384 := (i 0).isLt
    have hi1 : (i 1).val < 4864 := (i 1).isLt
    obtain ⟨t, hft, ht⟩ := idx_onto6 ⟨(i 0).val / 256 - 0, by omega⟩ ⟨(i 1).val / 4864 - 0, by omega⟩
    have q0 : win0_6.index t (0 : Fin 2) = (i 0).val / 256 - 0 + 0 := congrFun ht 0
    have q1 : win0_6.index t (1 : Fin 2) = (i 1).val / 4864 - 0 + 0 := congrFun ht 1
    refine ⟨t, hft, ?_⟩
    rw [mem_blk6]
    intro a
    match a with
    | ⟨0, _⟩ => show win0_6.index t (0 : Fin 2) * 256 ≤ (i 0).val ∧ (i 0).val < win0_6.index t (0 : Fin 2) * 256 + 256; omega
    | ⟨1, _⟩ => show win0_6.index t (1 : Fin 2) * 4864 ≤ (i 1).val ∧ (i 1).val < win0_6.index t (1 : Fin 2) * 4864 + 4864; omega

/-- THE ARRAY after the run: `G6` (the flushing blocks tile it). -/
theorem final6 (c : Dev nD) : (dats m 0 c).arrAt 6 cfg0.N = G6 m c :=
  (dats m 0 c).arrAt_eq_of_cover 6 _ (fun t hf => flushed6_eq m c t hf) (fun i => (covered_iff6 i).2 (by
    have h0 : (i 0).val < 16384 := (i 0).isLt; have h1 : (i 1).val < 4864 := (i 1).isLt; omega))

/-! ## Output window 7 -/

/-- The block of the array that holds index `i`, numbered in the order the points write the blocks back (one per point),
    `i`'s place in it, and the point that writes it back. -/
abbrev run7Of (i : S16384x1.Idx) : ℕ := 1 * ((i 0).val / 256 - 0) + 1 * ((i 1).val / 1 - 0)
set_option backward.proofsInPublic true in
abbrev loc7Of (i : S16384x1.Idx) : S256x1.Idx := fun a => match a with
  | ⟨0, _⟩ => ⟨(i 0).val % 256, Nat.mod_lt _ (by decide)⟩
  | ⟨1, _⟩ => ⟨(i 1).val % 1, Nat.mod_lt _ (by decide)⟩
abbrev pt7Of (i : S16384x1.Idx) : ℕ := run7Of i

/-- WHAT THE ARRAY ENDS HOLDING at index `i` inside the box the flushing blocks fill: output 7's component of the carried
    state's fold at the point that writes `i`'s block back, at `i`'s place in the block. `G7` states the array's contents
    only inside the box. -/
def G7 (c : Dev nD) : Buf (Elt F) ((c : Thread nD τ).loc main_v10_2) := fun i =>
  if h : pt7Of i < cfg0.N then
    (Pipeline.accAt (fun n h => stAt0 m c n h junk0) (stAt0 m c) 0 (pt7Of i) (by omega)).2.2.1 (loc7Of i)
  else V m c (Pipeline.arrRef spec0 7) i

/-- The printed index map, decided over the grid: output window 7's block indices stay in the box, and the block number
    read off them is the point's (`t`). -/
theorem idx_facts7 : ∀ t : Fin cfg0.N, 0 ≤ win0_7.index t (0 : Fin 2) ∧ win0_7.index t (0 : Fin 2) ≤ 63
    ∧ 0 ≤ win0_7.index t (1 : Fin 2) ∧ win0_7.index t (1 : Fin 2) ≤ 0
    ∧ 1 * (win0_7.index t (0 : Fin 2) - 0) + 1 * (win0_7.index t (1 : Fin 2) - 0) = t.val :=
  (by decide +kernel : ∀ t : Fin grid0.N, _)

/-- Every block of the box is SOME flushing point's: `onto7Pt`, the point that writes back the block at place `q` of the box. -/
abbrev onto7Pt (q0 : Fin 64) (q1 : Fin 1) : Fin grid0.N :=
  ⟨1 * q0.val + 1 * q1.val, lt_of_lt_of_eq (by omega) N_0.symm⟩
theorem idx_onto7 : ∀ (q0 : Fin 64) (q1 : Fin 1), ∃ t : Fin cfg0.N, (cfg0.win 7).flush t = true ∧ win0_7.index t = ![q0.val + 0, q1.val + 0] :=
  fun q0 q1 => ⟨onto7Pt q0 q1, (by decide +kernel : ∀ (q0 : Fin 64) (q1 : Fin 1), win0_7.flush (onto7Pt q0 q1) = true ∧ win0_7.index (onto7Pt q0 q1) = ![q0.val + 0, q1.val + 0]) q0 q1⟩

/-- WHAT A FLUSHING POINT `t` WRITES BACK is block `t` of `G7`: output 7's component of the fold up to `t`. -/
theorem flushed7_eq (c : Dev nD) (t : Fin cfg0.N) (hf : (cfg0.win 7).flush t = true) :
    (dats m 0 c).flushed 7 t = ((cfg0.win 7).blk t).view.read (Elt F) (G7 m c) := by
  show (cfg0.win 7).cut (grid0.coords t) ((dats m 0 c).after 7 t) = _
  rw [after0_7, outsAt0_sweep]
  obtain ⟨e0, e1, e2⟩ := idx_facts7 t
  funext y
  have hy0 : (y 0).val < 256 := (y 0).isLt
  have hy1 : (y 1).val < 1 := (y 1).isLt
  have hb0 : (((cfg0.win 7).blk t).view.emb y 0).val = win0_7.index t (0 : Fin 2) * 256 + 1 * (y 0).val := rfl
  have hb1 : (((cfg0.win 7).blk t).view.emb y 1).val = win0_7.index t (1 : Fin 2) * 1 + 1 * (y 1).val := rfl
  have hr : run7Of (((cfg0.win 7).blk t).view.emb y) = t.val := by
    show 1 * ((((cfg0.win 7).blk t).view.emb y 0).val / 256 - 0) + 1 * ((((cfg0.win 7).blk t).view.emb y 1).val / 1 - 0) = _
    rw [hb0, hb1]
    rw [show (win0_7.index t (0 : Fin 2) * 256 + 1 * (y 0).val) / 256 = win0_7.index t (0 : Fin 2) from by omega]; rw [show (win0_7.index t (1 : Fin 2) * 1 + 1 * (y 1).val) / 1 = win0_7.index t (1 : Fin 2) from by omega]
    omega
  have hl : loc7Of (((cfg0.win 7).blk t).view.emb y) = (cfg0.win 7).xinj (grid0.coords t) y := by
    funext a; apply Fin.ext
    match a with
    | ⟨0, _⟩ => show (((cfg0.win 7).blk t).view.emb y 0).val % 256 = (y 0).val; rw [hb0]; omega
    | ⟨1, _⟩ => show (((cfg0.win 7).blk t).view.emb y 1).val % 1 = (y 1).val; rw [hb1]; omega
  have hp : pt7Of (((cfg0.win 7).blk t).view.emb y) = t.val := by
    exact hr
  show (Pipeline.accAt (fun n h => stAt0 m c n h junk0) (stAt0 m c) 0 t.val _).2.2.1 ((cfg0.win 7).xinj (grid0.coords t) y) = G7 m c (((cfg0.win 7).blk t).view.emb y)
  unfold G7
  rw [dif_pos (by rw [hp]; exact t.isLt), hl, fold0_congr m c _ _ _ _ hp.symm]

/-- An index of the array is in point `t`'s block iff each coordinate is in the block's range on its axis. -/
theorem mem_blk7 (t : Fin cfg0.N) (i : S16384x1.Idx) :
    i ∈ ((cfg0.win 7).blk t).view.set ↔ ∀ a : Fin 2, win0_7.index t a * S256x1.size a ≤ (i a).val ∧ (i a).val < win0_7.index t a * S256x1.size a + S256x1.size a := by
  show i ∈ ((View.whole main_v10_2).slice (win0_7.rect t)).set ↔ _
  rw [View.set_slice_whole, Rect.mem_set_unit]
  exact Iff.rfl

/-- THE COVERED INDICES: in some flushing point's block iff inside the box those blocks fill. -/
theorem covered_iff7 (i : S16384x1.Idx) :
    (∃ t : Fin cfg0.N, (cfg0.win 7).flush t = true ∧ i ∈ ((cfg0.win 7).blk t).view.set) ↔ 0 ≤ (i 0).val ∧ (i 0).val < 16384 ∧ 0 ≤ (i 1).val ∧ (i 1).val < 1 := by
  constructor
  · rintro ⟨t, -, hi⟩
    rw [mem_blk7] at hi
    have b0 : win0_7.index t (0 : Fin 2) * 256 ≤ (i 0).val ∧ (i 0).val < win0_7.index t (0 : Fin 2) * 256 + 256 := hi 0
    have b1 : win0_7.index t (1 : Fin 2) * 1 ≤ (i 1).val ∧ (i 1).val < win0_7.index t (1 : Fin 2) * 1 + 1 := hi 1
    obtain ⟨e0, e1, e2⟩ := idx_facts7 t
    omega
  · intro h
    have hi0 : (i 0).val < 16384 := (i 0).isLt
    have hi1 : (i 1).val < 1 := (i 1).isLt
    obtain ⟨t, hft, ht⟩ := idx_onto7 ⟨(i 0).val / 256 - 0, by omega⟩ ⟨(i 1).val / 1 - 0, by omega⟩
    have q0 : win0_7.index t (0 : Fin 2) = (i 0).val / 256 - 0 + 0 := congrFun ht 0
    have q1 : win0_7.index t (1 : Fin 2) = (i 1).val / 1 - 0 + 0 := congrFun ht 1
    refine ⟨t, hft, ?_⟩
    rw [mem_blk7]
    intro a
    match a with
    | ⟨0, _⟩ => show win0_7.index t (0 : Fin 2) * 256 ≤ (i 0).val ∧ (i 0).val < win0_7.index t (0 : Fin 2) * 256 + 256; omega
    | ⟨1, _⟩ => show win0_7.index t (1 : Fin 2) * 1 ≤ (i 1).val ∧ (i 1).val < win0_7.index t (1 : Fin 2) * 1 + 1; omega

/-- THE ARRAY after the run: `G7` (the flushing blocks tile it). -/
theorem final7 (c : Dev nD) : (dats m 0 c).arrAt 7 cfg0.N = G7 m c :=
  (dats m 0 c).arrAt_eq_of_cover 7 _ (fun t hf => flushed7_eq m c t hf) (fun i => (covered_iff7 i).2 (by
    have h0 : (i 0).val < 16384 := (i 0).isLt; have h1 : (i 1).val < 1 := (i 1).isLt; omega))

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v10_0) = G5 m c
      ∧ r.2.mem ((c : Thread nD τ).loc main_v10_1) = G6 m c
      ∧ r.2.mem ((c : Thread nD τ).loc main_v10_2) = G7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(post5 m r h c).trans (final5 m c),
      (post6 m r h c).trans (final6 m c),
      (post7 m r h c).trans (final7 m c),
      kept_main_arg0 m r h c,
      kept_main_arg1 m r h c,
      kept_main_arg2 m r h c,
      kept_main_arg3 m r h c,
      kept_main_arg4 m r h c⟩)
    (run_main m ρ)

end Cert.KernelIdeal.Own.Value

end
-- ==== Proof.Mix.lean ====
/- ONE TRIP OF THE MIXING LOOP: what its stores write, as one formula in the slabs it reads. -/
module

public import proofs.«01_k».proof.Proof.Gen.KernelIdeal.Loops
public import Idealize.ShloMosaic.Lib.Pipeline.ValueKit

@[expose] public section

set_option maxRecDepth 16384

noncomputable section

namespace Cert.KernelIdeal.Own

open Idealize.ShloMosaic Idealize.ShloMosaic.TcCoe Idealize.ShloMosaic.Tactic
open Idealize.SL.Sem
open Cert.KernelIdeal Cert.KernelIdeal.Gen

variable {F : FTy → Type} [FloatOps F]

/-- One mixed slab: the nineteen 16-row slabs weighted by one row of the mixing matrix, added from the left, then scaled. -/
def mixRow (T : Fin 19 → Vec F S1x16x256 .f32) (H : Fin 19 → Elt F .f32) : FVec F S16x256 .f32 :=
  let p (i : Fin 19) : FVec F S16x256 .f32 := mulf (shapeCast S16x256 (T i) shapeCasts_S1x16x256_S16x256) (broadcast S16x256 (H i))
  mulf (addf (addf (addf (addf (addf (addf (addf (addf (addf (addf (addf (addf (addf (addf (addf (addf (addf (addf
    (p 0) (p 1)) (p 2)) (p 3)) (p 4)) (p 5)) (p 6)) (p 7)) (p 8)) (p 9)) (p 10)) (p 11)) (p 12)) (p 13)) (p 14)) (p 15)) (p 16)) (p 17)) (p 18))
    (broadcast S16x256 (Scalar.ofBits .f32 0x3C6AEBF5#32))

/-- The running maximum of the magnitudes of the nineteen mixed slabs, from zero. -/
def amaxRow (T : Fin 19 → Vec F S1x16x256 .f32) (H : Fin 19 → Fin 19 → Elt F .f32) : FVec F S16x256 .f32 :=
  let q (j : Fin 19) : FVec F S16x256 .f32 := absf (mixRow T (H j))
  maximumf (maximumf (maximumf (maximumf (maximumf (maximumf (maximumf (maximumf (maximumf (maximumf (maximumf (maximumf (maximumf
    (maximumf (maximumf (maximumf (maximumf (maximumf (maximumf
    (broadcast S16x256 (Scalar.ofBits .f32 0x00000000#32))
    (q 0)) (q 1)) (q 2)) (q 3)) (q 4)) (q 5)) (q 6)) (q 7)) (q 8)) (q 9)) (q 10)) (q 11)) (q 12)) (q 13)) (q 14)) (q 15)) (q 16)) (q 17)) (q 18)

/-- The scale of sixteen tokens from that maximum: its largest lane over seven, or one where that is zero. -/
def scaleRow (A : FVec F S16x256 .f32) : FVec F S16x1 .f32 :=
  let a : FVec F S16x1 .f32 := shapeCast S16x1 (multiReduction .maximumf [1] S16 A 0xFF800000#32 reduces_S16x256_S16 (.inl rfl) rfl) shapeCasts_S16_S16x1
  select (cmpf .oeq a (broadcast S16x1 (Scalar.ofBits .f32 0x00000000#32))) (broadcast S16x1 (Scalar.ofBits .f32 0x3F800000#32))
    (divf a (broadcast S16x1 (Scalar.ofBits .f32 0x40E00000#32)))

variable (𝒱 : Variants) (c : Dev nD) (bd : Option 𝒱.V) (i : grid0.Coords)
  (arg1 : Memref sig .tc .smem S19x19 .f32) (harg1 : arg1.IsWhole) (arg2 : Memref sig .tc .vmem S256x4864 .bf16) (harg2 : arg2.IsWhole)
  (arg3 : Memref sig .tc .vmem S2432x896 .i8) (harg3 : arg3.IsWhole) (arg4 : Memref sig .tc .vmem S38x896 .f32) (harg4 : arg4.IsWhole)
  (arg5 : Memref sig .tc .vmem S1x896 .f32) (harg5 : arg5.IsWhole) (arg6 : Memref sig .tc .vmem S256x896 .bf16) (harg6 : arg6.IsWhole)
  (arg7 : Memref sig .tc .vmem S256x4864 .i8) (harg7 : arg7.IsWhole) (arg8 : Memref sig .tc .vmem S256x1 .f32) (harg8 : arg8.IsWhole)
  (arg9 : Memref sig .tc .vmem S4864x896 .fp8e4m3) (harg9 : arg9.IsWhole) (arg10 : Memref sig .tc .vmem S19x256x256 .f32) (harg10 : arg10.IsWhole)
  (arg11 : Memref sig .tc .vmem S19x256x256 .f32) (harg11 : arg11.IsWhole) (arg12 : Memref sig .tc .vmem S256x4864 .fp8e4m3) (harg12 : arg12.IsWhole)
  (v14 : FVec F S256x256 .bf16) (v113 : FVec F S256x256 .f32) (v114 : Vec F S1x256x256 .f32)
  (X1 : BufTy.Contents (Elt F) arg1.view.ty) (X10 : BufTy.Contents (Elt F) arg10.view.ty) (k : Fin k0_t1_loop.trips)

/-- The slabs the trip loads, in order. -/
def slabs : Fin 19 → Vec F S1x16x256 .f32 :=
  ![View.readAt (Elt F) arg10.view (Rect.unit (s := S19x256x256) (k0_off1 k) S1x16x256.size (k0_off1_inb k)).toLoadRect X10,
    View.readAt (Elt F) arg10.view (Rect.unit (s := S19x256x256) (k0_off2 k) S1x16x256.size (k0_off2_inb k)).toLoadRect X10,
    View.readAt (Elt F) arg10.view (Rect.unit (s := S19x256x256) (k0_off3 k) S1x16x256.size (k0_off3_inb k)).toLoadRect X10,
    View.readAt (Elt F) arg10.view (Rect.unit (s := S19x256x256) (k0_off4 k) S1x16x256.size (k0_off4_inb k)).toLoadRect X10,
    View.readAt (Elt F) arg10.view (Rect.unit (s := S19x256x256) (k0_off5 k) S1x16x256.size (k0_off5_inb k)).toLoadRect X10,
    View.readAt (Elt F) arg10.view (Rect.unit (s := S19x256x256) (k0_off6 k) S1x16x256.size (k0_off6_inb k)).toLoadRect X10,
    View.readAt (Elt F) arg10.view (Rect.unit (s := S19x256x256) (k0_off7 k) S1x16x256.size (k0_off7_inb k)).toLoadRect X10,
    View.readAt (Elt F) arg10.view (Rect.unit (s := S19x256x256) (k0_off8 k) S1x16x256.size (k0_off8_inb k)).toLoadRect X10,
    View.readAt (Elt F) arg10.view (Rect.unit (s := S19x256x256) (k0_off9 k) S1x16x256.size (k0_off9_inb k)).toLoadRect X10,
    View.readAt (Elt F) arg10.view (Rect.unit (s := S19x256x256) (k0_off10 k) S1x16x256.size (k0_off10_inb k)).toLoadRect X10,
    View.readAt (Elt F) arg10.view (Rect.unit (s := S19x256x256) (k0_off11 k) S1x16x256.size (k0_off11_inb k)).toLoadRect X10,
    View.readAt (Elt F) arg10.view (Rect.unit (s := S19x256x256) (k0_off12 k) S1x16x256.size (k0_off12_inb k)).toLoadRect X10,
    View.readAt (Elt F) arg10.view (Rect.unit (s := S19x256x256) (k0_off13 k) S1x16x256.size (k0_off13_inb k)).toLoadRect X10,
    View.readAt (Elt F) arg10.view (Rect.unit (s := S19x256x256) (k0_off14 k) S1x16x256.size (k0_off14_inb k)).toLoadRect X10,
    View.readAt (Elt F) arg10.view (Rect.unit (s := S19x256x256) (k0_off15 k) S1x16x256.size (k0_off15_inb k)).toLoadRect X10,
    View.readAt (Elt F) arg10.view (Rect.unit (s := S19x256x256) (k0_off16 k) S1x16x256.size (k0_off16_inb k)).toLoadRect X10,
    View.readAt (Elt F) arg10.view (Rect.unit (s := S19x256x256) (k0_off17 k) S1x16x256.size (k0_off17_inb k)).toLoadRect X10,
    View.readAt (Elt F) arg10.view (Rect.unit (s := S19x256x256) (k0_off18 k) S1x16x256.size (k0_off18_inb k)).toLoadRect X10,
    View.readAt (Elt F) arg10.view (Rect.unit (s := S19x256x256) (k0_off19 k) S1x16x256.size (k0_off19_inb k)).toLoadRect X10]

theorem had_inb (j l : Fin 19) : ∀ a, (![j.val, l.val] : Fin 2 → Nat) a + S1x1.size a ≤ S19x19.size a := by
  revert j l; decide +kernel

/-- One weight of the mixing matrix, as the body loads it. -/
def hads (j l : Fin 19) : Elt F .f32 :=
  View.readAt (Elt F) arg1.view (Rect.unit (s := S19x19) ![j.val, l.val] S1x1.size (had_inb j l)).toLoadRect X1 (Shape.Idx.first (s := S1x1) (by decide))

/-- One stored slab: the mix of the loaded slabs by one row of weights. -/
abbrev piece (T : Fin 19 → Vec F S1x16x256 .f32) (H : Fin 19 → Elt F .f32) (off : Fin 3 → Nat) (inb : ∀ a, off a + S1x16x256.size a ≤ S19x256x256.size a) :
    View.Piece (Elt F) S19x256x256 .f32 :=
  ⟨Rect.unit (s := S19x256x256) off S1x16x256.size inb, shapeCast S1x16x256 (mixRow T H) shapeCasts_S16x256_S1x16x256⟩

set_option maxHeartbeats 400000 in
/-- The slabs one trip stores, last first. -/
theorem trip_slabs :
    (tripL_k0_t1 (F := F) 𝒱 c bd i arg1 harg1 arg2 harg2 arg3 harg3 arg4 harg4 arg5 harg5 arg6 harg6 arg7 harg7 arg8 harg8 arg9 harg9 arg10 harg10 arg11 harg11 arg12 harg12 v14 v113 v114 X1 X10 k).2
      = [piece (slabs arg10 X10 k) (hads arg1 X1 18) (k0_off19 k) (k0_off19_inb k),
         piece (slabs arg10 X10 k) (hads arg1 X1 17) (k0_off18 k) (k0_off18_inb k),
         piece (slabs arg10 X10 k) (hads arg1 X1 16) (k0_off17 k) (k0_off17_inb k),
         piece (slabs arg10 X10 k) (hads arg1 X1 15) (k0_off16 k) (k0_off16_inb k),
         piece (slabs arg10 X10 k) (hads arg1 X1 14) (k0_off15 k) (k0_off15_inb k),
         piece (slabs arg10 X10 k) (hads arg1 X1 13) (k0_off14 k) (k0_off14_inb k),
         piece (slabs arg10 X10 k) (hads arg1 X1 12) (k0_off13 k) (k0_off13_inb k),
         piece (slabs arg10 X10 k) (hads arg1 X1 11) (k0_off12 k) (k0_off12_inb k),
         piece (slabs arg10 X10 k) (hads arg1 X1 10) (k0_off11 k) (k0_off11_inb k),
         piece (slabs arg10 X10 k) (hads arg1 X1 9) (k0_off10 k) (k0_off10_inb k),
         piece (slabs arg10 X10 k) (hads arg1 X1 8) (k0_off9 k) (k0_off9_inb k),
         piece (slabs arg10 X10 k) (hads arg1 X1 7) (k0_off8 k) (k0_off8_inb k),
         piece (slabs arg10 X10 k) (hads arg1 X1 6) (k0_off7 k) (k0_off7_inb k),
         piece (slabs arg10 X10 k) (hads arg1 X1 5) (k0_off6 k) (k0_off6_inb k),
         piece (slabs arg10 X10 k) (hads arg1 X1 4) (k0_off5 k) (k0_off5_inb k),
         piece (slabs arg10 X10 k) (hads arg1 X1 3) (k0_off4 k) (k0_off4_inb k),
         piece (slabs arg10 X10 k) (hads arg1 X1 2) (k0_off3 k) (k0_off3_inb k),
         piece (slabs arg10 X10 k) (hads arg1 X1 1) (k0_off2 k) (k0_off2_inb k),
         piece (slabs arg10 X10 k) (hads arg1 X1 0) (k0_off1 k) (k0_off1_inb k)] := by
  dsimp only [tripL_k0_t1]
  unfold trip_k0_t1
  rfl

set_option maxHeartbeats 400000 in
/-- The sixteen scales one trip stores. -/
theorem trip_scales :
    (tripL_k0_t1 (F := F) 𝒱 c bd i arg1 harg1 arg2 harg2 arg3 harg3 arg4 harg4 arg5 harg5 arg6 harg6 arg7 harg7 arg8 harg8 arg9 harg9 arg10 harg10 arg11 harg11 arg12 harg12 v14 v113 v114 X1 X10 k).1
      = [⟨Rect.unit (s := S256x1) (k0_off20 k) S16x1.size (k0_off20_inb k), scaleRow (amaxRow (slabs arg10 X10 k) (hads arg1 X1))⟩] := by
  dsimp only [tripL_k0_t1]
  unfold trip_k0_t1
  rfl

end Cert.KernelIdeal.Own

end
-- ==== Proof.Spec.lean ====
module

public import Idealize.ShloMosaic.Lib.Pointwise

@[expose] public section

set_option maxRecDepth 16384

noncomputable section

/-! The mathematics both programs are compared with, over the extended reals: a token's rotated vector, its scale,
its codes. One token is a vector of 4864 = 19 × 256 entries. -/

namespace Cert.Spec

open Idealize.ShloMosaic

/-- One sign of the 256-point Hadamard matrix: the parity of the bits `p` and `q` share. -/
def sgn (p q : Fin 256) : EReal :=
  FloatOps.sitofp (F := Ideal) FTy.f32
    (IntOp.subi (1#32) (IntOp.muli (2#32) (IntOp.andi (IntOp.ctpop (IntOp.andi (BitVec.ofNat 32 p.val) (BitVec.ofNat 32 q.val))) 1#32)))

/-- Entry `256 k + p` of a vector of 4864. -/
def at2 (k : Fin 19) (p : Fin 256) : Fin 4864 := ⟨256 * k.val + p.val, by omega⟩

/-- Column block `k` of the vector through the 256-point transform. -/
def tr (x : Fin 4864 → EReal) (k : Fin 19) (q : Fin 256) : EReal := ∑ p : Fin 256, x (at2 k p) * sgn p q

/-- The nineteen transformed blocks mixed by row `j` of the mixing matrix, scaled by one over sixteen root nineteen. -/
def mix (t : Fin 19 → Fin 256 → EReal) (h : Fin 19 → Fin 19 → EReal) (j : Fin 19) (q : Fin 256) : EReal :=
  (∑ k : Fin 19, t k q * h j k) * Ideal.ofBits FTy.f32 1013640181#32

/-- The largest magnitude over the nineteen blocks, at one lane, from zero. -/
def amaxLane (r : Fin 19 → Fin 256 → EReal) (q : Fin 256) : EReal :=
  Finset.fold max 0 (fun j => max (r j q) (-(r j q))) Finset.univ

/-- The largest magnitude of the rotated vector. -/
def amax (r : Fin 19 → Fin 256 → EReal) : EReal :=
  Finset.fold max (Ideal.ofBits FTy.f32 4286578688#32) (amaxLane r) Finset.univ

/-- The scale a largest magnitude gives: itself over seven, one where it is zero. -/
def scaleOf (a : EReal) : EReal := if a = 0 then 1 else Ideal.div a (Ideal.ofBits FTy.f32 1088421888#32)

/-- An entry over the scale, rounded to the nearest integer and kept in [-7, 7]. -/
def quant (r s : EReal) : EReal :=
  min (Ideal.ofBits FTy.f32 1088421888#32) (max (Ideal.ofBits FTy.f32 3235905536#32) (FloatOps.roundeven (F := Ideal) (φ := .f32) (Ideal.div r s)))

/-- A four-bit word as the signed number it stands for. -/
def nib (v : BitVec 32) : EReal :=
  FloatOps.sitofp (F := Ideal) FTy.f32 (Scalar.select (IntOp.cmpi .sge v 8#32) (IntOp.subi v 16#32) v)

/-- The decoded weight at row `n`, from its packed byte and its group's power of two: the low nibble on even rows, the high on odd. -/
def wEnt (b : BitVec 8) (e : EReal) (n : Nat) : EReal :=
  if n % 2 = 0 then nib (IntOp.andi (b.setWidth 32) 15#32) * e
  else nib (IntOp.andi (IntOp.shrsi .vector (b.setWidth 32) 4#32) 15#32) * e

/-- Two to the minus `b`, as the host computes it. -/
def pow2 (b : BitVec 8) : EReal := Ideal.exp (Ideal.ofBits .f32 1060205080#32 * -FloatOps.sitofp (F := Ideal) .f32 (b.setWidth 32))

theorem sitofp_neg (b : BitVec 8) : FloatOps.sitofp (F := Ideal) .f32 (-b.setWidth 32) = -FloatOps.sitofp (F := Ideal) .f32 (b.setWidth 32) := by
  have h : (-b.setWidth 32).toInt = -(b.setWidth 32).toInt := by revert b; decide +kernel
  show (((-b.setWidth 32).toInt : ℝ) : EReal) = -(((b.setWidth 32).toInt : ℝ) : EReal)
  rw [h, Int.cast_neg, EReal.coe_neg]

theorem sgn_symm (p q : Fin 256) : sgn p q = sgn q p := by
  unfold sgn
  rw [show IntOp.andi (BitVec.ofNat 32 p.val) (BitVec.ofNat 32 q.val) = IntOp.andi (BitVec.ofNat 32 q.val) (BitVec.ofNat 32 p.val) from BitVec.and_comm _ _]

/-- Token `r` of the sixteen batches of 1024 laid end to end. -/
def tokOf (X : (⟨3, ![16, 1024, 4864]⟩ : Shape).Idx → EReal) (r : Fin 16384) (k : Fin 4864) : EReal :=
  X (ix3 ⟨r.val / 1024, by omega⟩ ⟨r.val % 1024, by omega⟩ k)

end Cert.Spec

end
-- ==== Proof.MixValue.lean ====
module

public import proofs.«01_k».proof.Proof.Mix
public import proofs.«01_k».proof.Proof.Spec

@[expose] public section

set_option maxRecDepth 16384

noncomputable section

/-! The loop's mixing step read at one element, and what the slabs and scales of all trips hold. -/

namespace Cert.KernelIdeal.Own

open Idealize.ShloMosaic Idealize.ShloMosaic.TcCoe Idealize.ShloMosaic.Tactic
open Idealize.SL.Sem
open Cert.KernelIdeal Cert.KernelIdeal.Gen Cert.Spec

theorem mixRow_apply (T : Fin 19 → Vec Ideal S1x16x256 .f32) (H : Fin 19 → Elt Ideal .f32) (r : Fin 16) (q : Fin 256) :
    mixRow (F := Ideal) T H (ix2 r q) = (∑ k, T k (ix3 0 r q) * H k) * Ideal.ofBits FTy.f32 1013640181#32 := by
  rw [Fin.sum_univ_castSucc, Fin.sum_univ_castSucc, Fin.sum_univ_castSucc, Fin.sum_univ_castSucc, Fin.sum_univ_castSucc,
    Fin.sum_univ_castSucc, Fin.sum_univ_castSucc, Fin.sum_univ_castSucc, Fin.sum_univ_castSucc, Fin.sum_univ_castSucc,
    Fin.sum_univ_castSucc, Fin.sum_univ_eight]
  pointwise [mixRow]
  rfl

/-- A maximum over one more entry is the larger of the maximum so far and that entry. -/
theorem fold_max_castSucc {n : Nat} (b : EReal) (f : Fin (n + 1) → EReal) :
    Finset.fold max b f Finset.univ = max (Finset.fold max b (fun i : Fin n => f i.castSucc) Finset.univ) (f (Fin.last n)) :=
  eq_of_forall_ge_iff fun c => by
    simp only [Finset.fold_max_le, Finset.mem_univ, true_implies, Fin.forall_fin_succ', max_le_iff, and_assoc]

theorem fold_max_fin0 (b : EReal) (f : Fin 0 → EReal) : Finset.fold max b f Finset.univ = b := by
  rw [Finset.univ_eq_empty, Finset.fold_empty]

theorem amaxRow_apply (T : Fin 19 → Vec Ideal S1x16x256 .f32) (H : Fin 19 → Fin 19 → Elt Ideal .f32) (r : Fin 16) (q : Fin 256) :
    amaxRow (F := Ideal) T H (ix2 r q)
      = amaxLane (fun j q => mixRow (F := Ideal) T (H j) (ix2 r q)) q := by
  unfold amaxLane
  repeat rw [fold_max_castSucc]
  rw [fold_max_fin0]
  pointwise [amaxRow]
  rfl

theorem scaleRow_apply (A : FVec Ideal S16x256 .f32) (r : Fin 16) :
    scaleRow (F := Ideal) A (ix2 r 0)
      = scaleOf (Finset.fold max (Ideal.ofBits FTy.f32 4286578688#32) (fun q => A (ix2 r q)) Finset.univ) := by
  pointwise [scaleRow]
  rfl

/-- The index a unit-stride rectangle puts an entry at, from its coordinates. -/
theorem emb_unit_eq {s : Shape} (off size : Fin s.rank → Nat) (inb) (x : (Rect.unit off size inb).shape.Idx) (i : s.Idx)
    (h : ∀ a, (i a : Nat) = off a + x a) : (Rect.unit off size inb).emb x = i :=
  funext fun a => Fin.ext ((Rect.idx_unit_val off size inb x a).trans (h a).symm)

/-- The mixed array, from the transformed array and the mixing matrix. -/
def mixArr (T : FVec Ideal S19x256x256 .f32) (h : Fin 19 → Fin 19 → EReal) : FVec Ideal S19x256x256 .f32 :=
  fun i => mix (fun k q => T (ix3 k (i 1) q)) h (i 0) (i 2)

/-- The scales, from the mixed array. -/
def scaleArr (R : FVec Ideal S19x256x256 .f32) : FVec Ideal S256x1 .f32 :=
  fun i => scaleOf (amax fun j q => R (ix3 j (i 0) q))

variable (𝒱 : Variants) (c : Dev nD) (bd : Option 𝒱.V) (i : grid0.Coords)
  (arg1 : Memref sig .tc .smem S19x19 .f32) (harg1 : arg1.IsWhole) (arg2 : Memref sig .tc .vmem S256x4864 .bf16) (harg2 : arg2.IsWhole)
  (arg3 : Memref sig .tc .vmem S2432x896 .i8) (harg3 : arg3.IsWhole) (arg4 : Memref sig .tc .vmem S38x896 .f32) (harg4 : arg4.IsWhole)
  (arg5 : Memref sig .tc .vmem S1x896 .f32) (harg5 : arg5.IsWhole) (arg6 : Memref sig .tc .vmem S256x896 .bf16) (harg6 : arg6.IsWhole)
  (arg7 : Memref sig .tc .vmem S256x4864 .i8) (harg7 : arg7.IsWhole) (arg8 : Memref sig .tc .vmem S256x1 .f32) (harg8 : arg8.IsWhole)
  (arg9 : Memref sig .tc .vmem S4864x896 .fp8e4m3) (harg9 : arg9.IsWhole) (arg10 : Memref sig .tc .vmem S19x256x256 .f32) (harg10 : arg10.IsWhole)
  (arg11 : Memref sig .tc .vmem S19x256x256 .f32) (harg11 : arg11.IsWhole) (arg12 : Memref sig .tc .vmem S256x4864 .fp8e4m3) (harg12 : arg12.IsWhole)
  (v14 : FVec Ideal S256x256 .bf16) (v113 : FVec Ideal S256x256 .f32) (v114 : Vec Ideal S1x256x256 .f32)
  (X1 : BufTy.Contents (Elt Ideal) arg1.view.ty) (X10 : BufTy.Contents (Elt Ideal) arg10.view.ty)

theorem slab_at (off : Fin 3 → Nat) (inb : ∀ a, off a + S1x16x256.size a ≤ S19x256x256.size a) (a : Fin 19) (b : Nat)
    (hoff : off = ![a.val, b, 0]) (r : Fin 16) (q : Fin 256) (h : b + r.val < 256) :
    View.readAt (Elt Ideal) arg10.view (Rect.unit (s := S19x256x256) off S1x16x256.size inb).toLoadRect X10 (ix3 0 r q)
      = arg10.view.read (Elt Ideal) X10 (ix3 a ⟨b + r.val, h⟩ q) := by
  subst hoff
  rw [View.readAt_eq_ld]
  exact View.ld_unit_apply_of _ _ _ _ _ _ (by intro d; fin_cases d <;> simp [ix3])

theorem row_lt (k : Fin k0_t1_loop.trips) (r : Fin 16) : 16 * k.val + r.val < 256 := by
  have := k0_t1_abs.2.1; have := k.isLt; omega

set_option maxHeartbeats 2000000 in
theorem slabs_apply (k : Fin k0_t1_loop.trips) (l : Fin 19) (r : Fin 16) (q : Fin 256) :
    slabs (F := Ideal) arg10 X10 k l (ix3 0 r q) = arg10.view.read (Elt Ideal) X10 (ix3 l ⟨16 * k.val + r.val, row_lt k r⟩ q) := by
  fin_cases l
  · exact slab_at arg10 X10 _ _ 0 _ (k0_off1_eq k) r q _
  · exact slab_at arg10 X10 _ _ 1 _ (k0_off2_eq k) r q _
  · exact slab_at arg10 X10 _ _ 2 _ (k0_off3_eq k) r q _
  · exact slab_at arg10 X10 _ _ 3 _ (k0_off4_eq k) r q _
  · exact slab_at arg10 X10 _ _ 4 _ (k0_off5_eq k) r q _
  · exact slab_at arg10 X10 _ _ 5 _ (k0_off6_eq k) r q _
  · exact slab_at arg10 X10 _ _ 6 _ (k0_off7_eq k) r q _
  · exact slab_at arg10 X10 _ _ 7 _ (k0_off8_eq k) r q _
  · exact slab_at arg10 X10 _ _ 8 _ (k0_off9_eq k) r q _
  · exact slab_at arg10 X10 _ _ 9 _ (k0_off10_eq k) r q _
  · exact slab_at arg10 X10 _ _ 10 _ (k0_off11_eq k) r q _
  · exact slab_at arg10 X10 _ _ 11 _ (k0_off12_eq k) r q _
  · exact slab_at arg10 X10 _ _ 12 _ (k0_off13_eq k) r q _
  · exact slab_at arg10 X10 _ _ 13 _ (k0_off14_eq k) r q _
  · exact slab_at arg10 X10 _ _ 14 _ (k0_off15_eq k) r q _
  · exact slab_at arg10 X10 _ _ 15 _ (k0_off16_eq k) r q _
  · exact slab_at arg10 X10 _ _ 16 _ (k0_off17_eq k) r q _
  · exact slab_at arg10 X10 _ _ 17 _ (k0_off18_eq k) r q _
  · exact slab_at arg10 X10 _ _ 18 _ (k0_off19_eq k) r q _

theorem hads_apply (j l : Fin 19) : hads (F := Ideal) arg1 X1 j l = arg1.view.read (Elt Ideal) X1 (ix2 j l) := by
  unfold hads
  rw [View.readAt_eq_ld]
  exact View.ld_unit_apply_of _ _ _ _ _ _ (by intro d; fin_cases d <;> simp [ix2, Shape.Idx.first])

/-- What the mixing matrix and the transformed array hold. -/
abbrev had : Fin 19 → Fin 19 → EReal := fun j l => arg1.view.read (Elt Ideal) X1 (ix2 j l)

theorem mixRow_slabs (k : Fin k0_t1_loop.trips) (j : Fin 19) (r : Fin 16) (q : Fin 256) :
    mixRow (F := Ideal) (slabs arg10 X10 k) (hads arg1 X1 j) (ix2 r q)
      = mixArr (arg10.view.read (Elt Ideal) X10) (had arg1 X1) (ix3 j ⟨16 * k.val + r.val, row_lt k r⟩ q) := by
  rw [mixRow_apply]
  refine congrArg (· * _) (Finset.sum_congr rfl fun l _ => ?_)
  rw [slabs_apply, hads_apply]
  rfl

theorem piece_apply (k : Fin k0_t1_loop.trips) (j : Fin 19) (off : Fin 3 → Nat) (inb) (hoff : off = ![j.val, 16 * k.val, 0])
    (x : S1x16x256.Idx) :
    (piece (F := Ideal) (slabs arg10 X10 k) (hads arg1 X1 j) off inb).2 x
      = mixArr (arg10.view.read (Elt Ideal) X10) (had arg1 X1) ((piece (F := Ideal) (slabs arg10 X10 k) (hads arg1 X1 j) off inb).1.emb x) := by
  subst hoff
  idx_vars x
  rw [emb_unit_eq _ _ _ _ (ix3 j ⟨16 * k.val + x1.val, row_lt k x1⟩ x2) (by intro d; fin_cases d <;> simp [ix3]), ← mixRow_slabs]
  pointwise

/-- Every slab stored by the trips before `n` is a block of the mixed array. -/
theorem pb_slabs (n : Nat) (hn : n ≤ k0_t1_loop.trips) :
    ∀ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 v14 v113 v114 X1 X10 n).2,
      ∀ x : p.1.shape.Idx, p.2 x = mixArr (arg10.view.read (Elt Ideal) X10) (had arg1 X1) (p.1.emb x) := by
  induction n with
  | zero => intro p hp; exact absurd hp List.not_mem_nil
  | succ n ih =>
    have hk : n < k0_t1_loop.trips := hn
    rw [pb_k0_t1_succ 𝒱 c bd i arg1 harg1 arg2 harg2 arg3 harg3 arg4 harg4 arg5 harg5 arg6 harg6 arg7 harg7 arg8 harg8 arg9 harg9 arg10 harg10 arg11 harg11 arg12 harg12 v14 v113 v114 X1 X10 ⟨n, hk⟩]
    intro p hp
    rcases List.mem_append.mp hp with hp | hp
    · rw [trip_slabs] at hp
      simp only [List.mem_cons, List.not_mem_nil, or_false] at hp
      rcases hp with rfl | rfl | rfl | rfl | rfl | rfl | rfl | rfl | rfl | rfl | rfl | rfl | rfl | rfl | rfl | rfl | rfl | rfl | rfl
      · exact piece_apply arg1 arg10 X1 X10 ⟨n, hk⟩ 18 _ _ (k0_off19_eq _)
      · exact piece_apply arg1 arg10 X1 X10 ⟨n, hk⟩ 17 _ _ (k0_off18_eq _)
      · exact piece_apply arg1 arg10 X1 X10 ⟨n, hk⟩ 16 _ _ (k0_off17_eq _)
      · exact piece_apply arg1 arg10 X1 X10 ⟨n, hk⟩ 15 _ _ (k0_off16_eq _)
      · exact piece_apply arg1 arg10 X1 X10 ⟨n, hk⟩ 14 _ _ (k0_off15_eq _)
      · exact piece_apply arg1 arg10 X1 X10 ⟨n, hk⟩ 13 _ _ (k0_off14_eq _)
      · exact piece_apply arg1 arg10 X1 X10 ⟨n, hk⟩ 12 _ _ (k0_off13_eq _)
      · exact piece_apply arg1 arg10 X1 X10 ⟨n, hk⟩ 11 _ _ (k0_off12_eq _)
      · exact piece_apply arg1 arg10 X1 X10 ⟨n, hk⟩ 10 _ _ (k0_off11_eq _)
      · exact piece_apply arg1 arg10 X1 X10 ⟨n, hk⟩ 9 _ _ (k0_off10_eq _)
      · exact piece_apply arg1 arg10 X1 X10 ⟨n, hk⟩ 8 _ _ (k0_off9_eq _)
      · exact piece_apply arg1 arg10 X1 X10 ⟨n, hk⟩ 7 _ _ (k0_off8_eq _)
      · exact piece_apply arg1 arg10 X1 X10 ⟨n, hk⟩ 6 _ _ (k0_off7_eq _)
      · exact piece_apply arg1 arg10 X1 X10 ⟨n, hk⟩ 5 _ _ (k0_off6_eq _)
      · exact piece_apply arg1 arg10 X1 X10 ⟨n, hk⟩ 4 _ _ (k0_off5_eq _)
      · exact piece_apply arg1 arg10 X1 X10 ⟨n, hk⟩ 3 _ _ (k0_off4_eq _)
      · exact piece_apply arg1 arg10 X1 X10 ⟨n, hk⟩ 2 _ _ (k0_off3_eq _)
      · exact piece_apply arg1 arg10 X1 X10 ⟨n, hk⟩ 1 _ _ (k0_off2_eq _)
      · exact piece_apply arg1 arg10 X1 X10 ⟨n, hk⟩ 0 _ _ (k0_off1_eq _)
    · exact ih (Nat.le_of_lt hk) p hp

theorem scaleRow_slabs (k : Fin k0_t1_loop.trips) (r : Fin 16) :
    scaleRow (F := Ideal) (amaxRow (slabs arg10 X10 k) (hads arg1 X1)) (ix2 r 0)
      = scaleArr (mixArr (arg10.view.read (Elt Ideal) X10) (had arg1 X1)) (ix2 ⟨16 * k.val + r.val, row_lt k r⟩ 0) := by
  rw [scaleRow_apply]
  unfold scaleArr amax
  refine congrArg scaleOf (congrArg (fun f => Finset.fold max _ f Finset.univ) (funext fun q => ?_))
  rw [amaxRow_apply]
  refine congrArg (fun f => amaxLane f q) (funext fun j => funext fun q => ?_)
  rw [mixRow_slabs]
  rfl

/-- Every row of scales stored by the trips before `n` is a block of the scales of the mixed array. -/
theorem pb_scales (n : Nat) (hn : n ≤ k0_t1_loop.trips) :
    ∀ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 v14 v113 v114 X1 X10 n).1,
      ∀ x : p.1.shape.Idx, p.2 x = scaleArr (mixArr (arg10.view.read (Elt Ideal) X10) (had arg1 X1)) (p.1.emb x) := by
  induction n with
  | zero => intro p hp; exact absurd hp List.not_mem_nil
  | succ n ih =>
    have hk : n < k0_t1_loop.trips := hn
    rw [pb_k0_t1_succ 𝒱 c bd i arg1 harg1 arg2 harg2 arg3 harg3 arg4 harg4 arg5 harg5 arg6 harg6 arg7 harg7 arg8 harg8 arg9 harg9 arg10 harg10 arg11 harg11 arg12 harg12 v14 v113 v114 X1 X10 ⟨n, hk⟩]
    intro p hp
    rcases List.mem_append.mp hp with hp | hp
    · rw [trip_scales] at hp
      obtain rfl := List.mem_singleton.mp hp
      intro x
      obtain ⟨r, rfl⟩ : ∃ r : Fin 16, x = (ix2 r 0 : S16x1.Idx) :=
        ⟨x 0, funext fun a => by fin_cases a; rfl; exact Subsingleton.elim (α := Fin 1) _ _⟩
      rw [emb_unit_eq _ _ _ _ (ix2 ⟨16 * n + r.val, row_lt ⟨n, hk⟩ r⟩ 0) (fun d => by
        have h := congrFun (k0_off20_eq ⟨n, hk⟩) d
        refine Eq.trans ?_ (congrArg (· + _) h).symm
        fin_cases d <;> simp [ix2])]
      exact scaleRow_slabs arg1 arg10 X1 X10 ⟨n, hk⟩ r
    · exact ih (Nat.le_of_lt hk) p hp

end Cert.KernelIdeal.Own

end
-- ==== Proof.WPieces.lean ====
module

public import proofs.«01_k».proof.Proof.MixValue
public import Idealize.ShloMosaic.Lib.Pipeline.ReadBack

@[expose] public section

set_option maxRecDepth 16384

noncomputable section

/-! The decoded weights: what each of the thirty-eight chunks the first grid point decodes holds, and that together they are the one decoded matrix. -/

namespace Cert.KernelIdeal.Own

open Idealize.ShloMosaic Idealize.ShloMosaic.TcCoe Idealize.ShloMosaic.Tactic
open Idealize.SL.Sem
open Cert.KernelIdeal Cert.KernelIdeal.Gen Cert.Spec

/-- The decoded weight matrix: row `2 i` and row `2 i + 1` are the low and the high nibble of packed row `i`, times the
group's power of two. -/
def wArr (wp : Vec Ideal S2432x896 .i8) (pw : Vec Ideal S38x896 .f32) : FVec Ideal S4864x896 .fp8e4m3 :=
  fun i => wEnt (wp (ix2 ⟨(i 0).val / 2, by have h : (i 0).val < 4864 := (i 0).isLt; omega⟩ (i 1)))
    (pw (ix2 ⟨(i 0).val / 128, by have h : (i 0).val < 4864 := (i 0).isLt; omega⟩ (i 1))) (i 0).val

/-- Chunk `g`'s sixty-four packed rows and its row of powers are the arrays' own. -/
def IsChunk (wp : Vec Ideal S2432x896 .i8) (pw : Vec Ideal S38x896 .f32) (g : Fin 38) (U : Vec Ideal S64x896 .i8) (E : Vec Ideal S1x896 .f32) : Prop :=
  (∀ (r : Fin 64) (q : Fin 896), U (ix2 r q) = wp (ix2 ⟨64 * g.val + r.val, by omega⟩ q)) ∧ ∀ q : Fin 896, E (ix2 0 q) = pw (ix2 g q)

theorem w_piece (wp : Vec Ideal S2432x896 .i8) (pw : Vec Ideal S38x896 .f32) (g : Fin 38) {U : Vec Ideal S64x896 .i8} {E : Vec Ideal S1x896 .f32}
    (hU : IsChunk wp pw g U E) (off : Fin 2 → Nat) (inb) (hoff : off = ![128 * g.val, 0]) (pay : FVec Ideal S128x896 .fp8e4m3)
    (h : ∀ (r : Fin 128) (q : Fin 896), pay (ix2 r q) = wEnt (U (ix2 ⟨r.val / 2, by omega⟩ q)) (E (ix2 0 q)) r.val) (x : S128x896.Idx) :
    pay x = wArr wp pw ((Rect.unit (s := S4864x896) off S128x896.size inb).emb x) := by
  subst hoff
  idx_vars x
  rw [emb_unit_eq _ _ _ _ (ix2 ⟨128 * g.val + x0.val, by omega⟩ x1) (by intro d; fin_cases d <;> simp [ix2]), h, hU.1, hU.2]
  show wEnt _ _ _ = wEnt (wp (ix2 ⟨(128 * g.val + x0.val) / 2, _⟩ x1)) (pw (ix2 ⟨(128 * g.val + x0.val) / 128, _⟩ x1)) (128 * g.val + x0.val)
  have e1 : (⟨64 * g.val + x0.val / 2, by omega⟩ : Fin 2432) = ⟨(128 * g.val + x0.val) / 2, by omega⟩ := Fin.ext (by simp only; omega)
  have e2 : g = (⟨(128 * g.val + x0.val) / 128, by omega⟩ : Fin 38) := Fin.ext (by simp only; omega)
  rw [← e1, ← e2]
  unfold wEnt
  rw [show (128 * g.val + x0.val) % 2 = x0.val % 2 by omega]

theorem w_pay37 (U : Vec Ideal S64x896 .i8) (E : Vec Ideal S1x896 .f32) (r : Fin 128) (q : Fin 896) :
    (k0_pay291 (F := Ideal) (k0_pay131 U E)) (ix2 r q) = wEnt (U (ix2 ⟨r.val / 2, by omega⟩ q)) (E (ix2 0 q)) r.val := by
  pointwise [k0_pay291, k0_pay131]
  rfl

theorem w_pay36 (U : Vec Ideal S64x896 .i8) (E : Vec Ideal S1x896 .f32) (r : Fin 128) (q : Fin 896) :
    (k0_pay130 (F := Ideal) (k0_pay127 U E) (k0_pay128 U) (k0_pay129 E)) (ix2 r q) = wEnt (U (ix2 ⟨r.val / 2, by omega⟩ q)) (E (ix2 0 q)) r.val := by
  pointwise [k0_pay130, k0_pay127, k0_pay128, k0_pay129, k0_pay125, k0_pay126]
  rfl

theorem w_pay35 (U : Vec Ideal S64x896 .i8) (E : Vec Ideal S1x896 .f32) (r : Fin 128) (q : Fin 896) :
    (k0_pay124 (F := Ideal) (k0_pay121 E) (k0_pay122 U E) (k0_pay123 U) 15#32) (ix2 r q) = wEnt (U (ix2 ⟨r.val / 2, by omega⟩ q)) (E (ix2 0 q)) r.val := by
  pointwise [k0_pay124, k0_pay121, k0_pay122, k0_pay123, k0_pay120]
  rfl

theorem w_pay34 (U : Vec Ideal S64x896 .i8) (E : Vec Ideal S1x896 .f32) (r : Fin 128) (q : Fin 896) :
    (k0_pay119 (F := Ideal) (k0_pay115 U) (k0_pay116 E) (k0_pay117 U) (k0_pay118 U)) (ix2 r q) = wEnt (U (ix2 ⟨r.val / 2, by omega⟩ q)) (E (ix2 0 q)) r.val := by
  pointwise [k0_pay119, k0_pay115, k0_pay116, k0_pay117, k0_pay118]
  rfl

theorem w_pay33 (U : Vec Ideal S64x896 .i8) (E : Vec Ideal S1x896 .f32) (r : Fin 128) (q : Fin 896) :
    (k0_pay114 (F := Ideal) U E) (ix2 r q) = wEnt (U (ix2 ⟨r.val / 2, by omega⟩ q)) (E (ix2 0 q)) r.val := by
  pointwise [k0_pay114]
  rfl

theorem w_pay32 (U : Vec Ideal S64x896 .i8) (E : Vec Ideal S1x896 .f32) (r : Fin 128) (q : Fin 896) :
    (k0_pay113 (F := Ideal) U E) (ix2 r q) = wEnt (U (ix2 ⟨r.val / 2, by omega⟩ q)) (E (ix2 0 q)) r.val := by
  pointwise [k0_pay113]
  rfl

theorem w_pay31 (U : Vec Ideal S64x896 .i8) (E : Vec Ideal S1x896 .f32) (r : Fin 128) (q : Fin 896) :
    (k0_pay112 (F := Ideal) (k0_pay110 U E) (k0_pay111 U E)) (ix2 r q) = wEnt (U (ix2 ⟨r.val / 2, by omega⟩ q)) (E (ix2 0 q)) r.val := by
  pointwise [k0_pay112, k0_pay110, k0_pay111, k0_pay108, k0_pay109]
  rfl

theorem w_pay30 (U : Vec Ideal S64x896 .i8) (E : Vec Ideal S1x896 .f32) (r : Fin 128) (q : Fin 896) :
    (k0_pay107 (F := Ideal) (k0_pay103 E) (k0_pay104 U E) (k0_pay105 U) (k0_pay106 U)) (ix2 r q) = wEnt (U (ix2 ⟨r.val / 2, by omega⟩ q)) (E (ix2 0 q)) r.val := by
  pointwise [k0_pay107, k0_pay103, k0_pay104, k0_pay105, k0_pay106, k0_pay102]
  rfl

theorem w_pay29 (U : Vec Ideal S64x896 .i8) (E : Vec Ideal S1x896 .f32) (r : Fin 128) (q : Fin 896) :
    (k0_pay101 (F := Ideal) (k0_pay98 U) (k0_pay99 E) (k0_pay100 U)) (ix2 r q) = wEnt (U (ix2 ⟨r.val / 2, by omega⟩ q)) (E (ix2 0 q)) r.val := by
  pointwise [k0_pay101, k0_pay98, k0_pay99, k0_pay100]
  rfl

theorem w_pay28 (U : Vec Ideal S64x896 .i8) (E : Vec Ideal S1x896 .f32) (r : Fin 128) (q : Fin 896) :
    (k0_pay97 (F := Ideal) (k0_pay95 U) (k0_pay96 E)) (ix2 r q) = wEnt (U (ix2 ⟨r.val / 2, by omega⟩ q)) (E (ix2 0 q)) r.val := by
  pointwise [k0_pay97, k0_pay95, k0_pay96]
  rfl

theorem w_pay27 (U : Vec Ideal S64x896 .i8) (E : Vec Ideal S1x896 .f32) (r : Fin 128) (q : Fin 896) :
    (k0_pay94 (F := Ideal) U E) (ix2 r q) = wEnt (U (ix2 ⟨r.val / 2, by omega⟩ q)) (E (ix2 0 q)) r.val := by
  pointwise [k0_pay94]
  rfl

theorem w_pay26 (U : Vec Ideal S64x896 .i8) (E : Vec Ideal S1x896 .f32) (r : Fin 128) (q : Fin 896) :
    (k0_pay93 (F := Ideal) (k0_pay92 U E)) (ix2 r q) = wEnt (U (ix2 ⟨r.val / 2, by omega⟩ q)) (E (ix2 0 q)) r.val := by
  pointwise [k0_pay93, k0_pay92]
  rfl

theorem w_pay25 (U : Vec Ideal S64x896 .i8) (E : Vec Ideal S1x896 .f32) (r : Fin 128) (q : Fin 896) :
    (k0_pay91 (F := Ideal) (k0_pay88 E) (k0_pay89 U E) (k0_pay90 U)) (ix2 r q) = wEnt (U (ix2 ⟨r.val / 2, by omega⟩ q)) (E (ix2 0 q)) r.val := by
  pointwise [k0_pay91, k0_pay88, k0_pay89, k0_pay90, k0_pay87]
  rfl

theorem w_pay24 (U : Vec Ideal S64x896 .i8) (E : Vec Ideal S1x896 .f32) (r : Fin 128) (q : Fin 896) :
    (k0_pay86 (F := Ideal) (k0_pay83 E) (k0_pay84 U E) (k0_pay85 U)) (ix2 r q) = wEnt (U (ix2 ⟨r.val / 2, by omega⟩ q)) (E (ix2 0 q)) r.val := by
  pointwise [k0_pay86, k0_pay83, k0_pay84, k0_pay85, k0_pay82]
  rfl

theorem w_pay23 (U : Vec Ideal S64x896 .i8) (E : Vec Ideal S1x896 .f32) (r : Fin 128) (q : Fin 896) :
    (k0_pay81 (F := Ideal) (k0_pay77 U) (k0_pay78 E) (k0_pay79 U) k0_pay80) (ix2 r q) = wEnt (U (ix2 ⟨r.val / 2, by omega⟩ q)) (E (ix2 0 q)) r.val := by
  pointwise [k0_pay81, k0_pay77, k0_pay78, k0_pay79, k0_pay80]
  rfl

theorem w_pay22 (U : Vec Ideal S64x896 .i8) (E : Vec Ideal S1x896 .f32) (r : Fin 128) (q : Fin 896) :
    (k0_pay76 (F := Ideal) U E) (ix2 r q) = wEnt (U (ix2 ⟨r.val / 2, by omega⟩ q)) (E (ix2 0 q)) r.val := by
  pointwise [k0_pay76]
  rfl

theorem w_pay21 (U : Vec Ideal S64x896 .i8) (E : Vec Ideal S1x896 .f32) (r : Fin 128) (q : Fin 896) :
    (k0_pay75 (F := Ideal) U E) (ix2 r q) = wEnt (U (ix2 ⟨r.val / 2, by omega⟩ q)) (E (ix2 0 q)) r.val := by
  pointwise [k0_pay75]
  rfl

theorem w_pay20 (U : Vec Ideal S64x896 .i8) (E : Vec Ideal S1x896 .f32) (r : Fin 128) (q : Fin 896) :
    (k0_pay74 (F := Ideal) (k0_pay72 U E) (k0_pay73 U E)) (ix2 r q) = wEnt (U (ix2 ⟨r.val / 2, by omega⟩ q)) (E (ix2 0 q)) r.val := by
  pointwise [k0_pay74, k0_pay72, k0_pay73, k0_pay70, k0_pay71]
  rfl

theorem w_pay19 (U : Vec Ideal S64x896 .i8) (E : Vec Ideal S1x896 .f32) (r : Fin 128) (q : Fin 896) :
    (k0_pay69 (F := Ideal) (k0_pay65 E) (k0_pay66 U E) (k0_pay67 U) k0_pay68) (ix2 r q) = wEnt (U (ix2 ⟨r.val / 2, by omega⟩ q)) (E (ix2 0 q)) r.val := by
  pointwise [k0_pay69, k0_pay65, k0_pay66, k0_pay67, k0_pay68, k0_pay64]
  rfl

theorem w_pay18 (U : Vec Ideal S64x896 .i8) (E : Vec Ideal S1x896 .f32) (r : Fin 128) (q : Fin 896) :
    (k0_pay63 (F := Ideal) (k0_pay60 U) (k0_pay61 E) (k0_pay62 U)) (ix2 r q) = wEnt (U (ix2 ⟨r.val / 2, by omega⟩ q)) (E (ix2 0 q)) r.val := by
  pointwise [k0_pay63, k0_pay60, k0_pay61, k0_pay62]
  rfl

theorem w_pay17 (U : Vec Ideal S64x896 .i8) (E : Vec Ideal S1x896 .f32) (r : Fin 128) (q : Fin 896) :
    (k0_pay59 (F := Ideal) (k0_pay58 U) E) (ix2 r q) = wEnt (U (ix2 ⟨r.val / 2, by omega⟩ q)) (E (ix2 0 q)) r.val := by
  pointwise [k0_pay59, k0_pay58]
  rfl

theorem w_pay16 (U : Vec Ideal S64x896 .i8) (E : Vec Ideal S1x896 .f32) (r : Fin 128) (q : Fin 896) :
    (k0_pay57 (F := Ideal) U E) (ix2 r q) = wEnt (U (ix2 ⟨r.val / 2, by omega⟩ q)) (E (ix2 0 q)) r.val := by
  pointwise [k0_pay57]
  rfl

theorem w_pay15 (U : Vec Ideal S64x896 .i8) (E : Vec Ideal S1x896 .f32) (r : Fin 128) (q : Fin 896) :
    (k0_pay56 (F := Ideal) (k0_pay55 U E)) (ix2 r q) = wEnt (U (ix2 ⟨r.val / 2, by omega⟩ q)) (E (ix2 0 q)) r.val := by
  pointwise [k0_pay56, k0_pay55]
  rfl

theorem w_pay14 (U : Vec Ideal S64x896 .i8) (E : Vec Ideal S1x896 .f32) (r : Fin 128) (q : Fin 896) :
    (k0_pay54 (F := Ideal) (k0_pay51 E) (k0_pay52 U E) (k0_pay53 U)) (ix2 r q) = wEnt (U (ix2 ⟨r.val / 2, by omega⟩ q)) (E (ix2 0 q)) r.val := by
  pointwise [k0_pay54, k0_pay51, k0_pay52, k0_pay53, k0_pay50]
  rfl

theorem w_pay13 (U : Vec Ideal S64x896 .i8) (E : Vec Ideal S1x896 .f32) (r : Fin 128) (q : Fin 896) :
    (k0_pay49 (F := Ideal) (k0_pay45 U) (k0_pay46 E) (k0_pay47 U E) k0_pay48) (ix2 r q) = wEnt (U (ix2 ⟨r.val / 2, by omega⟩ q)) (E (ix2 0 q)) r.val := by
  pointwise [k0_pay49, k0_pay45, k0_pay46, k0_pay47, k0_pay48]
  rfl

theorem w_pay12 (U : Vec Ideal S64x896 .i8) (E : Vec Ideal S1x896 .f32) (r : Fin 128) (q : Fin 896) :
    (k0_pay44 (F := Ideal) (k0_pay41 U) (k0_pay42 E) (k0_pay43 U) 8#32) (ix2 r q) = wEnt (U (ix2 ⟨r.val / 2, by omega⟩ q)) (E (ix2 0 q)) r.val := by
  pointwise [k0_pay44, k0_pay41, k0_pay42, k0_pay43]
  rfl

theorem w_pay11 (U : Vec Ideal S64x896 .i8) (E : Vec Ideal S1x896 .f32) (r : Fin 128) (q : Fin 896) :
    (k0_pay40 (F := Ideal) U E) (ix2 r q) = wEnt (U (ix2 ⟨r.val / 2, by omega⟩ q)) (E (ix2 0 q)) r.val := by
  pointwise [k0_pay40]
  rfl

theorem w_pay10 (U : Vec Ideal S64x896 .i8) (E : Vec Ideal S1x896 .f32) (r : Fin 128) (q : Fin 896) :
    (k0_pay39 (F := Ideal) U E) (ix2 r q) = wEnt (U (ix2 ⟨r.val / 2, by omega⟩ q)) (E (ix2 0 q)) r.val := by
  pointwise [k0_pay39]
  rfl

theorem w_pay9 (U : Vec Ideal S64x896 .i8) (E : Vec Ideal S1x896 .f32) (r : Fin 128) (q : Fin 896) :
    (k0_pay38 (F := Ideal) (k0_pay36 U E) (k0_pay37 U E)) (ix2 r q) = wEnt (U (ix2 ⟨r.val / 2, by omega⟩ q)) (E (ix2 0 q)) r.val := by
  pointwise [k0_pay38, k0_pay36, k0_pay37, k0_pay34, k0_pay35]
  rfl

theorem w_pay8 (U : Vec Ideal S64x896 .i8) (E : Vec Ideal S1x896 .f32) (r : Fin 128) (q : Fin 896) :
    (k0_pay33 (F := Ideal) (k0_pay30 E) (k0_pay31 U E) (k0_pay32 U) 8#32) (ix2 r q) = wEnt (U (ix2 ⟨r.val / 2, by omega⟩ q)) (E (ix2 0 q)) r.val := by
  pointwise [k0_pay33, k0_pay30, k0_pay31, k0_pay32, k0_pay29]
  rfl

theorem w_pay7 (U : Vec Ideal S64x896 .i8) (E : Vec Ideal S1x896 .f32) (r : Fin 128) (q : Fin 896) :
    (k0_pay28 (F := Ideal) (k0_pay23 U) (k0_pay24 E) (k0_pay25 U) (k0_pay26 U) (k0_pay27 U)) (ix2 r q) = wEnt (U (ix2 ⟨r.val / 2, by omega⟩ q)) (E (ix2 0 q)) r.val := by
  pointwise [k0_pay28, k0_pay23, k0_pay24, k0_pay25, k0_pay26, k0_pay27]
  rfl

theorem w_pay6 (U : Vec Ideal S64x896 .i8) (E : Vec Ideal S1x896 .f32) (r : Fin 128) (q : Fin 896) :
    (k0_pay22 (F := Ideal) (k0_pay21 U) E) (ix2 r q) = wEnt (U (ix2 ⟨r.val / 2, by omega⟩ q)) (E (ix2 0 q)) r.val := by
  pointwise [k0_pay22, k0_pay21]
  rfl

theorem w_pay5 (U : Vec Ideal S64x896 .i8) (E : Vec Ideal S1x896 .f32) (r : Fin 128) (q : Fin 896) :
    (k0_pay20 (F := Ideal) U E) (ix2 r q) = wEnt (U (ix2 ⟨r.val / 2, by omega⟩ q)) (E (ix2 0 q)) r.val := by
  pointwise [k0_pay20]
  rfl

theorem w_pay4 (U : Vec Ideal S64x896 .i8) (E : Vec Ideal S1x896 .f32) (r : Fin 128) (q : Fin 896) :
    (k0_pay19 (F := Ideal) (k0_pay18 U E)) (ix2 r q) = wEnt (U (ix2 ⟨r.val / 2, by omega⟩ q)) (E (ix2 0 q)) r.val := by
  pointwise [k0_pay19, k0_pay18]
  rfl

theorem w_pay3 (U : Vec Ideal S64x896 .i8) (E : Vec Ideal S1x896 .f32) (r : Fin 128) (q : Fin 896) :
    (k0_pay17 (F := Ideal) (k0_pay12 E) (k0_pay13 U E) (k0_pay14 U) (k0_pay15 U) (k0_pay16 U)) (ix2 r q) = wEnt (U (ix2 ⟨r.val / 2, by omega⟩ q)) (E (ix2 0 q)) r.val := by
  pointwise [k0_pay17, k0_pay12, k0_pay13, k0_pay14, k0_pay15, k0_pay16, k0_pay11]
  rfl

theorem w_pay2 (U : Vec Ideal S64x896 .i8) (E : Vec Ideal S1x896 .f32) (r : Fin 128) (q : Fin 896) :
    (k0_pay10 (F := Ideal) (k0_pay7 U) (k0_pay8 E) (k0_pay9 U E) 4#32) (ix2 r q) = wEnt (U (ix2 ⟨r.val / 2, by omega⟩ q)) (E (ix2 0 q)) r.val := by
  pointwise [k0_pay10, k0_pay7, k0_pay8, k0_pay9]
  rfl

theorem w_pay1 (U : Vec Ideal S64x896 .i8) (E : Vec Ideal S1x896 .f32) (r : Fin 128) (q : Fin 896) :
    (k0_pay6 (F := Ideal) (k0_pay3 U) (k0_pay4 E) (k0_pay5 U)) (ix2 r q) = wEnt (U (ix2 ⟨r.val / 2, by omega⟩ q)) (E (ix2 0 q)) r.val := by
  pointwise [k0_pay6, k0_pay3, k0_pay4, k0_pay5]
  rfl

theorem w_pay0 (U : Vec Ideal S64x896 .i8) (E : Vec Ideal S1x896 .f32) (r : Fin 128) (q : Fin 896) :
    (k0_pay2 (F := Ideal) U E) (ix2 r q) = wEnt (U (ix2 ⟨r.val / 2, by omega⟩ q)) (E (ix2 0 q)) r.val := by
  pointwise [k0_pay2]
  rfl

/-- The thirty-eight stores of decoded chunks, last first. -/
def wList (U : Fin 38 → Vec Ideal S64x896 .i8) (E : Fin 38 → Vec Ideal S1x896 .f32) : List (View.Piece (Elt Ideal) S4864x896 .fp8e4m3) :=
  [⟨Rect.unit (s := S4864x896) ![4736, 0] S128x896.size inb_S4864x896_S128x896_4736_0, k0_pay291 (k0_pay131 (U 37) (E 37))⟩,
   ⟨Rect.unit (s := S4864x896) ![4608, 0] S128x896.size inb_S4864x896_S128x896_4608_0, k0_pay130 (k0_pay127 (U 36) (E 36)) (k0_pay128 (U 36)) (k0_pay129 (E 36))⟩,
   ⟨Rect.unit (s := S4864x896) ![4480, 0] S128x896.size inb_S4864x896_S128x896_4480_0, k0_pay124 (k0_pay121 (E 35)) (k0_pay122 (U 35) (E 35)) (k0_pay123 (U 35)) 15#32⟩,
   ⟨Rect.unit (s := S4864x896) ![4352, 0] S128x896.size inb_S4864x896_S128x896_4352_0, k0_pay119 (k0_pay115 (U 34)) (k0_pay116 (E 34)) (k0_pay117 (U 34)) (k0_pay118 (U 34))⟩,
   ⟨Rect.unit (s := S4864x896) ![4224, 0] S128x896.size inb_S4864x896_S128x896_4224_0, k0_pay114 (U 33) (E 33)⟩,
   ⟨Rect.unit (s := S4864x896) ![4096, 0] S128x896.size inb_S4864x896_S128x896_4096_0, k0_pay113 (U 32) (E 32)⟩,
   ⟨Rect.unit (s := S4864x896) ![3968, 0] S128x896.size inb_S4864x896_S128x896_3968_0, k0_pay112 (k0_pay110 (U 31) (E 31)) (k0_pay111 (U 31) (E 31))⟩,
   ⟨Rect.unit (s := S4864x896) ![3840, 0] S128x896.size inb_S4864x896_S128x896_3840_0, k0_pay107 (k0_pay103 (E 30)) (k0_pay104 (U 30) (E 30)) (k0_pay105 (U 30)) (k0_pay106 (U 30))⟩,
   ⟨Rect.unit (s := S4864x896) ![3712, 0] S128x896.size inb_S4864x896_S128x896_3712_0, k0_pay101 (k0_pay98 (U 29)) (k0_pay99 (E 29)) (k0_pay100 (U 29))⟩,
   ⟨Rect.unit (s := S4864x896) ![3584, 0] S128x896.size inb_S4864x896_S128x896_3584_0, k0_pay97 (k0_pay95 (U 28)) (k0_pay96 (E 28))⟩,
   ⟨Rect.unit (s := S4864x896) ![3456, 0] S128x896.size inb_S4864x896_S128x896_3456_0, k0_pay94 (U 27) (E 27)⟩,
   ⟨Rect.unit (s := S4864x896) ![3328, 0] S128x896.size inb_S4864x896_S128x896_3328_0, k0_pay93 (k0_pay92 (U 26) (E 26))⟩,
   ⟨Rect.unit (s := S4864x896) ![3200, 0] S128x896.size inb_S4864x896_S128x896_3200_0, k0_pay91 (k0_pay88 (E 25)) (k0_pay89 (U 25) (E 25)) (k0_pay90 (U 25))⟩,
   ⟨Rect.unit (s := S4864x896) ![3072, 0] S128x896.size inb_S4864x896_S128x896_3072_0, k0_pay86 (k0_pay83 (E 24)) (k0_pay84 (U 24) (E 24)) (k0_pay85 (U 24))⟩,
   ⟨Rect.unit (s := S4864x896) ![2944, 0] S128x896.size inb_S4864x896_S128x896_2944_0, k0_pay81 (k0_pay77 (U 23)) (k0_pay78 (E 23)) (k0_pay79 (U 23)) k0_pay80⟩,
   ⟨Rect.unit (s := S4864x896) ![2816, 0] S128x896.size inb_S4864x896_S128x896_2816_0, k0_pay76 (U 22) (E 22)⟩,
   ⟨Rect.unit (s := S4864x896) ![2688, 0] S128x896.size inb_S4864x896_S128x896_2688_0, k0_pay75 (U 21) (E 21)⟩,
   ⟨Rect.unit (s := S4864x896) ![2560, 0] S128x896.size inb_S4864x896_S128x896_2560_0, k0_pay74 (k0_pay72 (U 20) (E 20)) (k0_pay73 (U 20) (E 20))⟩,
   ⟨Rect.unit (s := S4864x896) ![2432, 0] S128x896.size inb_S4864x896_S128x896_2432_0, k0_pay69 (k0_pay65 (E 19)) (k0_pay66 (U 19) (E 19)) (k0_pay67 (U 19)) k0_pay68⟩,
   ⟨Rect.unit (s := S4864x896) ![2304, 0] S128x896.size inb_S4864x896_S128x896_2304_0, k0_pay63 (k0_pay60 (U 18)) (k0_pay61 (E 18)) (k0_pay62 (U 18))⟩,
   ⟨Rect.unit (s := S4864x896) ![2176, 0] S128x896.size inb_S4864x896_S128x896_2176_0, k0_pay59 (k0_pay58 (U 17)) (E 17)⟩,
   ⟨Rect.unit (s := S4864x896) ![2048, 0] S128x896.size inb_S4864x896_S128x896_2048_0, k0_pay57 (U 16) (E 16)⟩,
   ⟨Rect.unit (s := S4864x896) ![1920, 0] S128x896.size inb_S4864x896_S128x896_1920_0, k0_pay56 (k0_pay55 (U 15) (E 15))⟩,
   ⟨Rect.unit (s := S4864x896) ![1792, 0] S128x896.size inb_S4864x896_S128x896_1792_0, k0_pay54 (k0_pay51 (E 14)) (k0_pay52 (U 14) (E 14)) (k0_pay53 (U 14))⟩,
   ⟨Rect.unit (s := S4864x896) ![1664, 0] S128x896.size inb_S4864x896_S128x896_1664_0, k0_pay49 (k0_pay45 (U 13)) (k0_pay46 (E 13)) (k0_pay47 (U 13) (E 13)) k0_pay48⟩,
   ⟨Rect.unit (s := S4864x896) ![1536, 0] S128x896.size inb_S4864x896_S128x896_1536_0, k0_pay44 (k0_pay41 (U 12)) (k0_pay42 (E 12)) (k0_pay43 (U 12)) 8#32⟩,
   ⟨Rect.unit (s := S4864x896) ![1408, 0] S128x896.size inb_S4864x896_S128x896_1408_0, k0_pay40 (U 11) (E 11)⟩,
   ⟨Rect.unit (s := S4864x896) ![1280, 0] S128x896.size inb_S4864x896_S128x896_1280_0, k0_pay39 (U 10) (E 10)⟩,
   ⟨Rect.unit (s := S4864x896) ![1152, 0] S128x896.size inb_S4864x896_S128x896_1152_0, k0_pay38 (k0_pay36 (U 9) (E 9)) (k0_pay37 (U 9) (E 9))⟩,
   ⟨Rect.unit (s := S4864x896) ![1024, 0] S128x896.size inb_S4864x896_S128x896_1024_0, k0_pay33 (k0_pay30 (E 8)) (k0_pay31 (U 8) (E 8)) (k0_pay32 (U 8)) 8#32⟩,
   ⟨Rect.unit (s := S4864x896) ![896, 0] S128x896.size inb_S4864x896_S128x896_896_0, k0_pay28 (k0_pay23 (U 7)) (k0_pay24 (E 7)) (k0_pay25 (U 7)) (k0_pay26 (U 7)) (k0_pay27 (U 7))⟩,
   ⟨Rect.unit (s := S4864x896) ![768, 0] S128x896.size inb_S4864x896_S128x896_768_0, k0_pay22 (k0_pay21 (U 6)) (E 6)⟩,
   ⟨Rect.unit (s := S4864x896) ![640, 0] S128x896.size inb_S4864x896_S128x896_640_0, k0_pay20 (U 5) (E 5)⟩,
   ⟨Rect.unit (s := S4864x896) ![512, 0] S128x896.size inb_S4864x896_S128x896_512_0, k0_pay19 (k0_pay18 (U 4) (E 4))⟩,
   ⟨Rect.unit (s := S4864x896) ![384, 0] S128x896.size inb_S4864x896_S128x896_384_0, k0_pay17 (k0_pay12 (E 3)) (k0_pay13 (U 3) (E 3)) (k0_pay14 (U 3)) (k0_pay15 (U 3)) (k0_pay16 (U 3))⟩,
   ⟨Rect.unit (s := S4864x896) ![256, 0] S128x896.size inb_S4864x896_S128x896_256_0, k0_pay10 (k0_pay7 (U 2)) (k0_pay8 (E 2)) (k0_pay9 (U 2) (E 2)) 4#32⟩,
   ⟨Rect.unit (s := S4864x896) ![128, 0] S128x896.size inb_S4864x896_S128x896_128_0, k0_pay6 (k0_pay3 (U 1)) (k0_pay4 (E 1)) (k0_pay5 (U 1))⟩,
   ⟨Rect.unit (s := S4864x896) ![0, 0] S128x896.size inb_S4864x896_S128x896_0_0, k0_pay2 (U 0) (E 0)⟩]

/-- Each is a block of the decoded matrix. -/
theorem wList_pieces (wp : Vec Ideal S2432x896 .i8) (pw : Vec Ideal S38x896 .f32) (U : Fin 38 → Vec Ideal S64x896 .i8) (E : Fin 38 → Vec Ideal S1x896 .f32)
    (h : ∀ g, IsChunk wp pw g (U g) (E g)) : View.PiecesOf (wArr wp pw) (wList U E) :=
  ⟨w_piece wp pw 37 (h 37) ![4736, 0] inb_S4864x896_S128x896_4736_0 rfl _ (w_pay37 _ _),
   w_piece wp pw 36 (h 36) ![4608, 0] inb_S4864x896_S128x896_4608_0 rfl _ (w_pay36 _ _),
   w_piece wp pw 35 (h 35) ![4480, 0] inb_S4864x896_S128x896_4480_0 rfl _ (w_pay35 _ _),
   w_piece wp pw 34 (h 34) ![4352, 0] inb_S4864x896_S128x896_4352_0 rfl _ (w_pay34 _ _),
   w_piece wp pw 33 (h 33) ![4224, 0] inb_S4864x896_S128x896_4224_0 rfl _ (w_pay33 _ _),
   w_piece wp pw 32 (h 32) ![4096, 0] inb_S4864x896_S128x896_4096_0 rfl _ (w_pay32 _ _),
   w_piece wp pw 31 (h 31) ![3968, 0] inb_S4864x896_S128x896_3968_0 rfl _ (w_pay31 _ _),
   w_piece wp pw 30 (h 30) ![3840, 0] inb_S4864x896_S128x896_3840_0 rfl _ (w_pay30 _ _),
   w_piece wp pw 29 (h 29) ![3712, 0] inb_S4864x896_S128x896_3712_0 rfl _ (w_pay29 _ _),
   w_piece wp pw 28 (h 28) ![3584, 0] inb_S4864x896_S128x896_3584_0 rfl _ (w_pay28 _ _),
   w_piece wp pw 27 (h 27) ![3456, 0] inb_S4864x896_S128x896_3456_0 rfl _ (w_pay27 _ _),
   w_piece wp pw 26 (h 26) ![3328, 0] inb_S4864x896_S128x896_3328_0 rfl _ (w_pay26 _ _),
   w_piece wp pw 25 (h 25) ![3200, 0] inb_S4864x896_S128x896_3200_0 rfl _ (w_pay25 _ _),
   w_piece wp pw 24 (h 24) ![3072, 0] inb_S4864x896_S128x896_3072_0 rfl _ (w_pay24 _ _),
   w_piece wp pw 23 (h 23) ![2944, 0] inb_S4864x896_S128x896_2944_0 rfl _ (w_pay23 _ _),
   w_piece wp pw 22 (h 22) ![2816, 0] inb_S4864x896_S128x896_2816_0 rfl _ (w_pay22 _ _),
   w_piece wp pw 21 (h 21) ![2688, 0] inb_S4864x896_S128x896_2688_0 rfl _ (w_pay21 _ _),
   w_piece wp pw 20 (h 20) ![2560, 0] inb_S4864x896_S128x896_2560_0 rfl _ (w_pay20 _ _),
   w_piece wp pw 19 (h 19) ![2432, 0] inb_S4864x896_S128x896_2432_0 rfl _ (w_pay19 _ _),
   w_piece wp pw 18 (h 18) ![2304, 0] inb_S4864x896_S128x896_2304_0 rfl _ (w_pay18 _ _),
   w_piece wp pw 17 (h 17) ![2176, 0] inb_S4864x896_S128x896_2176_0 rfl _ (w_pay17 _ _),
   w_piece wp pw 16 (h 16) ![2048, 0] inb_S4864x896_S128x896_2048_0 rfl _ (w_pay16 _ _),
   w_piece wp pw 15 (h 15) ![1920, 0] inb_S4864x896_S128x896_1920_0 rfl _ (w_pay15 _ _),
   w_piece wp pw 14 (h 14) ![1792, 0] inb_S4864x896_S128x896_1792_0 rfl _ (w_pay14 _ _),
   w_piece wp pw 13 (h 13) ![1664, 0] inb_S4864x896_S128x896_1664_0 rfl _ (w_pay13 _ _),
   w_piece wp pw 12 (h 12) ![1536, 0] inb_S4864x896_S128x896_1536_0 rfl _ (w_pay12 _ _),
   w_piece wp pw 11 (h 11) ![1408, 0] inb_S4864x896_S128x896_1408_0 rfl _ (w_pay11 _ _),
   w_piece wp pw 10 (h 10) ![1280, 0] inb_S4864x896_S128x896_1280_0 rfl _ (w_pay10 _ _),
   w_piece wp pw 9 (h 9) ![1152, 0] inb_S4864x896_S128x896_1152_0 rfl _ (w_pay9 _ _),
   w_piece wp pw 8 (h 8) ![1024, 0] inb_S4864x896_S128x896_1024_0 rfl _ (w_pay8 _ _),
   w_piece wp pw 7 (h 7) ![896, 0] inb_S4864x896_S128x896_896_0 rfl _ (w_pay7 _ _),
   w_piece wp pw 6 (h 6) ![768, 0] inb_S4864x896_S128x896_768_0 rfl _ (w_pay6 _ _),
   w_piece wp pw 5 (h 5) ![640, 0] inb_S4864x896_S128x896_640_0 rfl _ (w_pay5 _ _),
   w_piece wp pw 4 (h 4) ![512, 0] inb_S4864x896_S128x896_512_0 rfl _ (w_pay4 _ _),
   w_piece wp pw 3 (h 3) ![384, 0] inb_S4864x896_S128x896_384_0 rfl _ (w_pay3 _ _),
   w_piece wp pw 2 (h 2) ![256, 0] inb_S4864x896_S128x896_256_0 rfl _ (w_pay2 _ _),
   w_piece wp pw 1 (h 1) ![128, 0] inb_S4864x896_S128x896_128_0 rfl _ (w_pay1 _ _),
   w_piece wp pw 0 (h 0) ![0, 0] inb_S4864x896_S128x896_0_0 rfl _ (w_pay0 _ _), trivial⟩

end Cert.KernelIdeal.Own

end
-- ==== Proof.TPieces.lean ====
module

public import proofs.«01_k».proof.Proof.MixValue
public import Idealize.ShloMosaic.Lib.Pipeline.ReadBack

@[expose] public section

set_option maxRecDepth 16384

noncomputable section

/-! The transformed slabs: what each of the nineteen column blocks times the Hadamard matrix holds, and that together they are one array. -/

namespace Cert.KernelIdeal.Own

open Idealize.ShloMosaic Idealize.ShloMosaic.TcCoe Idealize.ShloMosaic.Tactic
open Idealize.SL.Sem
open Cert.KernelIdeal Cert.KernelIdeal.Gen Cert.Spec

/-- The transformed array: row `i`'s column blocks through the 256-point transform. -/
def tArr (x : Vec Ideal S256x4864 .bf16) : FVec Ideal S19x256x256 .f32 :=
  fun i => tr (fun c => x (ix2 (i 1) c)) (i 0) (i 2)

theorem hadamard_apply (p q : Fin 256) : k0_pay292 (F := Ideal) (ix2 p q) = sgn p q := by
  pointwise [k0_pay292]
  rfl

theorem t_piece (x : Vec Ideal S256x4864 .bf16) (j : Fin 19) {C : Vec Ideal S256x256 .bf16}
    (hC : ∀ r p : Fin 256, C (ix2 r p) = x (ix2 r (at2 j p))) (off : Fin 3 → Nat) (inb) (hoff : off = ![j.val, 0, 0]) (pay : FVec Ideal S1x256x256 .f32)
    (h : ∀ r q : Fin 256, pay (ix3 0 r q) = ∑ p, C (ix2 r p) * sgn p q) (y : S1x256x256.Idx) :
    pay y = tArr x ((Rect.unit (s := S19x256x256) off S1x256x256.size inb).emb y) := by
  subst hoff
  obtain ⟨r, q, rfl⟩ : ∃ r q : Fin 256, y = (ix3 0 r q : S1x256x256.Idx) :=
    ⟨y 1, y 2, funext fun a => by fin_cases a; exact Subsingleton.elim (α := Fin 1) _ _; rfl; rfl⟩
  rw [emb_unit_eq _ _ _ _ (ix3 j r q) (by intro d; fin_cases d <;> simp [ix3]), h]
  show _ = ∑ p : Fin 256, x (ix2 r (at2 j p)) * sgn p q
  exact Finset.sum_congr rfl fun p _ => by rw [hC]

theorem t_pay18 (C : Vec Ideal S256x256 .bf16) (r q : Fin 256) :
    (k0_pay313 (F := Ideal) k0_pay292 C) (ix3 0 r q) = ∑ p, C (ix2 r p) * sgn p q := by
  pointwise [k0_pay313, hadamard_apply]

theorem t_pay17 (C : Vec Ideal S256x256 .bf16) (r q : Fin 256) :
    (k0_pay312 (F := Ideal) k0_pay292 C) (ix3 0 r q) = ∑ p, C (ix2 r p) * sgn p q := by
  pointwise [k0_pay312, hadamard_apply]

theorem t_pay16 (C : Vec Ideal S256x256 .bf16) (r q : Fin 256) :
    (k0_pay311 (F := Ideal) (k0_pay310 k0_pay292 C)) (ix3 0 r q) = ∑ p, C (ix2 r p) * sgn p q := by
  pointwise [k0_pay311, k0_pay310, hadamard_apply]

theorem t_pay15 (C : Vec Ideal S256x256 .bf16) (r q : Fin 256) :
    (k0_pay309 (F := Ideal) k0_pay292 C) (ix3 0 r q) = ∑ p, C (ix2 r p) * sgn p q := by
  pointwise [k0_pay309, hadamard_apply]

theorem t_pay14 (C : Vec Ideal S256x256 .bf16) (r q : Fin 256) :
    (k0_pay308 (F := Ideal) k0_pay292 C) (ix3 0 r q) = ∑ p, C (ix2 r p) * sgn p q := by
  pointwise [k0_pay308, hadamard_apply]

theorem t_pay13 (C : Vec Ideal S256x256 .bf16) (r q : Fin 256) :
    (k0_pay307 (F := Ideal) k0_pay292 C) (ix3 0 r q) = ∑ p, C (ix2 r p) * sgn p q := by
  pointwise [k0_pay307, hadamard_apply]

theorem t_pay12 (C : Vec Ideal S256x256 .bf16) (r q : Fin 256) :
    (k0_pay306 (F := Ideal) k0_pay292 C) (ix3 0 r q) = ∑ p, C (ix2 r p) * sgn p q := by
  pointwise [k0_pay306, hadamard_apply]

theorem t_pay11 (C : Vec Ideal S256x256 .bf16) (r q : Fin 256) :
    (k0_pay305 (F := Ideal) k0_pay292 C) (ix3 0 r q) = ∑ p, C (ix2 r p) * sgn p q := by
  pointwise [k0_pay305, hadamard_apply]

theorem t_pay10 (C : Vec Ideal S256x256 .bf16) (r q : Fin 256) :
    (k0_pay304 (F := Ideal) k0_pay292 C) (ix3 0 r q) = ∑ p, C (ix2 r p) * sgn p q := by
  pointwise [k0_pay304, hadamard_apply]

theorem t_pay9 (C : Vec Ideal S256x256 .bf16) (r q : Fin 256) :
    (k0_pay303 (F := Ideal) k0_pay292 C) (ix3 0 r q) = ∑ p, C (ix2 r p) * sgn p q := by
  pointwise [k0_pay303, hadamard_apply]

theorem t_pay8 (C : Vec Ideal S256x256 .bf16) (r q : Fin 256) :
    (k0_pay302 (F := Ideal) k0_pay292 C) (ix3 0 r q) = ∑ p, C (ix2 r p) * sgn p q := by
  pointwise [k0_pay302, hadamard_apply]

theorem t_pay7 (C : Vec Ideal S256x256 .bf16) (r q : Fin 256) :
    (k0_pay301 (F := Ideal) (k0_pay300 k0_pay292 C)) (ix3 0 r q) = ∑ p, C (ix2 r p) * sgn p q := by
  pointwise [k0_pay301, k0_pay300, hadamard_apply]

theorem t_pay6 (C : Vec Ideal S256x256 .bf16) (r q : Fin 256) :
    (k0_pay299 (F := Ideal) k0_pay292 C) (ix3 0 r q) = ∑ p, C (ix2 r p) * sgn p q := by
  pointwise [k0_pay299, hadamard_apply]

theorem t_pay5 (C : Vec Ideal S256x256 .bf16) (r q : Fin 256) :
    (k0_pay298 (F := Ideal) k0_pay292 C) (ix3 0 r q) = ∑ p, C (ix2 r p) * sgn p q := by
  pointwise [k0_pay298, hadamard_apply]

theorem t_pay4 (C : Vec Ideal S256x256 .bf16) (r q : Fin 256) :
    (k0_pay297 (F := Ideal) k0_pay292 C) (ix3 0 r q) = ∑ p, C (ix2 r p) * sgn p q := by
  pointwise [k0_pay297, hadamard_apply]

theorem t_pay3 (C : Vec Ideal S256x256 .bf16) (r q : Fin 256) :
    (k0_pay296 (F := Ideal) k0_pay292 C) (ix3 0 r q) = ∑ p, C (ix2 r p) * sgn p q := by
  pointwise [k0_pay296, hadamard_apply]

theorem t_pay2 (C : Vec Ideal S256x256 .bf16) (r q : Fin 256) :
    (k0_pay295 (F := Ideal) C) (ix3 0 r q) = ∑ p, C (ix2 r p) * sgn p q := by
  pointwise [k0_pay295, hadamard_apply]

theorem t_pay1 (C : Vec Ideal S256x256 .bf16) (r q : Fin 256) :
    (k0_pay294 (F := Ideal) C) (ix3 0 r q) = ∑ p, C (ix2 r p) * sgn p q := by
  pointwise [k0_pay294, hadamard_apply]

theorem t_pay0 (C : Vec Ideal S256x256 .bf16) (r q : Fin 256) :
    (k0_pay293 (F := Ideal) C) (ix3 0 r q) = ∑ p, C (ix2 r p) * sgn p q := by
  pointwise [k0_pay293, hadamard_apply]

/-- The nineteen stores of transformed slabs, last first. -/
def tList (C : Fin 19 → Vec Ideal S256x256 .bf16) : List (View.Piece (Elt Ideal) S19x256x256 .f32) :=
  [⟨Rect.unit (s := S19x256x256) ![18, 0, 0] S1x256x256.size inb_S19x256x256_S1x256x256_18_0_0, k0_pay313 k0_pay292 (C 18)⟩,
   ⟨Rect.unit (s := S19x256x256) ![17, 0, 0] S1x256x256.size inb_S19x256x256_S1x256x256_17_0_0, k0_pay312 k0_pay292 (C 17)⟩,
   ⟨Rect.unit (s := S19x256x256) ![16, 0, 0] S1x256x256.size inb_S19x256x256_S1x256x256_16_0_0, k0_pay311 (k0_pay310 k0_pay292 (C 16))⟩,
   ⟨Rect.unit (s := S19x256x256) ![15, 0, 0] S1x256x256.size inb_S19x256x256_S1x256x256_15_0_0, k0_pay309 k0_pay292 (C 15)⟩,
   ⟨Rect.unit (s := S19x256x256) ![14, 0, 0] S1x256x256.size inb_S19x256x256_S1x256x256_14_0_0, k0_pay308 k0_pay292 (C 14)⟩,
   ⟨Rect.unit (s := S19x256x256) ![13, 0, 0] S1x256x256.size inb_S19x256x256_S1x256x256_13_0_0, k0_pay307 k0_pay292 (C 13)⟩,
   ⟨Rect.unit (s := S19x256x256) ![12, 0, 0] S1x256x256.size inb_S19x256x256_S1x256x256_12_0_0, k0_pay306 k0_pay292 (C 12)⟩,
   ⟨Rect.unit (s := S19x256x256) ![11, 0, 0] S1x256x256.size inb_S19x256x256_S1x256x256_11_0_0, k0_pay305 k0_pay292 (C 11)⟩,
   ⟨Rect.unit (s := S19x256x256) ![10, 0, 0] S1x256x256.size inb_S19x256x256_S1x256x256_10_0_0, k0_pay304 k0_pay292 (C 10)⟩,
   ⟨Rect.unit (s := S19x256x256) ![9, 0, 0] S1x256x256.size inb_S19x256x256_S1x256x256_9_0_0, k0_pay303 k0_pay292 (C 9)⟩,
   ⟨Rect.unit (s := S19x256x256) ![8, 0, 0] S1x256x256.size inb_S19x256x256_S1x256x256_8_0_0, k0_pay302 k0_pay292 (C 8)⟩,
   ⟨Rect.unit (s := S19x256x256) ![7, 0, 0] S1x256x256.size inb_S19x256x256_S1x256x256_7_0_0, k0_pay301 (k0_pay300 k0_pay292 (C 7))⟩,
   ⟨Rect.unit (s := S19x256x256) ![6, 0, 0] S1x256x256.size inb_S19x256x256_S1x256x256_6_0_0, k0_pay299 k0_pay292 (C 6)⟩,
   ⟨Rect.unit (s := S19x256x256) ![5, 0, 0] S1x256x256.size inb_S19x256x256_S1x256x256_5_0_0, k0_pay298 k0_pay292 (C 5)⟩,
   ⟨Rect.unit (s := S19x256x256) ![4, 0, 0] S1x256x256.size inb_S19x256x256_S1x256x256_4_0_0, k0_pay297 k0_pay292 (C 4)⟩,
   ⟨Rect.unit (s := S19x256x256) ![3, 0, 0] S1x256x256.size inb_S19x256x256_S1x256x256_3_0_0, k0_pay296 k0_pay292 (C 3)⟩,
   ⟨Rect.unit (s := S19x256x256) ![2, 0, 0] S1x256x256.size inb_S19x256x256_S1x256x256_2_0_0, k0_pay295 (C 2)⟩,
   ⟨Rect.unit (s := S19x256x256) ![1, 0, 0] S1x256x256.size inb_S19x256x256_S1x256x256_1_0_0, k0_pay294 (C 1)⟩,
   ⟨Rect.unit (s := S19x256x256) ![0, 0, 0] S1x256x256.size inb_S19x256x256_S1x256x256_0_0_0, k0_pay293 (C 0)⟩]

/-- Each is a block of the transformed array. -/
theorem tList_pieces (x : Vec Ideal S256x4864 .bf16) (C : Fin 19 → Vec Ideal S256x256 .bf16)
    (h : ∀ j (r p : Fin 256), C j (ix2 r p) = x (ix2 r (at2 j p))) : View.PiecesOf (tArr x) (tList C) :=
  ⟨t_piece x 18 (h 18) ![18, 0, 0] inb_S19x256x256_S1x256x256_18_0_0 rfl _ (t_pay18 _),
   t_piece x 17 (h 17) ![17, 0, 0] inb_S19x256x256_S1x256x256_17_0_0 rfl _ (t_pay17 _),
   t_piece x 16 (h 16) ![16, 0, 0] inb_S19x256x256_S1x256x256_16_0_0 rfl _ (t_pay16 _),
   t_piece x 15 (h 15) ![15, 0, 0] inb_S19x256x256_S1x256x256_15_0_0 rfl _ (t_pay15 _),
   t_piece x 14 (h 14) ![14, 0, 0] inb_S19x256x256_S1x256x256_14_0_0 rfl _ (t_pay14 _),
   t_piece x 13 (h 13) ![13, 0, 0] inb_S19x256x256_S1x256x256_13_0_0 rfl _ (t_pay13 _),
   t_piece x 12 (h 12) ![12, 0, 0] inb_S19x256x256_S1x256x256_12_0_0 rfl _ (t_pay12 _),
   t_piece x 11 (h 11) ![11, 0, 0] inb_S19x256x256_S1x256x256_11_0_0 rfl _ (t_pay11 _),
   t_piece x 10 (h 10) ![10, 0, 0] inb_S19x256x256_S1x256x256_10_0_0 rfl _ (t_pay10 _),
   t_piece x 9 (h 9) ![9, 0, 0] inb_S19x256x256_S1x256x256_9_0_0 rfl _ (t_pay9 _),
   t_piece x 8 (h 8) ![8, 0, 0] inb_S19x256x256_S1x256x256_8_0_0 rfl _ (t_pay8 _),
   t_piece x 7 (h 7) ![7, 0, 0] inb_S19x256x256_S1x256x256_7_0_0 rfl _ (t_pay7 _),
   t_piece x 6 (h 6) ![6, 0, 0] inb_S19x256x256_S1x256x256_6_0_0 rfl _ (t_pay6 _),
   t_piece x 5 (h 5) ![5, 0, 0] inb_S19x256x256_S1x256x256_5_0_0 rfl _ (t_pay5 _),
   t_piece x 4 (h 4) ![4, 0, 0] inb_S19x256x256_S1x256x256_4_0_0 rfl _ (t_pay4 _),
   t_piece x 3 (h 3) ![3, 0, 0] inb_S19x256x256_S1x256x256_3_0_0 rfl _ (t_pay3 _),
   t_piece x 2 (h 2) ![2, 0, 0] inb_S19x256x256_S1x256x256_2_0_0 rfl _ (t_pay2 _),
   t_piece x 1 (h 1) ![1, 0, 0] inb_S19x256x256_S1x256x256_1_0_0 rfl _ (t_pay1 _),
   t_piece x 0 (h 0) ![0, 0, 0] inb_S19x256x256_S1x256x256_0_0_0 rfl _ (t_pay0 _), trivial⟩

end Cert.KernelIdeal.Own

end
-- ==== Proof.CPieces.lean ====
module

public import proofs.«01_k».proof.Proof.MixValue
public import Idealize.ShloMosaic.Lib.Pipeline.ReadBack

@[expose] public section

set_option maxRecDepth 16384

noncomputable section

/-! The codes: what each of the nineteen stored blocks of codes holds, as integers and as small floats, and that together they are one array each. -/

namespace Cert.KernelIdeal.Own

open Idealize.ShloMosaic Idealize.ShloMosaic.TcCoe Idealize.ShloMosaic.Tactic
open Idealize.SL.Sem
open Cert.KernelIdeal Cert.KernelIdeal.Gen Cert.Spec

/-- An entry times the reciprocal of the scale, rounded and kept in [-7, 7]. -/
def qmul (r s : EReal) : EReal :=
  min (Ideal.ofBits FTy.f32 1088421888#32) (max (Ideal.ofBits FTy.f32 3235905536#32) (Ideal.liftRound Ideal.roundHalfEven (r * Ideal.div 1 s)))

/-- The rounded quotients of the mixed array by the scales, in token order. -/
def c8Arr (R : FVec Ideal S19x256x256 .f32) (S : FVec Ideal S256x1 .f32) : FVec Ideal S256x4864 .fp8e4m3 :=
  fun i => qmul (R (ix3 ⟨(i 1).val / 256, by have h : (i 1).val < 4864 := (i 1).isLt; omega⟩ (i 0) ⟨(i 1).val % 256, by omega⟩)) (S (ix2 (i 0) 0))

/-- The same as integers. -/
def codeArr (R : FVec Ideal S19x256x256 .f32) (S : FVec Ideal S256x1 .f32) : IVec S256x4864 8 :=
  fun i => FloatOps.fptosi (F := Ideal) (φ := .f32) 8 (c8Arr R S i)

theorem c8_at (R : FVec Ideal S19x256x256 .f32) (S : FVec Ideal S256x1 .f32) (j : Fin 19) (r q : Fin 256) :
    c8Arr R S (ix2 r (at2 j q)) = qmul (R (ix3 j r q)) (S (ix2 r 0)) := by
  show qmul (R (ix3 ⟨(256 * j.val + q.val) / 256, _⟩ r ⟨(256 * j.val + q.val) % 256, _⟩)) _ = _
  rw [show (⟨(256 * j.val + q.val) / 256, by omega⟩ : Fin 19) = j from Fin.ext (by simp only; omega),
    show (⟨(256 * j.val + q.val) % 256, by omega⟩ : Fin 256) = q from Fin.ext (by simp only; omega)]
  rfl

section
variable (R : FVec Ideal S19x256x256 .f32) (S : FVec Ideal S256x1 .f32) (j : Fin 19) {V : Vec Ideal S1x256x256 .f32}
  (hV : ∀ r q : Fin 256, V (ix3 0 r q) = R (ix3 j r q)) (off : Fin 2 → Nat) (inb : ∀ a, off a + S256x256.size a ≤ S256x4864.size a)
  (hoff : off = ![0, 256 * j.val])
include hV hoff

theorem c8_piece (pay : FVec Ideal S256x256 .fp8e4m3) (h : ∀ r q : Fin 256, pay (ix2 r q) = qmul (V (ix3 0 r q)) (S (ix2 r 0))) (x : S256x256.Idx) :
    pay x = c8Arr R S ((Rect.unit (s := S256x4864) off S256x256.size inb).emb x) := by
  subst hoff
  idx_vars x
  rw [emb_unit_eq _ _ _ _ (ix2 x0 (at2 j x1)) (by intro d; fin_cases d <;> simp [ix2, at2]), h, hV, c8_at]

theorem code_piece (pay : IVec S256x256 8)
    (h : ∀ r q : Fin 256, pay (ix2 r q) = FloatOps.fptosi (F := Ideal) (φ := .f32) 8 (qmul (V (ix3 0 r q)) (S (ix2 r 0)))) (x : S256x256.Idx) :
    pay x = codeArr R S ((Rect.unit (s := S256x4864) off S256x256.size inb).emb x) := by
  subst hoff
  idx_vars x
  rw [emb_unit_eq _ _ _ _ (ix2 x0 (at2 j x1)) (by intro d; fin_cases d <;> simp [ix2, at2]), h, hV]
  unfold codeArr
  rw [c8_at]
end

theorem code_pay18 (S : Vec Ideal S256x1 .f32) (V : Vec Ideal S1x256x256 .f32) (r q : Fin 256) :
    (k0_pay376 (F := Ideal) (k0_pay315 S) V) (ix2 r q) = FloatOps.fptosi (F := Ideal) (φ := .f32) 8 (qmul (V (ix3 0 r q)) (S (ix2 r 0))) := by
  pointwise [k0_pay376, k0_pay315, k0_pay375, k0_pay314]
  rfl

theorem code_pay17 (S : Vec Ideal S256x1 .f32) (V : Vec Ideal S1x256x256 .f32) (r q : Fin 256) :
    (k0_pay373 (F := Ideal) (k0_pay315 S) V) (ix2 r q) = FloatOps.fptosi (F := Ideal) (φ := .f32) 8 (qmul (V (ix3 0 r q)) (S (ix2 r 0))) := by
  pointwise [k0_pay373, k0_pay315, k0_pay372, k0_pay314]
  rfl

theorem code_pay16 (S : Vec Ideal S256x1 .f32) (V : Vec Ideal S1x256x256 .f32) (r q : Fin 256) :
    (k0_pay369 (F := Ideal) (k0_pay315 S) V) (ix2 r q) = FloatOps.fptosi (F := Ideal) (φ := .f32) 8 (qmul (V (ix3 0 r q)) (S (ix2 r 0))) := by
  pointwise [k0_pay369, k0_pay315, k0_pay368, k0_pay314]
  rfl

theorem code_pay15 (S : Vec Ideal S256x1 .f32) (V : Vec Ideal S1x256x256 .f32) (r q : Fin 256) :
    (k0_pay366 (F := Ideal) (k0_pay315 S) V) (ix2 r q) = FloatOps.fptosi (F := Ideal) (φ := .f32) 8 (qmul (V (ix3 0 r q)) (S (ix2 r 0))) := by
  pointwise [k0_pay366, k0_pay315, k0_pay365, k0_pay314]
  rfl

theorem code_pay14 (S : Vec Ideal S256x1 .f32) (V : Vec Ideal S1x256x256 .f32) (r q : Fin 256) :
    (k0_pay363 (F := Ideal) (k0_pay362 (k0_pay315 S) V)) (ix2 r q) = FloatOps.fptosi (F := Ideal) (φ := .f32) 8 (qmul (V (ix3 0 r q)) (S (ix2 r 0))) := by
  pointwise [k0_pay363, k0_pay362, k0_pay315, k0_pay314]
  rfl

theorem code_pay13 (S : Vec Ideal S256x1 .f32) (V : Vec Ideal S1x256x256 .f32) (r q : Fin 256) :
    (k0_pay360 (F := Ideal) (k0_pay315 S) V) (ix2 r q) = FloatOps.fptosi (F := Ideal) (φ := .f32) 8 (qmul (V (ix3 0 r q)) (S (ix2 r 0))) := by
  pointwise [k0_pay360, k0_pay315, k0_pay359, k0_pay314]
  rfl

theorem code_pay12 (S : Vec Ideal S256x1 .f32) (V : Vec Ideal S1x256x256 .f32) (r q : Fin 256) :
    (k0_pay357 (F := Ideal) (k0_pay354 V) (k0_pay355 (k0_pay315 S))) (ix2 r q) = FloatOps.fptosi (F := Ideal) (φ := .f32) 8 (qmul (V (ix3 0 r q)) (S (ix2 r 0))) := by
  pointwise [k0_pay357, k0_pay354, k0_pay355, k0_pay315, k0_pay356, k0_pay314]
  rfl

theorem code_pay11 (S : Vec Ideal S256x1 .f32) (V : Vec Ideal S1x256x256 .f32) (r q : Fin 256) :
    (k0_pay352 (F := Ideal) (k0_pay315 S) V) (ix2 r q) = FloatOps.fptosi (F := Ideal) (φ := .f32) 8 (qmul (V (ix3 0 r q)) (S (ix2 r 0))) := by
  pointwise [k0_pay352, k0_pay315, k0_pay351, k0_pay314]
  rfl

theorem code_pay10 (S : Vec Ideal S256x1 .f32) (V : Vec Ideal S1x256x256 .f32) (r q : Fin 256) :
    (k0_pay349 (F := Ideal) (k0_pay315 S) V) (ix2 r q) = FloatOps.fptosi (F := Ideal) (φ := .f32) 8 (qmul (V (ix3 0 r q)) (S (ix2 r 0))) := by
  pointwise [k0_pay349, k0_pay315, k0_pay348, k0_pay314]
  rfl

theorem code_pay9 (S : Vec Ideal S256x1 .f32) (V : Vec Ideal S1x256x256 .f32) (r q : Fin 256) :
    (k0_pay345 (F := Ideal) (k0_pay315 S) V) (ix2 r q) = FloatOps.fptosi (F := Ideal) (φ := .f32) 8 (qmul (V (ix3 0 r q)) (S (ix2 r 0))) := by
  pointwise [k0_pay345, k0_pay315, k0_pay344, k0_pay314]
  rfl

theorem code_pay8 (S : Vec Ideal S256x1 .f32) (V : Vec Ideal S1x256x256 .f32) (r q : Fin 256) :
    (k0_pay342 (F := Ideal) (k0_pay315 S) V) (ix2 r q) = FloatOps.fptosi (F := Ideal) (φ := .f32) 8 (qmul (V (ix3 0 r q)) (S (ix2 r 0))) := by
  pointwise [k0_pay342, k0_pay315, k0_pay341, k0_pay314]
  rfl

theorem code_pay7 (S : Vec Ideal S256x1 .f32) (V : Vec Ideal S1x256x256 .f32) (r q : Fin 256) :
    (k0_pay339 (F := Ideal) (k0_pay315 S) V) (ix2 r q) = FloatOps.fptosi (F := Ideal) (φ := .f32) 8 (qmul (V (ix3 0 r q)) (S (ix2 r 0))) := by
  pointwise [k0_pay339, k0_pay315, k0_pay338, k0_pay314]
  rfl

theorem code_pay6 (S : Vec Ideal S256x1 .f32) (V : Vec Ideal S1x256x256 .f32) (r q : Fin 256) :
    (k0_pay336 (F := Ideal) (k0_pay315 S) V) (ix2 r q) = FloatOps.fptosi (F := Ideal) (φ := .f32) 8 (qmul (V (ix3 0 r q)) (S (ix2 r 0))) := by
  pointwise [k0_pay336, k0_pay315, k0_pay335, k0_pay314]
  rfl

theorem code_pay5 (S : Vec Ideal S256x1 .f32) (V : Vec Ideal S1x256x256 .f32) (r q : Fin 256) :
    (k0_pay333 (F := Ideal) (k0_pay331 (k0_pay315 S) V)) (ix2 r q) = FloatOps.fptosi (F := Ideal) (φ := .f32) 8 (qmul (V (ix3 0 r q)) (S (ix2 r 0))) := by
  pointwise [k0_pay333, k0_pay331, k0_pay315, k0_pay332, k0_pay314]
  rfl

theorem code_pay4 (S : Vec Ideal S256x1 .f32) (V : Vec Ideal S1x256x256 .f32) (r q : Fin 256) :
    (k0_pay329 (F := Ideal) (k0_pay315 S) V) (ix2 r q) = FloatOps.fptosi (F := Ideal) (φ := .f32) 8 (qmul (V (ix3 0 r q)) (S (ix2 r 0))) := by
  pointwise [k0_pay329, k0_pay315, k0_pay328, k0_pay314]
  rfl

theorem code_pay3 (S : Vec Ideal S256x1 .f32) (V : Vec Ideal S1x256x256 .f32) (r q : Fin 256) :
    (k0_pay326 (F := Ideal) (k0_pay315 S) V) (ix2 r q) = FloatOps.fptosi (F := Ideal) (φ := .f32) 8 (qmul (V (ix3 0 r q)) (S (ix2 r 0))) := by
  pointwise [k0_pay326, k0_pay315, k0_pay325, k0_pay314]
  rfl

theorem code_pay2 (S : Vec Ideal S256x1 .f32) (V : Vec Ideal S1x256x256 .f32) (r q : Fin 256) :
    (k0_pay323 (F := Ideal) (k0_pay315 S) V) (ix2 r q) = FloatOps.fptosi (F := Ideal) (φ := .f32) 8 (qmul (V (ix3 0 r q)) (S (ix2 r 0))) := by
  pointwise [k0_pay323, k0_pay315, k0_pay322, k0_pay314]
  rfl

theorem code_pay1 (S : Vec Ideal S256x1 .f32) (V : Vec Ideal S1x256x256 .f32) (r q : Fin 256) :
    (k0_pay320 (F := Ideal) (k0_pay315 S) V) (ix2 r q) = FloatOps.fptosi (F := Ideal) (φ := .f32) 8 (qmul (V (ix3 0 r q)) (S (ix2 r 0))) := by
  pointwise [k0_pay320, k0_pay315, k0_pay319, k0_pay314]
  rfl

theorem code_pay0 (S : Vec Ideal S256x1 .f32) (V : Vec Ideal S1x256x256 .f32) (r q : Fin 256) :
    (k0_pay317 (F := Ideal) S V) (ix2 r q) = FloatOps.fptosi (F := Ideal) (φ := .f32) 8 (qmul (V (ix3 0 r q)) (S (ix2 r 0))) := by
  pointwise [k0_pay317, k0_pay316, k0_pay315, k0_pay314]
  rfl

theorem c8_pay18 (S : Vec Ideal S256x1 .f32) (V : Vec Ideal S1x256x256 .f32) (r q : Fin 256) :
    (k0_pay377 (F := Ideal) (k0_pay315 S) V) (ix2 r q) = qmul (V (ix3 0 r q)) (S (ix2 r 0)) := by
  pointwise [k0_pay377, k0_pay315, k0_pay375, k0_pay314]
  rfl

theorem c8_pay17 (S : Vec Ideal S256x1 .f32) (V : Vec Ideal S1x256x256 .f32) (r q : Fin 256) :
    (k0_pay374 (F := Ideal) (k0_pay315 S) V) (ix2 r q) = qmul (V (ix3 0 r q)) (S (ix2 r 0)) := by
  pointwise [k0_pay374, k0_pay315, k0_pay372, k0_pay314]
  rfl

theorem c8_pay16 (S : Vec Ideal S256x1 .f32) (V : Vec Ideal S1x256x256 .f32) (r q : Fin 256) :
    (k0_pay371 (F := Ideal) (k0_pay370 (k0_pay315 S) V)) (ix2 r q) = qmul (V (ix3 0 r q)) (S (ix2 r 0)) := by
  pointwise [k0_pay371, k0_pay370, k0_pay315, k0_pay368, k0_pay314]
  rfl

theorem c8_pay15 (S : Vec Ideal S256x1 .f32) (V : Vec Ideal S1x256x256 .f32) (r q : Fin 256) :
    (k0_pay367 (F := Ideal) (k0_pay315 S) V) (ix2 r q) = qmul (V (ix3 0 r q)) (S (ix2 r 0)) := by
  pointwise [k0_pay367, k0_pay315, k0_pay365, k0_pay314]
  rfl

theorem c8_pay14 (S : Vec Ideal S256x1 .f32) (V : Vec Ideal S1x256x256 .f32) (r q : Fin 256) :
    (k0_pay364 (F := Ideal) (k0_pay362 (k0_pay315 S) V)) (ix2 r q) = qmul (V (ix3 0 r q)) (S (ix2 r 0)) := by
  pointwise [k0_pay364, k0_pay362, k0_pay315, k0_pay314]
  rfl

theorem c8_pay13 (S : Vec Ideal S256x1 .f32) (V : Vec Ideal S1x256x256 .f32) (r q : Fin 256) :
    (k0_pay361 (F := Ideal) (k0_pay315 S) V) (ix2 r q) = qmul (V (ix3 0 r q)) (S (ix2 r 0)) := by
  pointwise [k0_pay361, k0_pay315, k0_pay359, k0_pay314]
  rfl

theorem c8_pay12 (S : Vec Ideal S256x1 .f32) (V : Vec Ideal S1x256x256 .f32) (r q : Fin 256) :
    (k0_pay358 (F := Ideal) (k0_pay354 V) (k0_pay355 (k0_pay315 S))) (ix2 r q) = qmul (V (ix3 0 r q)) (S (ix2 r 0)) := by
  pointwise [k0_pay358, k0_pay354, k0_pay355, k0_pay315, k0_pay356, k0_pay314]
  rfl

theorem c8_pay11 (S : Vec Ideal S256x1 .f32) (V : Vec Ideal S1x256x256 .f32) (r q : Fin 256) :
    (k0_pay353 (F := Ideal) (k0_pay315 S) V) (ix2 r q) = qmul (V (ix3 0 r q)) (S (ix2 r 0)) := by
  pointwise [k0_pay353, k0_pay315, k0_pay351, k0_pay314]
  rfl

theorem c8_pay10 (S : Vec Ideal S256x1 .f32) (V : Vec Ideal S1x256x256 .f32) (r q : Fin 256) :
    (k0_pay350 (F := Ideal) (k0_pay315 S) V) (ix2 r q) = qmul (V (ix3 0 r q)) (S (ix2 r 0)) := by
  pointwise [k0_pay350, k0_pay315, k0_pay348, k0_pay314]
  rfl

theorem c8_pay9 (S : Vec Ideal S256x1 .f32) (V : Vec Ideal S1x256x256 .f32) (r q : Fin 256) :
    (k0_pay347 (F := Ideal) (k0_pay346 (k0_pay315 S) V)) (ix2 r q) = qmul (V (ix3 0 r q)) (S (ix2 r 0)) := by
  pointwise [k0_pay347, k0_pay346, k0_pay315, k0_pay344, k0_pay314]
  rfl

theorem c8_pay8 (S : Vec Ideal S256x1 .f32) (V : Vec Ideal S1x256x256 .f32) (r q : Fin 256) :
    (k0_pay343 (F := Ideal) (k0_pay315 S) V) (ix2 r q) = qmul (V (ix3 0 r q)) (S (ix2 r 0)) := by
  pointwise [k0_pay343, k0_pay315, k0_pay341, k0_pay314]
  rfl

theorem c8_pay7 (S : Vec Ideal S256x1 .f32) (V : Vec Ideal S1x256x256 .f32) (r q : Fin 256) :
    (k0_pay340 (F := Ideal) (k0_pay338 (k0_pay315 S) V)) (ix2 r q) = qmul (V (ix3 0 r q)) (S (ix2 r 0)) := by
  pointwise [k0_pay340, k0_pay338, k0_pay315, k0_pay314]
  rfl

theorem c8_pay6 (S : Vec Ideal S256x1 .f32) (V : Vec Ideal S1x256x256 .f32) (r q : Fin 256) :
    (k0_pay337 (F := Ideal) (k0_pay315 S) V) (ix2 r q) = qmul (V (ix3 0 r q)) (S (ix2 r 0)) := by
  pointwise [k0_pay337, k0_pay315, k0_pay335, k0_pay314]
  rfl

theorem c8_pay5 (S : Vec Ideal S256x1 .f32) (V : Vec Ideal S1x256x256 .f32) (r q : Fin 256) :
    (k0_pay334 (F := Ideal) (k0_pay331 (k0_pay315 S) V)) (ix2 r q) = qmul (V (ix3 0 r q)) (S (ix2 r 0)) := by
  pointwise [k0_pay334, k0_pay331, k0_pay315, k0_pay332, k0_pay314]
  rfl

theorem c8_pay4 (S : Vec Ideal S256x1 .f32) (V : Vec Ideal S1x256x256 .f32) (r q : Fin 256) :
    (k0_pay330 (F := Ideal) (k0_pay315 S) V) (ix2 r q) = qmul (V (ix3 0 r q)) (S (ix2 r 0)) := by
  pointwise [k0_pay330, k0_pay315, k0_pay328, k0_pay314]
  rfl

theorem c8_pay3 (S : Vec Ideal S256x1 .f32) (V : Vec Ideal S1x256x256 .f32) (r q : Fin 256) :
    (k0_pay327 (F := Ideal) (k0_pay315 S) V) (ix2 r q) = qmul (V (ix3 0 r q)) (S (ix2 r 0)) := by
  pointwise [k0_pay327, k0_pay315, k0_pay325, k0_pay314]
  rfl

theorem c8_pay2 (S : Vec Ideal S256x1 .f32) (V : Vec Ideal S1x256x256 .f32) (r q : Fin 256) :
    (k0_pay324 (F := Ideal) (k0_pay315 S) V) (ix2 r q) = qmul (V (ix3 0 r q)) (S (ix2 r 0)) := by
  pointwise [k0_pay324, k0_pay315, k0_pay322, k0_pay314]
  rfl

theorem c8_pay1 (S : Vec Ideal S256x1 .f32) (V : Vec Ideal S1x256x256 .f32) (r q : Fin 256) :
    (k0_pay321 (F := Ideal) (k0_pay315 S) V) (ix2 r q) = qmul (V (ix3 0 r q)) (S (ix2 r 0)) := by
  pointwise [k0_pay321, k0_pay315, k0_pay319, k0_pay314]
  rfl

theorem c8_pay0 (S : Vec Ideal S256x1 .f32) (V : Vec Ideal S1x256x256 .f32) (r q : Fin 256) :
    (k0_pay318 (F := Ideal) (k0_pay316 S V)) (ix2 r q) = qmul (V (ix3 0 r q)) (S (ix2 r 0)) := by
  pointwise [k0_pay318, k0_pay316, k0_pay315, k0_pay314]
  rfl

/-- The nineteen stores of integer codes, last first. -/
def codeList (S : Vec Ideal S256x1 .f32) (V : Fin 19 → Vec Ideal S1x256x256 .f32) : List (View.Piece (Elt Ideal) S256x4864 .i8) :=
  [⟨Rect.unit (s := S256x4864) ![0, 4608] S256x256.size inb_S256x4864_S256x256_0_4608, k0_pay376 (k0_pay315 S) (V 18)⟩,
   ⟨Rect.unit (s := S256x4864) ![0, 4352] S256x256.size inb_S256x4864_S256x256_0_4352, k0_pay373 (k0_pay315 S) (V 17)⟩,
   ⟨Rect.unit (s := S256x4864) ![0, 4096] S256x256.size inb_S256x4864_S256x256_0_4096, k0_pay369 (k0_pay315 S) (V 16)⟩,
   ⟨Rect.unit (s := S256x4864) ![0, 3840] S256x256.size inb_S256x4864_S256x256_0_3840, k0_pay366 (k0_pay315 S) (V 15)⟩,
   ⟨Rect.unit (s := S256x4864) ![0, 3584] S256x256.size inb_S256x4864_S256x256_0_3584, k0_pay363 (k0_pay362 (k0_pay315 S) (V 14))⟩,
   ⟨Rect.unit (s := S256x4864) ![0, 3328] S256x256.size inb_S256x4864_S256x256_0_3328, k0_pay360 (k0_pay315 S) (V 13)⟩,
   ⟨Rect.unit (s := S256x4864) ![0, 3072] S256x256.size inb_S256x4864_S256x256_0_3072, k0_pay357 (k0_pay354 (V 12)) (k0_pay355 (k0_pay315 S))⟩,
   ⟨Rect.unit (s := S256x4864) ![0, 2816] S256x256.size inb_S256x4864_S256x256_0_2816, k0_pay352 (k0_pay315 S) (V 11)⟩,
   ⟨Rect.unit (s := S256x4864) ![0, 2560] S256x256.size inb_S256x4864_S256x256_0_2560, k0_pay349 (k0_pay315 S) (V 10)⟩,
   ⟨Rect.unit (s := S256x4864) ![0, 2304] S256x256.size inb_S256x4864_S256x256_0_2304, k0_pay345 (k0_pay315 S) (V 9)⟩,
   ⟨Rect.unit (s := S256x4864) ![0, 2048] S256x256.size inb_S256x4864_S256x256_0_2048, k0_pay342 (k0_pay315 S) (V 8)⟩,
   ⟨Rect.unit (s := S256x4864) ![0, 1792] S256x256.size inb_S256x4864_S256x256_0_1792, k0_pay339 (k0_pay315 S) (V 7)⟩,
   ⟨Rect.unit (s := S256x4864) ![0, 1536] S256x256.size inb_S256x4864_S256x256_0_1536, k0_pay336 (k0_pay315 S) (V 6)⟩,
   ⟨Rect.unit (s := S256x4864) ![0, 1280] S256x256.size inb_S256x4864_S256x256_0_1280, k0_pay333 (k0_pay331 (k0_pay315 S) (V 5))⟩,
   ⟨Rect.unit (s := S256x4864) ![0, 1024] S256x256.size inb_S256x4864_S256x256_0_1024, k0_pay329 (k0_pay315 S) (V 4)⟩,
   ⟨Rect.unit (s := S256x4864) ![0, 768] S256x256.size inb_S256x4864_S256x256_0_768, k0_pay326 (k0_pay315 S) (V 3)⟩,
   ⟨Rect.unit (s := S256x4864) ![0, 512] S256x256.size inb_S256x4864_S256x256_0_512, k0_pay323 (k0_pay315 S) (V 2)⟩,
   ⟨Rect.unit (s := S256x4864) ![0, 256] S256x256.size inb_S256x4864_S256x256_0_256, k0_pay320 (k0_pay315 S) (V 1)⟩,
   ⟨Rect.unit (s := S256x4864) ![0, 0] S256x256.size inb_S256x4864_S256x256_0_0, k0_pay317 S (V 0)⟩]

theorem codeList_pieces (R : FVec Ideal S19x256x256 .f32) (S : FVec Ideal S256x1 .f32) (V : Fin 19 → Vec Ideal S1x256x256 .f32)
    (h : ∀ j (r q : Fin 256), V j (ix3 0 r q) = R (ix3 j r q)) : View.PiecesOf (codeArr R S) (codeList S V) :=
  ⟨code_piece R S 18 (h 18) ![0, 4608] inb_S256x4864_S256x256_0_4608 rfl _ (code_pay18 _ _),
   code_piece R S 17 (h 17) ![0, 4352] inb_S256x4864_S256x256_0_4352 rfl _ (code_pay17 _ _),
   code_piece R S 16 (h 16) ![0, 4096] inb_S256x4864_S256x256_0_4096 rfl _ (code_pay16 _ _),
   code_piece R S 15 (h 15) ![0, 3840] inb_S256x4864_S256x256_0_3840 rfl _ (code_pay15 _ _),
   code_piece R S 14 (h 14) ![0, 3584] inb_S256x4864_S256x256_0_3584 rfl _ (code_pay14 _ _),
   code_piece R S 13 (h 13) ![0, 3328] inb_S256x4864_S256x256_0_3328 rfl _ (code_pay13 _ _),
   code_piece R S 12 (h 12) ![0, 3072] inb_S256x4864_S256x256_0_3072 rfl _ (code_pay12 _ _),
   code_piece R S 11 (h 11) ![0, 2816] inb_S256x4864_S256x256_0_2816 rfl _ (code_pay11 _ _),
   code_piece R S 10 (h 10) ![0, 2560] inb_S256x4864_S256x256_0_2560 rfl _ (code_pay10 _ _),
   code_piece R S 9 (h 9) ![0, 2304] inb_S256x4864_S256x256_0_2304 rfl _ (code_pay9 _ _),
   code_piece R S 8 (h 8) ![0, 2048] inb_S256x4864_S256x256_0_2048 rfl _ (code_pay8 _ _),
   code_piece R S 7 (h 7) ![0, 1792] inb_S256x4864_S256x256_0_1792 rfl _ (code_pay7 _ _),
   code_piece R S 6 (h 6) ![0, 1536] inb_S256x4864_S256x256_0_1536 rfl _ (code_pay6 _ _),
   code_piece R S 5 (h 5) ![0, 1280] inb_S256x4864_S256x256_0_1280 rfl _ (code_pay5 _ _),
   code_piece R S 4 (h 4) ![0, 1024] inb_S256x4864_S256x256_0_1024 rfl _ (code_pay4 _ _),
   code_piece R S 3 (h 3) ![0, 768] inb_S256x4864_S256x256_0_768 rfl _ (code_pay3 _ _),
   code_piece R S 2 (h 2) ![0, 512] inb_S256x4864_S256x256_0_512 rfl _ (code_pay2 _ _),
   code_piece R S 1 (h 1) ![0, 256] inb_S256x4864_S256x256_0_256 rfl _ (code_pay1 _ _),
   code_piece R S 0 (h 0) ![0, 0] inb_S256x4864_S256x256_0_0 rfl _ (code_pay0 _ _), trivial⟩

/-- The nineteen stores of small-float codes, last first. -/
def c8List (S : Vec Ideal S256x1 .f32) (V : Fin 19 → Vec Ideal S1x256x256 .f32) : List (View.Piece (Elt Ideal) S256x4864 .fp8e4m3) :=
  [⟨Rect.unit (s := S256x4864) ![0, 4608] S256x256.size inb_S256x4864_S256x256_0_4608, k0_pay377 (k0_pay315 S) (V 18)⟩,
   ⟨Rect.unit (s := S256x4864) ![0, 4352] S256x256.size inb_S256x4864_S256x256_0_4352, k0_pay374 (k0_pay315 S) (V 17)⟩,
   ⟨Rect.unit (s := S256x4864) ![0, 4096] S256x256.size inb_S256x4864_S256x256_0_4096, k0_pay371 (k0_pay370 (k0_pay315 S) (V 16))⟩,
   ⟨Rect.unit (s := S256x4864) ![0, 3840] S256x256.size inb_S256x4864_S256x256_0_3840, k0_pay367 (k0_pay315 S) (V 15)⟩,
   ⟨Rect.unit (s := S256x4864) ![0, 3584] S256x256.size inb_S256x4864_S256x256_0_3584, k0_pay364 (k0_pay362 (k0_pay315 S) (V 14))⟩,
   ⟨Rect.unit (s := S256x4864) ![0, 3328] S256x256.size inb_S256x4864_S256x256_0_3328, k0_pay361 (k0_pay315 S) (V 13)⟩,
   ⟨Rect.unit (s := S256x4864) ![0, 3072] S256x256.size inb_S256x4864_S256x256_0_3072, k0_pay358 (k0_pay354 (V 12)) (k0_pay355 (k0_pay315 S))⟩,
   ⟨Rect.unit (s := S256x4864) ![0, 2816] S256x256.size inb_S256x4864_S256x256_0_2816, k0_pay353 (k0_pay315 S) (V 11)⟩,
   ⟨Rect.unit (s := S256x4864) ![0, 2560] S256x256.size inb_S256x4864_S256x256_0_2560, k0_pay350 (k0_pay315 S) (V 10)⟩,
   ⟨Rect.unit (s := S256x4864) ![0, 2304] S256x256.size inb_S256x4864_S256x256_0_2304, k0_pay347 (k0_pay346 (k0_pay315 S) (V 9))⟩,
   ⟨Rect.unit (s := S256x4864) ![0, 2048] S256x256.size inb_S256x4864_S256x256_0_2048, k0_pay343 (k0_pay315 S) (V 8)⟩,
   ⟨Rect.unit (s := S256x4864) ![0, 1792] S256x256.size inb_S256x4864_S256x256_0_1792, k0_pay340 (k0_pay338 (k0_pay315 S) (V 7))⟩,
   ⟨Rect.unit (s := S256x4864) ![0, 1536] S256x256.size inb_S256x4864_S256x256_0_1536, k0_pay337 (k0_pay315 S) (V 6)⟩,
   ⟨Rect.unit (s := S256x4864) ![0, 1280] S256x256.size inb_S256x4864_S256x256_0_1280, k0_pay334 (k0_pay331 (k0_pay315 S) (V 5))⟩,
   ⟨Rect.unit (s := S256x4864) ![0, 1024] S256x256.size inb_S256x4864_S256x256_0_1024, k0_pay330 (k0_pay315 S) (V 4)⟩,
   ⟨Rect.unit (s := S256x4864) ![0, 768] S256x256.size inb_S256x4864_S256x256_0_768, k0_pay327 (k0_pay315 S) (V 3)⟩,
   ⟨Rect.unit (s := S256x4864) ![0, 512] S256x256.size inb_S256x4864_S256x256_0_512, k0_pay324 (k0_pay315 S) (V 2)⟩,
   ⟨Rect.unit (s := S256x4864) ![0, 256] S256x256.size inb_S256x4864_S256x256_0_256, k0_pay321 (k0_pay315 S) (V 1)⟩,
   ⟨Rect.unit (s := S256x4864) ![0, 0] S256x256.size inb_S256x4864_S256x256_0_0, k0_pay318 (k0_pay316 S (V 0))⟩]

theorem c8List_pieces (R : FVec Ideal S19x256x256 .f32) (S : FVec Ideal S256x1 .f32) (V : Fin 19 → Vec Ideal S1x256x256 .f32)
    (h : ∀ j (r q : Fin 256), V j (ix3 0 r q) = R (ix3 j r q)) : View.PiecesOf (c8Arr R S) (c8List S V) :=
  ⟨c8_piece R S 18 (h 18) ![0, 4608] inb_S256x4864_S256x256_0_4608 rfl _ (c8_pay18 _ _),
   c8_piece R S 17 (h 17) ![0, 4352] inb_S256x4864_S256x256_0_4352 rfl _ (c8_pay17 _ _),
   c8_piece R S 16 (h 16) ![0, 4096] inb_S256x4864_S256x256_0_4096 rfl _ (c8_pay16 _ _),
   c8_piece R S 15 (h 15) ![0, 3840] inb_S256x4864_S256x256_0_3840 rfl _ (c8_pay15 _ _),
   c8_piece R S 14 (h 14) ![0, 3584] inb_S256x4864_S256x256_0_3584 rfl _ (c8_pay14 _ _),
   c8_piece R S 13 (h 13) ![0, 3328] inb_S256x4864_S256x256_0_3328 rfl _ (c8_pay13 _ _),
   c8_piece R S 12 (h 12) ![0, 3072] inb_S256x4864_S256x256_0_3072 rfl _ (c8_pay12 _ _),
   c8_piece R S 11 (h 11) ![0, 2816] inb_S256x4864_S256x256_0_2816 rfl _ (c8_pay11 _ _),
   c8_piece R S 10 (h 10) ![0, 2560] inb_S256x4864_S256x256_0_2560 rfl _ (c8_pay10 _ _),
   c8_piece R S 9 (h 9) ![0, 2304] inb_S256x4864_S256x256_0_2304 rfl _ (c8_pay9 _ _),
   c8_piece R S 8 (h 8) ![0, 2048] inb_S256x4864_S256x256_0_2048 rfl _ (c8_pay8 _ _),
   c8_piece R S 7 (h 7) ![0, 1792] inb_S256x4864_S256x256_0_1792 rfl _ (c8_pay7 _ _),
   c8_piece R S 6 (h 6) ![0, 1536] inb_S256x4864_S256x256_0_1536 rfl _ (c8_pay6 _ _),
   c8_piece R S 5 (h 5) ![0, 1280] inb_S256x4864_S256x256_0_1280 rfl _ (c8_pay5 _ _),
   c8_piece R S 4 (h 4) ![0, 1024] inb_S256x4864_S256x256_0_1024 rfl _ (c8_pay4 _ _),
   c8_piece R S 3 (h 3) ![0, 768] inb_S256x4864_S256x256_0_768 rfl _ (c8_pay3 _ _),
   c8_piece R S 2 (h 2) ![0, 512] inb_S256x4864_S256x256_0_512 rfl _ (c8_pay2 _ _),
   c8_piece R S 1 (h 1) ![0, 256] inb_S256x4864_S256x256_0_256 rfl _ (c8_pay1 _ _),
   c8_piece R S 0 (h 0) ![0, 0] inb_S256x4864_S256x256_0_0 rfl _ (c8_pay0 _ _), trivial⟩

end Cert.KernelIdeal.Own

end
-- ==== Proof.BlockParts.lean ====
module

public import proofs.«01_k».proof.Proof.Frame
public import proofs.«01_k».proof.Proof.WPieces
public import proofs.«01_k».proof.Proof.TPieces
public import proofs.«01_k».proof.Proof.CPieces
public import Idealize.ShloMosaic.Lib.Pipeline.ReadBack

@[expose] public section

set_option maxRecDepth 16384

noncomputable section

/-! What one grid point leaves in its buffers: the scales, the codes, the products and, at the first point, the decoded weights. -/

namespace Cert.KernelIdeal.Own

open Idealize.ShloMosaic Idealize.ShloMosaic.TcCoe Idealize.ShloMosaic.Tactic
open Idealize.SL.Sem
open Cert.KernelIdeal Cert.KernelIdeal.Gen Cert.Spec

/-- An array through a 256-row block's own coordinates: the mixed array of a block of tokens. -/
def rArr (h : Vec Ideal S19x19 .f32) (x : Vec Ideal S256x4864 .bf16) : FVec Ideal S19x256x256 .f32 :=
  mixArr (tArr x) fun j l => h (ix2 j l)

/-- The scales of a block of tokens. -/
def sArr (h : Vec Ideal S19x19 .f32) (x : Vec Ideal S256x4864 .bf16) : FVec Ideal S256x1 .f32 := scaleArr (rArr h x)

section
variable (arg1 : Memref sig .tc .smem S19x19 .f32) (harg1 : arg1.IsWhole) (arg2 : Memref sig .tc .vmem S256x4864 .bf16) (harg2 : arg2.IsWhole)
  (arg3 : Memref sig .tc .vmem S2432x896 .i8) (harg3 : arg3.IsWhole) (arg4 : Memref sig .tc .vmem S38x896 .f32) (harg4 : arg4.IsWhole)
  (arg8 : Memref sig .tc .vmem S256x1 .f32) (arg10 : Memref sig .tc .vmem S19x256x256 .f32) (arg11 : Memref sig .tc .vmem S19x256x256 .f32)
  (x0 : Vec Ideal S19x19 .f32) (x1 : Vec Ideal S256x4864 .bf16) (x2 : Vec Ideal S2432x896 .i8) (x3 : Vec Ideal S38x896 .f32)

theorem col_inb (j : Fin 19) : ∀ a, (![0, 256 * j.val] : Fin 2 → Nat) a + S256x256.size a ≤ S256x4864.size a := by revert j; decide +kernel
theorem slab_inb (j : Fin 19) : ∀ a, (![j.val, 0, 0] : Fin 3 → Nat) a + S1x256x256.size a ≤ S19x256x256.size a := by revert j; decide +kernel
theorem wp_inb (g : Fin 38) : ∀ a, (![64 * g.val, 0] : Fin 2 → Nat) a + S64x896.size a ≤ S2432x896.size a := by revert g; decide +kernel
theorem pw_inb (g : Fin 38) : ∀ a, (![g.val, 0] : Fin 2 → Nat) a + S1x896.size a ≤ S38x896.size a := by revert g; decide +kernel

/-- The column blocks as loaded. -/
def cols (j : Fin 19) : Vec Ideal S256x256 .bf16 :=
  View.readAt (Elt Ideal) arg2.view (Rect.unit (s := S256x4864) ![0, 256 * j.val] S256x256.size (col_inb j)).toLoadRect (harg2.unread x1)

theorem cols_apply (j : Fin 19) (r p : Fin 256) : cols arg2 harg2 x1 j (ix2 r p) = x1 (ix2 r (at2 j p)) := by
  unfold cols
  rw [View.readAt_eq_ld, harg2.read_unread]
  exact View.ld_unit_apply_of _ _ _ _ _ _ (by intro d; fin_cases d <;> simp [ix2, at2])

/-- The packed rows of a chunk as loaded. -/
def wps (g : Fin 38) : Vec Ideal S64x896 .i8 :=
  View.readAt (Elt Ideal) arg3.view (Rect.unit (s := S2432x896) ![64 * g.val, 0] S64x896.size (wp_inb g)).toLoadRect (harg3.unread x2)

/-- The powers of a chunk as loaded. -/
def pws (g : Fin 38) : Vec Ideal S1x896 .f32 :=
  View.readAt (Elt Ideal) arg4.view (Rect.unit (s := S38x896) ![g.val, 0] S1x896.size (pw_inb g)).toLoadRect (harg4.unread x3)

theorem isChunk (g : Fin 38) : IsChunk x2 x3 g (wps arg3 harg3 x2 g) (pws arg4 harg4 x3 g) := by
  refine ⟨fun r q => ?_, fun q => ?_⟩
  · unfold wps
    rw [View.readAt_eq_ld, harg3.read_unread]
    exact View.ld_unit_apply_of _ _ _ _ _ _ (by intro d; fin_cases d <;> simp [ix2])
  · unfold pws
    rw [View.readAt_eq_ld, harg4.read_unread]
    exact View.ld_unit_apply_of _ _ _ _ _ _ (by intro d; fin_cases d <;> simp [ix2])

/-- The mixed slabs as loaded back. -/
def backs (L : List (View.Piece (Elt Ideal) S19x256x256 .f32)) (j : Fin 19) : Vec Ideal S1x256x256 .f32 :=
  arg11.view.readCov L (Rect.unit (s := S19x256x256) ![j.val, 0, 0] S1x256x256.size (slab_inb j)).toLoadRect

theorem backs_apply (L : List (View.Piece (Elt Ideal) S19x256x256 .f32)) (R : FVec Ideal S19x256x256 .f32) (h : View.canon L = R) (j : Fin 19)
    (r q : Fin 256) : backs arg11 L j (ix3 0 r q) = R (ix3 j r q) := by
  unfold backs
  rw [View.readCov_eq_canon', h]
  exact View.ld_unit_apply_of (S := S19x256x256) (Val := Elt Ideal) (e := .f32) R ![j.val, 0, 0] S1x256x256.size (slab_inb j) (ix3 (0 : Fin 1) r q) (ix3 j r q) (by intro d; fin_cases d <;> simp [ix3])

/-- The transformed array the loop reads. -/
theorem read_tList : arg10.view.read (Elt Ideal) (arg10.view.writes (Elt Ideal) arg10.view.junk (tList (cols arg2 harg2 x1))) = tArr x1 := by
  have hc : ∀ y, ∃ p ∈ tList (cols arg2 harg2 x1), y ∈ p.1.set := fun y =>
    View.cover_of_tiledL (tList (cols arg2 harg2 x1)) S1x256x256.size (by sl_kernel_rfl) y
  rw [View.read_writes_eq_canon _ _ _ hc]
  exact funext fun y => View.canon_apply_of_pieces _ _ (tList_pieces x1 _ (cols_apply arg2 harg2 x1)).mem y (hc y)

theorem had_eq : had arg1 (harg1.unread x0) = fun j l => x0 (ix2 j l) := by
  unfold had
  rw [harg1.read_unread]

end

variable (𝒱 : Variants) (c : Dev nD) (bd : Option 𝒱.V) (i : grid0.Coords)
  (arg1 : Memref sig .tc .smem S19x19 .f32) (harg1 : arg1.IsWhole) (arg2 : Memref sig .tc .vmem S256x4864 .bf16) (harg2 : arg2.IsWhole)
  (arg3 : Memref sig .tc .vmem S2432x896 .i8) (harg3 : arg3.IsWhole) (arg4 : Memref sig .tc .vmem S38x896 .f32) (harg4 : arg4.IsWhole)
  (arg5 : Memref sig .tc .vmem S1x896 .f32) (harg5 : arg5.IsWhole) (arg6 : Memref sig .tc .vmem S256x896 .bf16) (harg6 : arg6.IsWhole)
  (arg7 : Memref sig .tc .vmem S256x4864 .i8) (harg7 : arg7.IsWhole) (arg8 : Memref sig .tc .vmem S256x1 .f32) (harg8 : arg8.IsWhole)
  (arg9 : Memref sig .tc .vmem S4864x896 .fp8e4m3) (harg9 : arg9.IsWhole) (arg10 : Memref sig .tc .vmem S19x256x256 .f32) (harg10 : arg10.IsWhole)
  (arg11 : Memref sig .tc .vmem S19x256x256 .f32) (harg11 : arg11.IsWhole) (arg12 : Memref sig .tc .vmem S256x4864 .fp8e4m3) (harg12 : arg12.IsWhole)

section
variable (v14 : FVec Ideal S256x256 .bf16) (v113 : FVec Ideal S256x256 .f32) (v114 : Vec Ideal S1x256x256 .f32)
  (x0 : Vec Ideal S19x19 .f32) (x1 : Vec Ideal S256x4864 .bf16) (X10 : BufTy.Contents (Elt Ideal) arg10.view.ty)
  (h10 : arg10.view.read (Elt Ideal) X10 = tArr x1)
include h10

/-- The mixed array after the loop. -/
theorem canon_slabs :
    View.canon (pb_k0_t1 (F := Ideal) 𝒱 c bd i arg1 harg1 arg2 harg2 arg3 harg3 arg4 harg4 arg5 harg5 arg6 harg6 arg7 harg7 arg8 harg8 arg9 harg9 arg10 harg10 arg11 harg11 arg12 harg12 v14 v113 v114 (harg1.unread x0) X10 k0_t1_loop.trips).2
      = rArr x0 x1 := by
  have h := pb_slabs 𝒱 c bd i arg1 harg1 arg2 harg2 arg3 harg3 arg4 harg4 arg5 harg5 arg6 harg6 arg7 harg7 arg8 harg8 arg9 harg9 arg10 harg10 arg11 harg11 arg12 harg12 v14 v113 v114 (harg1.unread x0) X10 k0_t1_loop.trips le_rfl
  rw [h10, had_eq arg1 harg1 x0] at h
  exact funext fun y => View.canon_apply_of_pieces _ _ h y (View.cover_of_tiledL (pb_k0_t1 (F := Ideal) 𝒱 c bd i arg1 harg1 arg2 harg2 arg3 harg3 arg4 harg4 arg5 harg5 arg6 harg6 arg7 harg7 arg8 harg8 arg9 harg9 arg10 harg10 arg11 harg11 arg12 harg12 v14 v113 v114 (harg1.unread x0) X10 k0_t1_loop.trips).2 S1x16x256.size (by sl_kernel_rfl) y)

theorem scales_pieces :
    ∀ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 v14 v113 v114 (harg1.unread x0) X10 k0_t1_loop.trips).1,
      ∀ x : p.1.shape.Idx, p.2 x = sArr x0 x1 (p.1.emb x) := by
  have h := pb_scales 𝒱 c bd i arg1 harg1 arg2 harg2 arg3 harg3 arg4 harg4 arg5 harg5 arg6 harg6 arg7 harg7 arg8 harg8 arg9 harg9 arg10 harg10 arg11 harg11 arg12 harg12 v14 v113 v114 (harg1.unread x0) X10 k0_t1_loop.trips le_rfl
  rw [h10, had_eq arg1 harg1 x0] at h
  exact h

/-- The scales after the loop. -/
theorem canon_scales :
    View.canon (pb_k0_t1 (F := Ideal) 𝒱 c bd i arg1 harg1 arg2 harg2 arg3 harg3 arg4 harg4 arg5 harg5 arg6 harg6 arg7 harg7 arg8 harg8 arg9 harg9 arg10 harg10 arg11 harg11 arg12 harg12 v14 v113 v114 (harg1.unread x0) X10 k0_t1_loop.trips).1
      = sArr x0 x1 :=
  funext fun y => View.canon_apply_of_pieces _ _ (scales_pieces 𝒱 c bd i arg1 harg1 arg2 harg2 arg3 harg3 arg4 harg4 arg5 harg5 arg6 harg6 arg7 harg7 arg8 harg8 arg9 harg9 arg10 harg10 arg11 harg11 arg12 harg12 v14 v113 v114 x0 x1 X10 h10) y
    (View.cover_of_tiledL (pb_k0_t1 (F := Ideal) 𝒱 c bd i arg1 harg1 arg2 harg2 arg3 harg3 arg4 harg4 arg5 harg5 arg6 harg6 arg7 harg7 arg8 harg8 arg9 harg9 arg10 harg10 arg11 harg11 arg12 harg12 v14 v113 v114 (harg1.unread x0) X10 k0_t1_loop.trips).1 S16x1.size (by sl_kernel_rfl) y)
end

end Cert.KernelIdeal.Own

end
-- ==== Proof.BlockValue.lean ====
module

public import proofs.«01_k».proof.Proof.BlockParts

@[expose] public section

set_option maxRecDepth 16384

noncomputable section

/-! What one grid point leaves: the scales, the codes, the products and, at the first point, the decoded weights. -/

namespace Cert.KernelIdeal.Own

open Idealize.ShloMosaic Idealize.ShloMosaic.TcCoe Idealize.ShloMosaic.Tactic
open Idealize.SL.Sem
open Cert.KernelIdeal Cert.KernelIdeal.Gen Cert.Spec

theorem canon_codes (R : FVec Ideal S19x256x256 .f32) (S : FVec Ideal S256x1 .f32) (V : Fin 19 → Vec Ideal S1x256x256 .f32)
    (h : ∀ (j : Fin 19) (r q : Fin 256), V j (ix3 0 r q) = R (ix3 j r q)) : View.canon (codeList S V) = codeArr R S :=
  funext fun y => View.canon_apply_of_pieces _ _ (codeList_pieces R S V h).mem y (View.cover_of_tiledL (codeList S V) S256x256.size (by sl_kernel_rfl) y)

theorem canon_c8 (R : FVec Ideal S19x256x256 .f32) (S : FVec Ideal S256x1 .f32) (V : Fin 19 → Vec Ideal S1x256x256 .f32)
    (h : ∀ (j : Fin 19) (r q : Fin 256), V j (ix3 0 r q) = R (ix3 j r q)) : View.canon (c8List S V) = c8Arr R S :=
  funext fun y => View.canon_apply_of_pieces _ _ (c8List_pieces R S V h).mem y (View.cover_of_tiledL (c8List S V) S256x256.size (by sl_kernel_rfl) y)

theorem canon_w (wp : Vec Ideal S2432x896 .i8) (pw : Vec Ideal S38x896 .f32) (U : Fin 38 → Vec Ideal S64x896 .i8) (E : Fin 38 → Vec Ideal S1x896 .f32)
    (h : ∀ g, IsChunk wp pw g (U g) (E g)) : View.canon (wList U E) = wArr wp pw :=
  funext fun y => View.canon_apply_of_pieces _ _ (wList_pieces wp pw U E h).mem y (View.cover_of_tiledL (wList U E) S128x896.size (by sl_kernel_rfl) y)

/-- The products of a block: the codes' small floats against the decoded weights, rescaled by token and by channel. -/
def yArr (C : FVec Ideal S256x4864 .fp8e4m3) (W : FVec Ideal S4864x896 .fp8e4m3) (S : FVec Ideal S256x1 .f32) (ws : Vec Ideal S1x896 .f32) : FVec Ideal S256x896 .bf16 :=
  fun i => (∑ k : Fin 4864, C (ix2 (i 0) k) * W (ix2 k (i 1))) * S (ix2 (i 0) 0) * ws (ix2 0 (i 1))

theorem hz2 : (![0, 0] : Fin 2 → Nat) = fun _ => 0 := by funext d; fin_cases d <;> rfl

theorem y_pay (C : FVec Ideal S256x4864 .fp8e4m3) (W : FVec Ideal S4864x896 .fp8e4m3) (S : FVec Ideal S256x1 .f32) (ws : Vec Ideal S1x896 .f32) :
    k0_pay1 (F := Ideal) (k0_pay314 S) C W ws = yArr C W S ws := by
  funext i
  idx_vars i
  show _ = (∑ k : Fin 4864, C (ix2 i0 k) * W (ix2 k i1)) * S (ix2 i0 0) * ws (ix2 0 i1)
  pointwise [k0_pay1, k0_pay314]

theorem y_of {C C' : FVec Ideal S256x4864 .fp8e4m3} {W W' : FVec Ideal S4864x896 .fp8e4m3} {S S' : FVec Ideal S256x1 .f32} {ws ws' : Vec Ideal S1x896 .f32}
    (hS : S = S') (hC : C = C') (hW : W = W') (hs : ws = ws') : k0_pay1 (F := Ideal) (k0_pay314 S) C W ws = yArr C' W' S' ws' := by
  rw [y_pay, hC, hW, hs, hS]

theorem whole_scales (arg8 : Memref sig .tc .vmem S256x1 .f32) (L : List (View.Piece (Elt Ideal) S256x1 .f32)) (inb) (S : FVec Ideal S256x1 .f32) (h : View.canon L = S) :
    arg8.view.readCov L (Rect.unit (s := S256x1) ![0, 0] S256x1.size inb).toLoadRect = S := by
  rw [View.readCov_eq_canon', h]
  funext x
  exact View.ld_unit_apply_of (Val := Elt Ideal) (e := .f32) (S := S256x1) S ![0, 0] S256x1.size inb x x (by intro d; fin_cases d <;> simp)

theorem whole_c8 (arg12 : Memref sig .tc .vmem S256x4864 .fp8e4m3) (L : List (View.Piece (Elt Ideal) S256x4864 .fp8e4m3)) (inb) (C : FVec Ideal S256x4864 .fp8e4m3) (h : View.canon L = C) :
    arg12.view.readCov L (Rect.unit (s := S256x4864) ![0, 0] S256x4864.size inb).toLoadRect = C := by
  rw [View.readCov_eq_canon', h]
  funext x
  exact View.ld_unit_apply_of (Val := Elt Ideal) (e := .fp8e4m3) (S := S256x4864) C ![0, 0] S256x4864.size inb x x (by intro d; fin_cases d <;> simp)

theorem whole_w (arg9 : Memref sig .tc .vmem S4864x896 .fp8e4m3) (L : List (View.Piece (Elt Ideal) S4864x896 .fp8e4m3)) (inb) (C : FVec Ideal S4864x896 .fp8e4m3) (h : View.canon L = C) :
    arg9.view.readCov L (Rect.unit (s := S4864x896) ![0, 0] S4864x896.size inb).toLoadRect = C := by
  rw [View.readCov_eq_canon', h]
  funext x
  exact View.ld_unit_apply_of (Val := Elt Ideal) (e := .fp8e4m3) (S := S4864x896) C ![0, 0] S4864x896.size inb x x (by intro d; fin_cases d <;> simp)

theorem load_w (arg9 : Memref sig .tc .vmem S4864x896 .fp8e4m3) (harg9 : arg9.IsWhole) (inb) (C : Vec Ideal S4864x896 .fp8e4m3) :
    View.readAt (Elt Ideal) arg9.view (Rect.unit (s := S4864x896) ![0, 0] S4864x896.size inb).toLoadRect (harg9.unread C) = C := by
  rw [View.readAt_eq_ld, harg9.read_unread]
  funext x
  exact View.ld_unit_apply_of (Val := Elt Ideal) (e := .fp8e4m3) (S := S4864x896) C ![0, 0] S4864x896.size inb x x (by intro d; fin_cases d <;> simp)

theorem load_ws (arg5 : Memref sig .tc .vmem S1x896 .f32) (harg5 : arg5.IsWhole) (inb) (C : Vec Ideal S1x896 .f32) :
    View.readAt (Elt Ideal) arg5.view (Rect.unit (s := S1x896) ![0, 0] S1x896.size inb).toLoadRect (harg5.unread C) = C := by
  rw [View.readAt_eq_ld, harg5.read_unread]
  funext x
  exact View.ld_unit_apply_of (Val := Elt Ideal) (e := .f32) (S := S1x896) C ![0, 0] S1x896.size inb x x (by intro d; fin_cases d <;> simp)

variable (c : Dev nD) (i : grid0.Coords)
  (arg1 : Memref sig .tc .smem S19x19 .f32) (harg1 : arg1.IsWhole) (arg2 : Memref sig .tc .vmem S256x4864 .bf16) (harg2 : arg2.IsWhole)
  (arg3 : Memref sig .tc .vmem S2432x896 .i8) (harg3 : arg3.IsWhole) (arg4 : Memref sig .tc .vmem S38x896 .f32) (harg4 : arg4.IsWhole)
  (arg5 : Memref sig .tc .vmem S1x896 .f32) (harg5 : arg5.IsWhole) (arg6 : Memref sig .tc .vmem S256x896 .bf16) (harg6 : arg6.IsWhole)
  (arg7 : Memref sig .tc .vmem S256x4864 .i8) (harg7 : arg7.IsWhole) (arg8 : Memref sig .tc .vmem S256x1 .f32) (harg8 : arg8.IsWhole)
  (arg9 : Memref sig .tc .vmem S4864x896 .fp8e4m3) (harg9 : arg9.IsWhole) (arg10 : Memref sig .tc .vmem S19x256x256 .f32) (harg10 : arg10.IsWhole)
  (arg11 : Memref sig .tc .vmem S19x256x256 .f32) (harg11 : arg11.IsWhole) (arg12 : Memref sig .tc .vmem S256x4864 .fp8e4m3) (harg12 : arg12.IsWhole)

  (x0 : Vec Ideal S19x19 .f32) (x1 : Vec Ideal S256x4864 .bf16) (x2 : Vec Ideal S2432x896 .i8) (x3 : Vec Ideal S38x896 .f32) (x4 : Vec Ideal S1x896 .f32)

/-- The codes of a block, as small floats. -/
def qArr (h : Vec Ideal S19x19 .f32) (x : Vec Ideal S256x4864 .bf16) : FVec Ideal S256x4864 .fp8e4m3 := c8Arr (rArr h x) (sArr h x)

theorem out0_A_7_eq (hc0 : cond0_0 i) : out0_A_7 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 = sArr x0 x1 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 hc0 x0 x1 x2 x3 x4)]
  unfold kernelRun0_A
  dsimp only
  unfold runAAt
  dsimp only
  sl_unfold_words
  exact (canon_scales _ _ _ _ arg1 harg1 arg2 harg2 arg3 harg3 arg4 harg4 arg5 harg5 arg6 harg6 arg7 harg7 arg8 harg8 arg9 harg9 arg10 harg10 arg11 harg11 arg12 harg12 _ _ _ x0 x1 _ (read_tList arg2 harg2 arg10 x1))

theorem out0_A_6_eq (hc0 : cond0_0 i) : out0_A_6 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 = codeArr (rArr x0 x1) (sArr x0 x1) := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 arg12 harg12 hc0 x0 x1 x2 x3 x4)]
  unfold kernelRun0_A
  dsimp only
  unfold runAAt
  dsimp only
  sl_unfold_words
  refine (canon_codes (rArr x0 x1) _ (backs arg11 _) (backs_apply arg11 _ _ (canon_slabs _ _ _ _ arg1 harg1 arg2 harg2 arg3 harg3 arg4 harg4 arg5 harg5 arg6 harg6 arg7 harg7 arg8 harg8 arg9 harg9 arg10 harg10 arg11 harg11 arg12 harg12 _ _ _ x0 x1 _ (read_tList arg2 harg2 arg10 x1)))).trans ?_
  exact congrArg (codeArr (rArr x0 x1)) (whole_scales arg8 _ _ _ (canon_scales _ _ _ _ arg1 harg1 arg2 harg2 arg3 harg3 arg4 harg4 arg5 harg5 arg6 harg6 arg7 harg7 arg8 harg8 arg9 harg9 arg10 harg10 arg11 harg11 arg12 harg12 _ _ _ x0 x1 _ (read_tList arg2 harg2 arg10 x1)))

theorem out0_A_5_eq (hc0 : cond0_0 i) : out0_A_5 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 = yArr (qArr x0 x1) (wArr x2 x3) (sArr x0 x1) x4 := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 arg11 harg11 arg12 harg12 hc0 x0 x1 x2 x3 x4)]
  unfold kernelRun0_A
  dsimp only
  unfold runAAt
  dsimp only
  sl_unfold_words
  rw [View.canon_unit_zero hz2]
  exact y_of
    (whole_scales arg8 _ _ _ (canon_scales _ _ _ _ arg1 harg1 arg2 harg2 arg3 harg3 arg4 harg4 arg5 harg5 arg6 harg6 arg7 harg7 arg8 harg8 arg9 harg9 arg10 harg10 arg11 harg11 arg12 harg12 _ _ _ x0 x1 _ (read_tList arg2 harg2 arg10 x1)))
    (whole_c8 arg12 _ _ _ ((canon_c8 (rArr x0 x1) _ (backs arg11 _) (backs_apply arg11 _ _ (canon_slabs _ _ _ _ arg1 harg1 arg2 harg2 arg3 harg3 arg4 harg4 arg5 harg5 arg6 harg6 arg7 harg7 arg8 harg8 arg9 harg9 arg10 harg10 arg11 harg11 arg12 harg12 _ _ _ x0 x1 _ (read_tList arg2 harg2 arg10 x1)))).trans (congrArg (c8Arr (rArr x0 x1)) (whole_scales arg8 _ _ _ (canon_scales _ _ _ _ arg1 harg1 arg2 harg2 arg3 harg3 arg4 harg4 arg5 harg5 arg6 harg6 arg7 harg7 arg8 harg8 arg9 harg9 arg10 harg10 arg11 harg11 arg12 harg12 _ _ _ x0 x1 _ (read_tList arg2 harg2 arg10 x1))))))
    (whole_w arg9 _ _ _ (canon_w x2 x3 (wps arg3 harg3 x2) (pws arg4 harg4 x3) (isChunk arg3 harg3 arg4 harg4 x2 x3))) (load_ws arg5 harg5 _ x4)

theorem sout0_A_0_eq (hc0 : cond0_0 i) : sout0_A_0 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 = wArr x2 x3 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 hc0 x0 x1 x2 x3 x4)]
  unfold kernelRun0_A
  dsimp only
  unfold runAAt
  dsimp only
  sl_unfold_words
  exact canon_w x2 x3 (wps arg3 harg3 x2) (pws arg4 harg4 x3) (isChunk arg3 harg3 arg4 harg4 x2 x3)

theorem out0_B_7_eq (hc0 : ¬cond0_0 i) (xs0 : Vec Ideal S4864x896 .fp8e4m3) : out0_B_7 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 xs0 = sArr x0 x1 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 arg12 harg12 hc0 x0 x1 x2 x3 x4 xs0)]
  unfold kernelRun0_B
  dsimp only
  unfold runBAt
  dsimp only
  sl_unfold_words
  exact (canon_scales _ _ _ _ arg1 harg1 arg2 harg2 arg3 harg3 arg4 harg4 arg5 harg5 arg6 harg6 arg7 harg7 arg8 harg8 arg9 harg9 arg10 harg10 arg11 harg11 arg12 harg12 _ _ _ x0 x1 _ (read_tList arg2 harg2 arg10 x1))

theorem out0_B_6_eq (hc0 : ¬cond0_0 i) (xs0 : Vec Ideal S4864x896 .fp8e4m3) : out0_B_6 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 xs0 = codeArr (rArr x0 x1) (sArr x0 x1) := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 arg11 harg11 arg12 harg12 hc0 x0 x1 x2 x3 x4 xs0)]
  unfold kernelRun0_B
  dsimp only
  unfold runBAt
  dsimp only
  sl_unfold_words
  refine (canon_codes (rArr x0 x1) _ (backs arg11 _) (backs_apply arg11 _ _ (canon_slabs _ _ _ _ arg1 harg1 arg2 harg2 arg3 harg3 arg4 harg4 arg5 harg5 arg6 harg6 arg7 harg7 arg8 harg8 arg9 harg9 arg10 harg10 arg11 harg11 arg12 harg12 _ _ _ x0 x1 _ (read_tList arg2 harg2 arg10 x1)))).trans ?_
  exact congrArg (codeArr (rArr x0 x1)) (whole_scales arg8 _ _ _ (canon_scales _ _ _ _ arg1 harg1 arg2 harg2 arg3 harg3 arg4 harg4 arg5 harg5 arg6 harg6 arg7 harg7 arg8 harg8 arg9 harg9 arg10 harg10 arg11 harg11 arg12 harg12 _ _ _ x0 x1 _ (read_tList arg2 harg2 arg10 x1)))

theorem out0_B_5_eq (hc0 : ¬cond0_0 i) (xs0 : Vec Ideal S4864x896 .fp8e4m3) : out0_B_5 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 xs0 = yArr (qArr x0 x1) xs0 (sArr x0 x1) x4 := by
  unfold out0_B_5
  rw [View.read_writes_eq_canon _ _ _ (cover0_B_5 c i arg1 harg1 arg2 harg2 arg3 harg3 arg4 harg4 arg5 harg5 arg6 harg6 arg7 harg7 arg8 harg8 arg9 harg9 arg10 harg10 arg11 harg11 arg12 harg12 hc0 x0 x1 x2 x3 x4 xs0)]
  unfold kernelRun0_B
  dsimp only
  unfold runBAt
  dsimp only
  sl_unfold_words
  rw [View.canon_unit_zero hz2]
  exact y_of
    (whole_scales arg8 _ _ _ (canon_scales _ _ _ _ arg1 harg1 arg2 harg2 arg3 harg3 arg4 harg4 arg5 harg5 arg6 harg6 arg7 harg7 arg8 harg8 arg9 harg9 arg10 harg10 arg11 harg11 arg12 harg12 _ _ _ x0 x1 _ (read_tList arg2 harg2 arg10 x1)))
    (whole_c8 arg12 _ _ _ ((canon_c8 (rArr x0 x1) _ (backs arg11 _) (backs_apply arg11 _ _ (canon_slabs _ _ _ _ arg1 harg1 arg2 harg2 arg3 harg3 arg4 harg4 arg5 harg5 arg6 harg6 arg7 harg7 arg8 harg8 arg9 harg9 arg10 harg10 arg11 harg11 arg12 harg12 _ _ _ x0 x1 _ (read_tList arg2 harg2 arg10 x1)))).trans (congrArg (c8Arr (rArr x0 x1)) (whole_scales arg8 _ _ _ (canon_scales _ _ _ _ arg1 harg1 arg2 harg2 arg3 harg3 arg4 harg4 arg5 harg5 arg6 harg6 arg7 harg7 arg8 harg8 arg9 harg9 arg10 harg10 arg11 harg11 arg12 harg12 _ _ _ x0 x1 _ (read_tList arg2 harg2 arg10 x1))))))
    (load_w arg9 harg9 _ xs0) (load_ws arg5 harg5 _ x4)

end Cert.KernelIdeal.Own

end
-- ==== Proof.KArr.lean ====
module

public import proofs.«01_k».proof.Proof.BlockValue
public import proofs.«01_k».proof.Proof.Value
public import Idealize.ShloMosaic.Lib.StableHlo.RunRead

@[expose] public section

set_option maxRecDepth 16384

noncomputable section

/-! What the kernel's three result arrays hold, as functions of the arrays the launch finds. -/

namespace Cert.KernelIdeal.Own

open Idealize.ShloMosaic Idealize.ShloMosaic.TcCoe Idealize.ShloMosaic.Tactic
open Idealize.SL.Sem
open Cert.KernelIdeal Cert.KernelIdeal.Gen Cert.KernelIdeal.Own.Value Cert.Spec

variable (m : (ℓ : Loc nD τ sig) → Buf (Elt Ideal) ℓ)

/-- The Hadamard mixing matrix, the tokens, the packed weights, the powers of two and the channel scales the launch finds. -/
def hK (c : Dev nD) : Vec Ideal S19x19 .f32 := V m c main_arg1
@[inherit_doc hK] def xK (c : Dev nD) : Vec Ideal S16384x4864 .bf16 := V m c main_v8
@[inherit_doc hK] def wpK (c : Dev nD) : Vec Ideal S2432x896 .i8 := V m c main_arg2
@[inherit_doc hK] def pwK (c : Dev nD) : Vec Ideal S38x896 .f32 := V m c main_v7
@[inherit_doc hK] def wsK (c : Dev nD) : Vec Ideal S1x896 .f32 := V m c main_v9

/-- Block `n` of 256 tokens. -/
def xBlk (x : Vec Ideal S16384x4864 .bf16) (n : Fin 64) : Vec Ideal S256x4864 .bf16 :=
  fun i => x (ix2 ⟨256 * n.val + (i 0).val, by have h : (i 0).val < 256 := (i 0).isLt; omega⟩ (i 1))

theorem index_0 : ∀ t : Fin grid0.N, win0_0.index t = ![0, 0] := by decide +kernel
theorem index_1 : ∀ t : Fin grid0.N, win0_1.index t = ![t.val, 0] := by decide +kernel
theorem index_2 : ∀ t : Fin grid0.N, win0_2.index t = ![0, 0] := by decide +kernel
theorem index_3 : ∀ t : Fin grid0.N, win0_3.index t = ![0, 0] := by decide +kernel
theorem index_4 : ∀ t : Fin grid0.N, win0_4.index t = ![0, 0] := by decide +kernel

theorem lt64 (t : Fin cfg0.N) : t.val < 64 := lt_of_lt_of_eq t.isLt N_0

theorem iblk_1 (c : Dev nD) (t : Fin cfg0.N) : iblk m c 1 t = xBlk (xK m c) ⟨t.val, lt64 t⟩ := by
  funext j
  unfold iblk
  rw [View.read_apply]
  show V m c main_v8 _ = V m c main_v8 _
  congr 1
  funext a
  apply Fin.ext
  have hi := index_1 t
  match a with
  | ⟨0, _⟩ => show win0_1.index t (0 : Fin 2) * 256 + 1 * (j 0).val = 256 * t.val + (j 0).val; rw [show win0_1.index t (0 : Fin 2) = t.val from congrFun hi 0]; omega
  | ⟨1, _⟩ => show win0_1.index t (1 : Fin 2) * 4864 + 1 * (j 1).val = (j 1).val; rw [show win0_1.index t (1 : Fin 2) = 0 from congrFun hi 1]; omega

theorem iblk_0 (c : Dev nD) (t : Fin cfg0.N) : iblk m c 0 t = hK m c := by
  funext j
  unfold iblk
  rw [View.read_apply]
  show V m c main_arg1 _ = V m c main_arg1 _
  congr 1
  funext a
  apply Fin.ext
  have hi := index_0 t
  match a with
  | ⟨0, _⟩ => show win0_0.index t (0 : Fin 2) * 19 + 1 * (j 0).val = (j 0).val; rw [show win0_0.index t (0 : Fin 2) = 0 from congrFun hi 0]; omega
  | ⟨1, _⟩ => show win0_0.index t (1 : Fin 2) * 19 + 1 * (j 1).val = (j 1).val; rw [show win0_0.index t (1 : Fin 2) = 0 from congrFun hi 1]; omega

theorem iblk_2 (c : Dev nD) (t : Fin cfg0.N) : iblk m c 2 t = wpK m c := by
  funext j
  unfold iblk
  rw [View.read_apply]
  show V m c main_arg2 _ = V m c main_arg2 _
  congr 1
  funext a
  apply Fin.ext
  have hi := index_2 t
  match a with
  | ⟨0, _⟩ => show win0_2.index t (0 : Fin 2) * 2432 + 1 * (j 0).val = (j 0).val; rw [show win0_2.index t (0 : Fin 2) = 0 from congrFun hi 0]; omega
  | ⟨1, _⟩ => show win0_2.index t (1 : Fin 2) * 896 + 1 * (j 1).val = (j 1).val; rw [show win0_2.index t (1 : Fin 2) = 0 from congrFun hi 1]; omega

theorem iblk_3 (c : Dev nD) (t : Fin cfg0.N) : iblk m c 3 t = pwK m c := by
  funext j
  unfold iblk
  rw [View.read_apply]
  show V m c main_v7 _ = V m c main_v7 _
  congr 1
  funext a
  apply Fin.ext
  have hi := index_3 t
  match a with
  | ⟨0, _⟩ => show win0_3.index t (0 : Fin 2) * 38 + 1 * (j 0).val = (j 0).val; rw [show win0_3.index t (0 : Fin 2) = 0 from congrFun hi 0]; omega
  | ⟨1, _⟩ => show win0_3.index t (1 : Fin 2) * 896 + 1 * (j 1).val = (j 1).val; rw [show win0_3.index t (1 : Fin 2) = 0 from congrFun hi 1]; omega

theorem iblk_4 (c : Dev nD) (t : Fin cfg0.N) : iblk m c 4 t = wsK m c := by
  funext j
  unfold iblk
  rw [View.read_apply]
  show V m c main_v9 _ = V m c main_v9 _
  congr 1
  funext a
  apply Fin.ext
  have hi := index_4 t
  match a with
  | ⟨0, _⟩ => show win0_4.index t (0 : Fin 2) * 1 + 1 * (j 0).val = (j 0).val; rw [show win0_4.index t (0 : Fin 2) = 0 from congrFun hi 0]; omega
  | ⟨1, _⟩ => show win0_4.index t (1 : Fin 2) * 896 + 1 * (j 1).val = (j 1).val; rw [show win0_4.index t (1 : Fin 2) = 0 from congrFun hi 1]; omega

/-- The decoded weights, which every grid point finds in the carried scratch. -/
def wK (c : Dev nD) : FVec Ideal S4864x896 .fp8e4m3 := wArr (wpK m c) (pwK m c)

/-- What point `n` leaves. -/
theorem outs_eq (c : Dev nD) : ∀ (n : ℕ) (hn : n < cfg0.N), outsAt0 m c n hn =
    (yArr (qArr (hK m c) (xBlk (xK m c) ⟨n, lt64 ⟨n, hn⟩⟩)) (wK m c) (sArr (hK m c) (xBlk (xK m c) ⟨n, lt64 ⟨n, hn⟩⟩)) (wsK m c),
     codeArr (rArr (hK m c) (xBlk (xK m c) ⟨n, lt64 ⟨n, hn⟩⟩)) (sArr (hK m c) (xBlk (xK m c) ⟨n, lt64 ⟨n, hn⟩⟩)),
     sArr (hK m c) (xBlk (xK m c) ⟨n, lt64 ⟨n, hn⟩⟩), wK m c)
  | 0, hn => by
    rw [outsAt0_A m c ⟨0, hn⟩ rfl, out0_A_5_eq, out0_A_6_eq, out0_A_7_eq, sout0_A_0_eq, iblk_0, iblk_1, iblk_2, iblk_3, iblk_4]
    rfl
  | n + 1, hn => by
    have ih := outs_eq c n (by omega)
    have h64 := lt64 ⟨n + 1, hn⟩
    rw [outsAt0_B m c ⟨n + 1, hn⟩ (by dsimp only at h64 ⊢; omega), out0_B_5_eq, out0_B_6_eq, out0_B_7_eq, iblk_0, iblk_1, iblk_4]
    unfold sout0_B_0
    dsimp only
    have ih' : (outsAt0 m c (n + 1 - 1) (Nat.lt_of_le_of_lt (Nat.sub_le _ _) hn)).2.2.2 = wK m c := congrArg (fun p => p.2.2.2) ih
    rw [ih']

/-- The mixed entries of a token. -/
def rMix (h : Vec Ideal S19x19 .f32) (x : Vec Ideal S16384x4864 .bf16) (r : Fin 16384) (j : Fin 19) (q : Fin 256) : EReal :=
  mix (tr fun c => x (ix2 r c)) (fun j l => h (ix2 j l)) j q

/-- A token's scale. -/
def scaleF (h : Vec Ideal S19x19 .f32) (x : Vec Ideal S16384x4864 .bf16) (r : Fin 16384) : EReal := scaleOf (amax (rMix h x r))

/-- A token's code at column `k`, before it is made an integer. -/
def qF (h : Vec Ideal S19x19 .f32) (x : Vec Ideal S16384x4864 .bf16) (r : Fin 16384) (k : Fin 4864) : EReal :=
  qmul (rMix h x r ⟨k.val / 256, by omega⟩ ⟨k.val % 256, by omega⟩) (scaleF h x r)

theorem accAt_eq (c : Dev nD) (n : ℕ) (hn : n < cfg0.N) :
    Pipeline.accAt (fun n h => stAt0 m c n h junk0) (stAt0 m c) 0 n (by omega) = outsAt0 m c n hn := (outsAt0_sweep m c n hn).symm

theorem row_eq (r : Fin 16384) : (⟨256 * (r.val / 256) + r.val % 256, by omega⟩ : Fin 16384) = r := Fin.ext (Nat.div_add_mod _ _)

/-- The scales, at a token. -/
theorem G7_eq (c : Dev nD) (r : Fin 16384) : G7 m c (ix2 r 0) = scaleF (hK m c) (xK m c) r := by
  have hp : pt7Of (ix2 r (0 : Fin 1)) = r.val / 256 := by show 1 * (r.val / 256 - 0) + 1 * (0 / 1 - 0) = _; omega
  have hN : r.val / 256 < cfg0.N := by rw [show cfg0.N = 64 from N_0]; omega
  unfold G7
  rw [dif_pos (by rw [hp]; exact hN), accAt_eq m c _ (by rw [hp]; exact hN), outs_eq]
  have hlt : 256 * pt7Of (ix2 r (0 : Fin 1)) + r.val % 256 < 16384 := by rw [hp]; omega
  have e : (⟨256 * pt7Of (ix2 r (0 : Fin 1)) + r.val % 256, hlt⟩ : Fin 16384) = r := Fin.ext (by simp only [hp]; exact Nat.div_add_mod _ _)
  show scaleF (hK m c) (xK m c) ⟨256 * pt7Of (ix2 r (0 : Fin 1)) + r.val % 256, hlt⟩ = _
  rw [e]

/-- The codes, at a token and a column. -/
theorem G6_eq (c : Dev nD) (r : Fin 16384) (k : Fin 4864) :
    G6 m c (ix2 r k) = FloatOps.fptosi (F := Ideal) (φ := .f32) 8 (qF (hK m c) (xK m c) r k) := by
  have hp : pt6Of (ix2 r k) = r.val / 256 := by show 1 * (r.val / 256 - 0) + 1 * (k.val / 4864 - 0) = _; omega
  have hN : r.val / 256 < cfg0.N := by rw [show cfg0.N = 64 from N_0]; omega
  unfold G6
  rw [dif_pos (by rw [hp]; exact hN), accAt_eq m c _ (by rw [hp]; exact hN), outs_eq]
  have hlt : 256 * pt6Of (ix2 r k) + r.val % 256 < 16384 := by rw [hp]; omega
  have e : (⟨256 * pt6Of (ix2 r k) + r.val % 256, hlt⟩ : Fin 16384) = r := Fin.ext (by simp only [hp]; exact Nat.div_add_mod _ _)
  have hk : k.val % 4864 < 4864 := by omega
  have ek : (⟨k.val % 4864, hk⟩ : Fin 4864) = k := Fin.ext (Nat.mod_eq_of_lt k.isLt)
  show FloatOps.fptosi (F := Ideal) (φ := .f32) 8 (qF (hK m c) (xK m c) ⟨256 * pt6Of (ix2 r k) + r.val % 256, hlt⟩ ⟨k.val % 4864, hk⟩) = _
  rw [e, ek]

/-- The products, at a token and a channel. -/
theorem G5_eq (c : Dev nD) (r : Fin 16384) (q : Fin 896) :
    G5 m c (ix2 r q) = (∑ k : Fin 4864, qF (hK m c) (xK m c) r k * wK m c (ix2 k q)) * scaleF (hK m c) (xK m c) r * wsK m c (ix2 0 q) := by
  have hp : pt5Of (ix2 r q) = r.val / 256 := by show 1 * (r.val / 256 - 0) + 1 * (q.val / 896 - 0) = _; omega
  have hN : r.val / 256 < cfg0.N := by rw [show cfg0.N = 64 from N_0]; omega
  unfold G5
  rw [dif_pos (by rw [hp]; exact hN), accAt_eq m c _ (by rw [hp]; exact hN), outs_eq]
  have hlt : 256 * pt5Of (ix2 r q) + r.val % 256 < 16384 := by rw [hp]; omega
  have e : (⟨256 * pt5Of (ix2 r q) + r.val % 256, hlt⟩ : Fin 16384) = r := Fin.ext (by simp only [hp]; exact Nat.div_add_mod _ _)
  have hk : q.val % 896 < 896 := by omega
  have ek : (⟨q.val % 896, hk⟩ : Fin 896) = q := Fin.ext (Nat.mod_eq_of_lt q.isLt)
  show (∑ k : Fin 4864, qF (hK m c) (xK m c) ⟨256 * pt5Of (ix2 r q) + r.val % 256, hlt⟩ k * wK m c (ix2 k ⟨q.val % 896, hk⟩))
    * scaleF (hK m c) (xK m c) ⟨256 * pt5Of (ix2 r q) + r.val % 256, hlt⟩ * wsK m c (ix2 0 ⟨q.val % 896, hk⟩) = _
  rw [e, ek]

/-! ## The arrays the launch finds -/

theorem hK_eq (c : Dev nD) : hK m c = m ((c : Thread nD τ).loc main_arg1) := V_main_arg1 m c
theorem wpK_eq (c : Dev nD) : wpK m c = m ((c : Thread nD τ).loc main_arg2) := V_main_arg2 m c

theorem xK_eq (c : Dev nD) : xK m c = shapeCast S16384x4864 (m ((c : Thread nD τ).loc main_arg0)) shapeCasts_S16x1024x4864_S16384x4864 := by
  show StableHlo.after hostOps0 (fun b => m (c, b)) (Proc.devRef .tc main_v8) = _
  after_reads_simp
  rfl

theorem flat_apply (X : FVec Ideal S16x1024x4864 .bf16) (r : Fin 16384) (k : Fin 4864) :
    shapeCast S16384x4864 X shapeCasts_S16x1024x4864_S16384x4864 (ix2 r k) = tokOf X r k := by
  unfold tokOf
  pointwise []

/-- The tokens the launch finds are the first argument, batch after batch. -/
theorem xK_apply (c : Dev nD) (r : Fin 16384) (k : Fin 4864) : xK m c (ix2 r k) = tokOf (m ((c : Thread nD τ).loc main_arg0)) r k := by
  rw [xK_eq]
  exact flat_apply _ r k

theorem wsK_eq (c : Dev nD) : wsK m c = shapeCast S1x896 (m ((c : Thread nD τ).loc main_arg4)) shapeCasts_S896_S1x896 := by
  show StableHlo.after hostOps0 (fun b => m (c, b)) (Proc.devRef .tc main_v9) = _
  after_reads_simp
  rfl

theorem pwK_apply (c : Dev nD) (g : Fin 38) (q : Fin 896) :
    pwK m c (ix2 g q) = pow2 (m ((c : Thread nD τ).loc main_arg3) (ix2 g q)) := by
  show StableHlo.after hostOps0 (fun b => m (c, b)) (Proc.devRef .tc main_v7) _ = _
  after_reads_simp
  pointwise []
  rw [sitofp_neg]
  rfl

end Cert.KernelIdeal.Own

end
-- ==== Proof.Algebra.lean ====
module

public import proofs.«01_k».proof.Proof.Spec

@[expose] public section

set_option maxRecDepth 16384

noncomputable section

/-! The equations between the two ways of writing the arithmetic: the largest magnitude in one pass or lane by lane, the
quotient or the product with a reciprocal, the code as an integer or as the number it stands for, the sum over all rows
or over the even and the odd ones. -/

namespace Cert.Spec

open Idealize.ShloMosaic

theorem bits_seven : Ideal.ofBits .f32 1088421888#32 = ((7 : ℝ) : EReal) := by
  simp [Ideal.ofBits, Ideal.ieee, -EReal.coe_mul]; norm_num

theorem bits_neg_seven : Ideal.ofBits .f32 3235905536#32 = ((-7 : ℝ) : EReal) := by
  simp [Ideal.ofBits, Ideal.ieee, -EReal.coe_mul, -EReal.coe_neg]; norm_num

theorem abs_nonneg' (x : EReal) : 0 ≤ max x (-x) := by
  rcases le_total 0 x with h | h
  · exact le_max_of_le_left h
  · exact le_max_of_le_right (by rw [← neg_zero]; exact EReal.neg_le_neg_iff.mpr h)

/-- Column `k` of a vector is entry `k % 256` of its block `k / 256`. -/
theorem at2_div_mod (k : Fin 4864) : at2 ⟨k.val / 256, by omega⟩ ⟨k.val % 256, by omega⟩ = k := Fin.ext (by simp only [at2]; omega)

/-- The largest magnitude in one pass is the largest over the lanes of the largest over the blocks. -/
theorem amax_eq (f : Fin 4864 → EReal) (g : Fin 19 → Fin 256 → EReal) (h : ∀ j q, f (at2 j q) = g j q) :
    Finset.fold max (Ideal.ofBits FTy.f32 4286578688#32) (fun k => max (f k) (-(f k))) Finset.univ = amax g := by
  refine eq_of_forall_ge_iff fun c => ?_
  unfold amax amaxLane
  simp only [Finset.fold_max_le, Finset.mem_univ, true_imp_iff]
  refine and_congr_right fun _ => ⟨fun H q => ⟨(abs_nonneg' _).trans (H (at2 0 q)), fun j => ?_⟩, fun H k => ?_⟩
  · have := H (at2 j q)
    rwa [h] at this
  · have := (H ⟨k.val % 256, by omega⟩).2 ⟨k.val / 256, by omega⟩
    rwa [← h, at2_div_mod] at this

/-- The largest magnitude is not negative. -/
theorem amax_nonneg (g : Fin 19 → Fin 256 → EReal) : 0 ≤ amax g := by
  have h := ((Finset.fold_max_le (b := Ideal.ofBits FTy.f32 4286578688#32) (f := amaxLane g) (s := Finset.univ) (amax g)).1 le_rfl).2 0 (Finset.mem_univ _)
  refine le_trans ?_ h
  exact ((Finset.fold_max_le (b := (0 : EReal)) (f := fun j => max (g j 0) (-(g j 0))) (s := Finset.univ) (amaxLane g 0)).1 le_rfl).1

/-- A scale is never zero. -/
theorem scaleOf_ne_zero {a : EReal} (ha : 0 ≤ a) : scaleOf a ≠ 0 := by
  unfold scaleOf
  split_ifs with h
  · exact one_ne_zero
  · rw [bits_seven, Ideal.div_coe (by norm_num)]
    have h0 : (0 : EReal) < a := lt_of_le_of_ne ha (Ne.symm h)
    exact (EReal.mul_pos h0 (by exact_mod_cast (by norm_num : (0 : ℝ) < 1 / 7))).ne'

/-- Off zero, the quotient is the product with the reciprocal. -/
theorem div_eq_mul_recip (r : EReal) {s : EReal} (hs : s ≠ 0) : Ideal.div r s = r * Ideal.div 1 s := by
  unfold Ideal.div
  rw [if_neg hs, if_neg hs, one_mul]

/-- A rounded value kept in [-7, 7] is an integer there, from the infinities too. -/
theorem clip_int (x : EReal) : ∃ n : ℤ, -7 ≤ n ∧ n ≤ 7 ∧
    min ((7 : ℝ) : EReal) (max ((-7 : ℝ) : EReal) (Ideal.liftRound Ideal.roundHalfEven x)) = ((n : ℝ) : EReal) := by
  induction x using EReal.rec with
  | bot => exact ⟨-7, by norm_num, by norm_num, by
      show min ((7 : ℝ) : EReal) (max ((-7 : ℝ) : EReal) ⊥) = _
      rw [max_eq_left bot_le, min_eq_right (by exact_mod_cast (by norm_num : (-7 : ℝ) ≤ 7))]; norm_num⟩
  | top => exact ⟨7, by norm_num, by norm_num, by
      show min ((7 : ℝ) : EReal) (max ((-7 : ℝ) : EReal) ⊤) = _
      rw [max_eq_right le_top, min_eq_left le_top]; norm_num⟩
  | coe r => exact ⟨min 7 (max (-7) (Ideal.roundHalfEven r)), le_min (by norm_num) (le_max_left _ _), min_le_left _ _, by
      show min ((7 : ℝ) : EReal) (max ((-7 : ℝ) : EReal) (((Ideal.roundHalfEven r : ℤ) : ℝ) : EReal)) = _
      rw [← EReal.coe_strictMono.monotone.map_max, ← EReal.coe_strictMono.monotone.map_min]
      push_cast
      rfl⟩

/-- An integer in [-7, 7] survives eight bits. -/
theorem code_int (n : ℤ) (h : -7 ≤ n) (h' : n ≤ 7) : (Ideal.fptosi 8 ((n : ℝ) : EReal)).toInt = n := by
  unfold Ideal.fptosi
  rw [Ideal.toIntClamped_coe, Int.floor_intCast, Int.ceil_intCast, ite_self]
  interval_cases n <;> decide

/-- A code made an integer and back is the code: the codes are the integers from minus seven to seven. -/
theorem code_back (r s : EReal) : FloatOps.sitofp (F := Ideal) .bf16 (FloatOps.fptosi (F := Ideal) (φ := .f32) 8 (quant r s)) = quant r s := by
  obtain ⟨n, h, h', e⟩ := clip_int (Ideal.div r s)
  have eq : quant r s = ((n : ℝ) : EReal) := by
    unfold quant
    rw [bits_seven, bits_neg_seven]
    exact e
  rw [eq]
  show (((Ideal.fptosi 8 ((n : ℝ) : EReal)).toInt : ℝ) : EReal) = _
  rw [code_int n h h']

/-- A sum over all rows is the sum over the even ones plus the sum over the odd ones. -/
theorem sum_even_odd (f : Fin 4864 → EReal) :
    ∑ k, f k = ∑ x : Fin 2432, f ⟨x.val * 2, by omega⟩ + ∑ x : Fin 2432, f ⟨x.val * 2 + 1, by omega⟩ := by
  rw [← Finset.sum_add_distrib]
  have e : ∑ k, f k = ∑ p : Fin 2432 × Fin 2, f (finProdFinEquiv p) := (Equiv.sum_comp (finProdFinEquiv (m := 2432) (n := 2)) f).symm
  rw [e, Fintype.sum_prod_type]
  refine Finset.sum_congr rfl fun x _ => ?_
  rw [Fin.sum_univ_two]
  congr 2 <;> exact Fin.ext (by simp [finProdFinEquiv]; try omega)

end Cert.Spec

end
-- ==== Proof.RPay.lean ====
module

public import proofs.«01_k».proof.Proof.Algebra
public import proofs.«01_k».proof.Proof.Gen.ReferenceIdeal.Value
public import Idealize.ShloMosaic.Lib.Pointwise
public import Idealize.ShloMosaic.Lib.StableHlo.RunRead

@[expose] public section

set_option maxRecDepth 16384

noncomputable section

/-! What the reference's single block computes, entry by entry: the scales, the codes, the weighted sums. -/

namespace Cert.ReferenceIdeal.Own

open Idealize.ShloMosaic Idealize.ShloMosaic.TcCoe Idealize.ShloMosaic.Tactic
open Idealize.SL.Sem
open Cert.ReferenceIdeal Cert.ReferenceIdeal.Gen Cert.Spec

theorem int_seven : (((7#32).toInt : ℝ) : EReal) = Ideal.ofBits .f32 1088421888#32 := by
  rw [bits_seven, show (7#32).toInt = 7 from by decide]; norm_num

theorem int_neg_seven : (((4294967289#32).toInt : ℝ) : EReal) = Ideal.ofBits .f32 3235905536#32 := by
  rw [bits_neg_seven, show (4294967289#32).toInt = -7 from by decide]; norm_num

/-- The largest magnitude of one token's rotated vector, taken in one pass. -/
def amaxRow (R : Vec Ideal S16384x4864 .f32) (r : Fin 16384) : EReal :=
  Finset.fold max (Ideal.ofBits FTy.f32 4286578688#32) (fun k : Fin 4864 => max (R (ix2 r k)) (-(R (ix2 r k)))) Finset.univ

/-- The body keeps the block it reads as it is. -/
theorem pay3_eq (R : Vec Ideal S16384x4864 .f32) : k0_pay3 (F := Ideal) R = R := shapeCast_self R _

/-- The maximum along the rows of a matrix, at one row. -/
theorem row_max {a b : Nat} (v : FVec Ideal ⟨2, ![a, b]⟩ .f32) (h : (⟨2, ![a, b]⟩ : Shape).Reduces [1] ⟨1, ![a]⟩) (hφ : FKind.Formats FTy.f32)
    (hacc : 0xFF800000#32 = FKind.maximumf.neutral FTy.f32 hφ) (r : Fin a) :
    multiReduction .maximumf [1] ⟨1, ![a]⟩ v 0xFF800000#32 h hφ hacc (ix1 r)
      = Finset.fold max (Ideal.ofBits FTy.f32 4286578688#32) (fun k : Fin b => v (ix2 r k)) Finset.univ := by
  rw [Ideal.multiReduction_maximumf_single]
  have e : (v ∘ h.lift (ix1 r)) = fun k : Fin b => v (ix2 r k) := by
    funext k
    show v _ = v _
    congr 1
    funext d
    apply Fin.ext
    rw [Shape.Reduces.lift_val]
    fin_cases d <;> rfl
  rw [e]
  rfl

/-- The selection of one where the maximum is zero is the scale, at one index. -/
theorem scale_sel {s : Shape} (M : FVec Ideal s .f32) (i : s.Idx) :
    select (cmpf CmpFPredicate.oeq M (broadcast s (FloatOps.ofBits FTy.f32 0#32)))
      (broadcast s (FloatOps.ofBits FTy.f32 1065353216#32))
      (divf M (broadcast s (FloatOps.ofBits FTy.f32 1088421888#32))) i = scaleOf (M i) := by
  pointwise []
  unfold scaleOf
  split_ifs <;> rfl

/-- The scale of a token. -/
theorem pay4_apply (R : Vec Ideal S16384x4864 .f32) (r : Fin 16384) : k0_pay4 (F := Ideal) R (ix1 r) = scaleOf (amaxRow R r) := by
  unfold k0_pay4
  rw [pay3_eq]
  have e := row_max (absf (F := Ideal) (φ := .f32) (s := S16384x4864) R) reduces_S16384x4864_S16384 (.inl rfl) rfl r
  dsimp only
  generalize multiReduction .maximumf [1] S16384 (absf (F := Ideal) (φ := .f32) (s := S16384x4864) R) 0xFF800000#32 reduces_S16384x4864_S16384 (.inl rfl) rfl = M at e ⊢
  have e' : M (ix1 r) = amaxRow R r := e
  exact (scale_sel M (ix1 r)).trans (congrArg scaleOf e')

/-- The scales as a column. -/
theorem pay2_apply (s : FVec Ideal S16384 .f32) (r : Fin 16384) : k0_pay2 (F := Ideal) s (ix2 r 0) = s (ix1 r) := by
  pointwise [k0_pay2]

/-- The rounded and clipped quotient as an integer, at one index. -/
theorem quant_sel {s : Shape} (R S : FVec Ideal s .f32) (i : s.Idx) :
    fptosi 8 (minimumf (broadcast s (Scalar.sitofp (F := Ideal) .f32 7#32)) (maximumf (broadcast s (Scalar.sitofp (F := Ideal) .f32 4294967289#32)) (roundeven (divf R S)))) i
      = FloatOps.fptosi (F := Ideal) (φ := .f32) 8 (quant (R i) (S i)) := by
  have h : minimumf (broadcast s (Scalar.sitofp (F := Ideal) .f32 7#32)) (maximumf (broadcast s (Scalar.sitofp (F := Ideal) .f32 4294967289#32)) (roundeven (divf R S))) i
      = min (((7#32).toInt : ℝ) : EReal) (max (((4294967289#32).toInt : ℝ) : EReal) (FloatOps.roundeven (F := Ideal) (φ := .f32) (Ideal.div (R i) (S i)))) := rfl
  rw [int_seven, int_neg_seven] at h
  exact congrArg (FloatOps.fptosi (F := Ideal) (φ := .f32) 8) h

/-- The scales spread along the columns. -/
theorem scale_spread (s : FVec Ideal S16384 .f32) (r : Fin 16384) (k : Fin 4864) :
    broadcastTo S16384x4864 (shapeCast S16384x1 s shapeCasts_S16384_S16384x1) broadcasts_S16384x1_S16384x4864 (ix2 r k) = s (ix1 r) := by
  pointwise []

/-- The code of an entry. -/
theorem pay5_apply (R : Vec Ideal S16384x4864 .f32) (r : Fin 16384) (k : Fin 4864) :
    k0_pay5 (F := Ideal) R (ix2 r k) = FloatOps.fptosi (F := Ideal) (φ := .f32) 8 (quant (R (ix2 r k)) (k0_pay4 (F := Ideal) R (ix1 r))) := by
  unfold k0_pay5
  rw [pay3_eq]
  rw [← scale_spread (k0_pay4 (F := Ideal) R) r k]
  exact quant_sel R _ (ix2 r k)

/-- The codes at the even columns. -/
theorem pay7_apply (R : Vec Ideal S16384x4864 .f32) (r : Fin 16384) (k : Fin 2432) :
    k0_pay7 (F := Ideal) R (ix2 r k) = FloatOps.sitofp (F := Ideal) .bf16 (k0_pay5 (F := Ideal) R (ix2 r ⟨k.val * 2, by omega⟩)) := by
  pointwise [k0_pay7, k0_pay6]

/-- The codes at the odd columns. -/
theorem pay8_apply (R : Vec Ideal S16384x4864 .f32) (r : Fin 16384) (k : Fin 2432) :
    k0_pay8 (F := Ideal) R (ix2 r k) = FloatOps.sitofp (F := Ideal) .bf16 (k0_pay5 (F := Ideal) R (ix2 r ⟨k.val * 2 + 1, by omega⟩)) := by
  pointwise [k0_pay8, k0_pay6]

/-- The two products with the decoded nibbles, added and scaled by token and by channel. -/
theorem pay1_apply (s : FVec Ideal S16384 .f32) (A B : FVec Ideal S16384x2432 .fp8e4m3) (wp : Vec Ideal S2432x896 .i8) (pw : Vec Ideal S38x896 .bf16)
   (ws : Vec Ideal S1x896 .f32) (r : Fin 16384) (q : Fin 896) :
    k0_pay1 (F := Ideal) s A B (k0_pay10 (F := Ideal) wp) (k0_pay11 (F := Ideal) wp) (k0_pay12 (F := Ideal) wp) 16#32 pw pw ws (ix2 r q)
      = (∑ x : Fin 2432, A (ix2 r x) * (nib (IntOp.andi ((wp (ix2 x q)).setWidth 32) 15#32) * pw (ix2 ⟨x.val / 64, by omega⟩ q))
        + ∑ x : Fin 2432, B (ix2 r x) * (nib (IntOp.andi (IntOp.shrsi .vector ((wp (ix2 x q)).setWidth 32) 4#32) 15#32) * pw (ix2 ⟨x.val / 64, by omega⟩ q)))
        * s (ix1 r) * ws (ix2 0 q) := by
  pointwise [k0_pay1, k0_pay10, k0_pay11, k0_pay12, k0_pay9]
  rfl

end Cert.ReferenceIdeal.Own

end
-- ==== Proof.RHost.lean ====
module

public import proofs.«01_k».proof.Proof.Spec
public import proofs.«01_k».proof.Proof.Gen.ReferenceIdeal.Value
public import Idealize.ShloMosaic.Lib.Pointwise
public import Idealize.ShloMosaic.Lib.StableHlo.RunRead

@[expose] public section

set_option maxRecDepth 16384

noncomputable section

/-! What the reference's host operations leave for its single block: the rotated tokens, the packed weights, the powers of two, the channel scales. -/

namespace Cert.ReferenceIdeal.Own

open Idealize.ShloMosaic Idealize.ShloMosaic.TcCoe Idealize.ShloMosaic.Tactic
open Idealize.SL.Sem
open Cert.ReferenceIdeal Cert.ReferenceIdeal.Gen Cert.Spec

variable (m : (ℓ : Loc nD τ sig) → Buf (Elt Ideal) ℓ)

/-- The rotated tokens, the packed weights, the powers of two and the channel scales the launch finds. -/
def rR (c : Dev nD) : Vec Ideal S16384x4864 .f32 := V m c main_v18
@[inherit_doc rR] def wpR (c : Dev nD) : Vec Ideal S2432x896 .i8 := V m c main_arg2
@[inherit_doc rR] def pwR (c : Dev nD) : Vec Ideal S38x896 .bf16 := V m c main_v25
@[inherit_doc rR] def wsR (c : Dev nD) : Vec Ideal S1x896 .f32 := V m c main_v26

/-- The packed weights are the third argument. -/
theorem wpR_eq (c : Dev nD) : wpR m c = m ((c : Thread nD τ).loc main_arg2) := V_main_arg2 m c

/-- The channel scales are the fifth argument as one row. -/
theorem wsR_eq (c : Dev nD) : wsR m c = shapeCast S1x896 (m ((c : Thread nD τ).loc main_arg4)) shapeCasts_S896_S1x896 := by
  show StableHlo.after hostOps0 (fun b => m (c, b)) (Proc.devRef .tc main_v26) = _
  after_reads_simp
  rfl

/-- The power of two of a group and a channel. -/
theorem pwR_apply (c : Dev nD) (g : Fin 38) (q : Fin 896) :
    pwR m c (ix2 g q) = pow2 (m ((c : Thread nD τ).loc main_arg3) (ix2 g q)) := by
  show StableHlo.after hostOps0 (fun b => m (c, b)) (Proc.devRef .tc main_v25) _ = _
  after_reads_simp
  pointwise []
  rfl

/-- The two transforms on the host, at one entry, are the mixing of the transformed token. -/
theorem mix_of (X : Vec Ideal S16x1024x4864 .bf16) (H : Vec Ideal S19x19 .f32) (r : Fin 16384) (j : Fin 19) (q : Fin 256) :
    (∑ x : Fin 19, (∑ p : Fin 256, X (ix3 ⟨r.val / 1024, by omega⟩ ⟨r.val % 1024, by omega⟩ ⟨x.val * 256 + p.val, by omega⟩) *
        FloatOps.sitofp (F := Ideal) FTy.f32
          (IntOp.subi (1#32) (IntOp.muli (2#32) (IntOp.andi (IntOp.ctpop (IntOp.andi (BitVec.ofNat 32 q.val) (BitVec.ofNat 32 p.val))) 1#32)))) * H (ix2 j x))
      * Ideal.ofBits FTy.f32 1013640181#32 = mix (tr (tokOf X r)) (fun j l => H (ix2 j l)) j q := by
  unfold mix
  refine congrArg (· * Ideal.ofBits FTy.f32 1013640181#32) (Finset.sum_congr rfl fun k _ => ?_)
  refine congrArg (· * H (ix2 j k)) (Finset.sum_congr rfl fun p _ => ?_)
  rw [sgn_symm p q]
  unfold tokOf at2 sgn
  rw [show (⟨k.val * 256 + p.val, by omega⟩ : Fin 4864) = ⟨256 * k.val + p.val, by omega⟩ from Fin.ext (by simp only; omega)]

/-- The rotated token at one entry. -/
theorem rR_apply (c : Dev nD) (r : Fin 16384) (j : Fin 19) (q : Fin 256) :
    rR m c (ix2 r (at2 j q)) = mix (tr (tokOf (m ((c : Thread nD τ).loc main_arg0)) r)) (fun j l => (m ((c : Thread nD τ).loc main_arg1) : Vec Ideal S19x19 .f32) (ix2 j l)) j q := by
  have h := mix_of (m ((c : Thread nD τ).loc main_arg0)) (m ((c : Thread nD τ).loc main_arg1)) r j q
  generalize mix (tr (tokOf (m ((c : Thread nD τ).loc main_arg0)) r)) (fun j l => (m ((c : Thread nD τ).loc main_arg1) : Vec Ideal S19x19 .f32) (ix2 j l)) j q = Z at h ⊢
  show StableHlo.after hostOps0 (fun b => m (c, b)) (Proc.devRef .tc main_v18) _ = _
  after_reads_simp
  pointwise [at2]
  exact h

end Cert.ReferenceIdeal.Own

end
-- ==== Proof.RArr.lean ====
module

public import proofs.«01_k».proof.Proof.RPay
public import proofs.«01_k».proof.Proof.RHost

@[expose] public section

set_option maxRecDepth 16384

noncomputable section

/-! What the reference's three result arrays hold, as functions of the arrays its launch finds. -/

namespace Cert.ReferenceIdeal.Own

open Idealize.ShloMosaic Idealize.ShloMosaic.TcCoe Idealize.ShloMosaic.Tactic
open Idealize.SL.Sem
open Cert.ReferenceIdeal Cert.ReferenceIdeal.Gen Cert.Spec

variable (m : (ℓ : Loc nD τ sig) → Buf (Elt Ideal) ℓ)

theorem hz : (![0, 0] : Fin 2 → Nat) = fun _ => 0 := by funext d; fin_cases d <;> rfl

section
variable (x0 : Vec Ideal S16384x4864 .f32) (x1 : Vec Ideal S2432x896 .i8) (x2 : Vec Ideal S38x896 .bf16) (x3 : Vec Ideal S1x896 .f32)

/-- The scales the body leaves. -/
theorem out6_apply (r : Fin 16384) : out0_6 (F := Ideal) x0 x1 x2 x3 (ix2 r 0) = scaleOf (amaxRow x0 r) := by
  unfold out0_6 k0_pay13
  rw [View.canon_unit_zero hz, pay2_apply, View.ld_unit_zero hz, pay4_apply]

/-- A token's code at column `k`, before it is made an integer. -/
def qR (r : Fin 16384) (k : Fin 4864) : EReal := quant (x0 (ix2 r k)) (scaleOf (amaxRow x0 r))

/-- The codes the body leaves. -/
theorem out5_apply (r : Fin 16384) (k : Fin 4864) :
    out0_5 (F := Ideal) x0 x1 x2 x3 (ix2 r k) = FloatOps.fptosi (F := Ideal) (φ := .f32) 8 (qR x0 r k) := by
  unfold out0_5
  rw [View.canon_unit_zero hz, View.ld_unit_zero hz, pay5_apply, pay4_apply]
  rfl

/-- The products the body leaves. -/
theorem out4_apply (r : Fin 16384) (q : Fin 896) :
    out0_4 (F := Ideal) x0 x1 x2 x3 (ix2 r q)
      = (∑ x : Fin 2432, FloatOps.sitofp (F := Ideal) .bf16 (FloatOps.fptosi (F := Ideal) (φ := .f32) 8 (qR x0 r ⟨x.val * 2, by omega⟩))
            * (nib (IntOp.andi ((x1 (ix2 x q)).setWidth 32) 15#32) * x2 (ix2 ⟨x.val / 64, by omega⟩ q))
        + ∑ x : Fin 2432, FloatOps.sitofp (F := Ideal) .bf16 (FloatOps.fptosi (F := Ideal) (φ := .f32) 8 (qR x0 r ⟨x.val * 2 + 1, by omega⟩))
            * (nib (IntOp.andi (IntOp.shrsi .vector ((x1 (ix2 x q)).setWidth 32) 4#32) 15#32) * x2 (ix2 ⟨x.val / 64, by omega⟩ q)))
        * scaleOf (amaxRow x0 r) * x3 (ix2 0 q) := by
  unfold out0_4 k0_pay13
  rw [View.canon_unit_zero hz, View.ld_unit_zero hz, View.ld_unit_zero hz, View.ld_unit_zero hz, View.ld_unit_zero hz, pay1_apply, pay4_apply]
  simp only [pay7_apply, pay8_apply, pay5_apply, pay4_apply]
  rfl
end

theorem index_0 : ∀ t : Fin grid0.N, win0_0.index t = ![0, 0] := by decide +kernel
theorem index_1 : ∀ t : Fin grid0.N, win0_1.index t = ![0, 0] := by decide +kernel
theorem index_2 : ∀ t : Fin grid0.N, win0_2.index t = ![0, 0] := by decide +kernel
theorem index_3 : ∀ t : Fin grid0.N, win0_3.index t = ![0, 0] := by decide +kernel
theorem index_4 : ∀ t : Fin grid0.N, win0_4.index t = ![0, 0] := by decide +kernel
theorem index_5 : ∀ t : Fin grid0.N, win0_5.index t = ![0, 0] := by decide +kernel
theorem index_6 : ∀ t : Fin grid0.N, win0_6.index t = ![0, 0] := by decide +kernel

theorem iblk_0 (c : Dev nD) (t : Fin cfg0.N) : iblk m c 0 t = rR m c := by
  funext j
  unfold iblk
  rw [View.read_apply]
  show V m c main_v18 _ = V m c main_v18 _
  congr 1
  funext a
  apply Fin.ext
  have hi := index_0 t
  match a with
  | ⟨0, _⟩ => show win0_0.index t (0 : Fin 2) * 16384 + 1 * (j 0).val = (j 0).val; rw [show win0_0.index t (0 : Fin 2) = 0 from congrFun hi 0]; omega
  | ⟨1, _⟩ => show win0_0.index t (1 : Fin 2) * 4864 + 1 * (j 1).val = (j 1).val; rw [show win0_0.index t (1 : Fin 2) = 0 from congrFun hi 1]; omega

theorem iblk_1 (c : Dev nD) (t : Fin cfg0.N) : iblk m c 1 t = wpR m c := by
  funext j
  unfold iblk
  rw [View.read_apply]
  show V m c main_arg2 _ = V m c main_arg2 _
  congr 1
  funext a
  apply Fin.ext
  have hi := index_1 t
  match a with
  | ⟨0, _⟩ => show win0_1.index t (0 : Fin 2) * 2432 + 1 * (j 0).val = (j 0).val; rw [show win0_1.index t (0 : Fin 2) = 0 from congrFun hi 0]; omega
  | ⟨1, _⟩ => show win0_1.index t (1 : Fin 2) * 896 + 1 * (j 1).val = (j 1).val; rw [show win0_1.index t (1 : Fin 2) = 0 from congrFun hi 1]; omega

theorem iblk_2 (c : Dev nD) (t : Fin cfg0.N) : iblk m c 2 t = pwR m c := by
  funext j
  unfold iblk
  rw [View.read_apply]
  show V m c main_v25 _ = V m c main_v25 _
  congr 1
  funext a
  apply Fin.ext
  have hi := index_2 t
  match a with
  | ⟨0, _⟩ => show win0_2.index t (0 : Fin 2) * 38 + 1 * (j 0).val = (j 0).val; rw [show win0_2.index t (0 : Fin 2) = 0 from congrFun hi 0]; omega
  | ⟨1, _⟩ => show win0_2.index t (1 : Fin 2) * 896 + 1 * (j 1).val = (j 1).val; rw [show win0_2.index t (1 : Fin 2) = 0 from congrFun hi 1]; omega

theorem iblk_3 (c : Dev nD) (t : Fin cfg0.N) : iblk m c 3 t = wsR m c := by
  funext j
  unfold iblk
  rw [View.read_apply]
  show V m c main_v26 _ = V m c main_v26 _
  congr 1
  funext a
  apply Fin.ext
  have hi := index_3 t
  match a with
  | ⟨0, _⟩ => show win0_3.index t (0 : Fin 2) * 1 + 1 * (j 0).val = (j 0).val; rw [show win0_3.index t (0 : Fin 2) = 0 from congrFun hi 0]; omega
  | ⟨1, _⟩ => show win0_3.index t (1 : Fin 2) * 896 + 1 * (j 1).val = (j 1).val; rw [show win0_3.index t (1 : Fin 2) = 0 from congrFun hi 1]; omega

theorem emb_4 (t : Fin cfg0.N) (y : S16384x896.Idx) : ((cfg0.win 4).blk t).view.emb y = y := by
  funext a
  apply Fin.ext
  have hi := index_4 t
  match a with
  | ⟨0, _⟩ => show win0_4.index t (0 : Fin 2) * 16384 + 1 * (y 0).val = (y 0).val; rw [show win0_4.index t (0 : Fin 2) = 0 from congrFun hi 0]; omega
  | ⟨1, _⟩ => show win0_4.index t (1 : Fin 2) * 896 + 1 * (y 1).val = (y 1).val; rw [show win0_4.index t (1 : Fin 2) = 0 from congrFun hi 1]; omega

/-- The array of products after the run is what the body leaves of the arrays its launch finds. -/
theorem final4 (c : Dev nD) : (dats m 0 c).arrAt 4 cfg0.N = out0_4 (F := Ideal) (rR m c) (wpR m c) (pwR m c) (wsR m c) := by
  have t0 : Fin cfg0.N := ⟨0, by rw [show cfg0.N = 1 from N_0]; omega⟩
  have hb := (Value.blocks4 m c t0 (flush0_4 t0)).trans (Value.flushed4 m c t0)
  rw [iblk_0, iblk_1, iblk_2, iblk_3] at hb
  generalize out0_4 (F := Ideal) (rR m c) (wpR m c) (pwR m c) (wsR m c) = B at hb ⊢
  generalize (dats m 0 c).arrAt 4 cfg0.N = A at hb ⊢
  funext y
  have h : A (((cfg0.win 4).blk t0).view.emb y) = B y := congrFun hb y
  exact (congrArg A (emb_4 t0 y)).symm.trans h

theorem emb_5 (t : Fin cfg0.N) (y : S16384x4864.Idx) : ((cfg0.win 5).blk t).view.emb y = y := by
  funext a
  apply Fin.ext
  have hi := index_5 t
  match a with
  | ⟨0, _⟩ => show win0_5.index t (0 : Fin 2) * 16384 + 1 * (y 0).val = (y 0).val; rw [show win0_5.index t (0 : Fin 2) = 0 from congrFun hi 0]; omega
  | ⟨1, _⟩ => show win0_5.index t (1 : Fin 2) * 4864 + 1 * (y 1).val = (y 1).val; rw [show win0_5.index t (1 : Fin 2) = 0 from congrFun hi 1]; omega

/-- The array of codes after the run is what the body leaves of the arrays its launch finds. -/
theorem final5 (c : Dev nD) : (dats m 0 c).arrAt 5 cfg0.N = out0_5 (F := Ideal) (rR m c) (wpR m c) (pwR m c) (wsR m c) := by
  have t0 : Fin cfg0.N := ⟨0, by rw [show cfg0.N = 1 from N_0]; omega⟩
  have hb := (Value.blocks5 m c t0 (flush0_5 t0)).trans (Value.flushed5 m c t0)
  rw [iblk_0, iblk_1, iblk_2, iblk_3] at hb
  generalize out0_5 (F := Ideal) (rR m c) (wpR m c) (pwR m c) (wsR m c) = B at hb ⊢
  generalize (dats m 0 c).arrAt 5 cfg0.N = A at hb ⊢
  funext y
  have h : A (((cfg0.win 5).blk t0).view.emb y) = B y := congrFun hb y
  exact (congrArg A (emb_5 t0 y)).symm.trans h

theorem emb_6 (t : Fin cfg0.N) (y : S16384x1.Idx) : ((cfg0.win 6).blk t).view.emb y = y := by
  funext a
  apply Fin.ext
  have hi := index_6 t
  match a with
  | ⟨0, _⟩ => show win0_6.index t (0 : Fin 2) * 16384 + 1 * (y 0).val = (y 0).val; rw [show win0_6.index t (0 : Fin 2) = 0 from congrFun hi 0]; omega
  | ⟨1, _⟩ => show win0_6.index t (1 : Fin 2) * 1 + 1 * (y 1).val = (y 1).val; rw [show win0_6.index t (1 : Fin 2) = 0 from congrFun hi 1]; omega

/-- The array of scales after the run is what the body leaves of the arrays its launch finds. -/
theorem final6 (c : Dev nD) : (dats m 0 c).arrAt 6 cfg0.N = out0_6 (F := Ideal) (rR m c) (wpR m c) (pwR m c) (wsR m c) := by
  have t0 : Fin cfg0.N := ⟨0, by rw [show cfg0.N = 1 from N_0]; omega⟩
  have hb := (Value.blocks6 m c t0 (flush0_6 t0)).trans (Value.flushed6 m c t0)
  rw [iblk_0, iblk_1, iblk_2, iblk_3] at hb
  generalize out0_6 (F := Ideal) (rR m c) (wpR m c) (pwR m c) (wsR m c) = B at hb ⊢
  generalize (dats m 0 c).arrAt 6 cfg0.N = A at hb ⊢
  funext y
  have h : A (((cfg0.win 6).blk t0).view.emb y) = B y := congrFun hb y
  exact (congrArg A (emb_6 t0 y)).symm.trans h

end Cert.ReferenceIdeal.Own

end
-- ==== Proof.Equation.lean ====
module

public import proofs.«01_k».proof.Proof.KArr
public import proofs.«01_k».proof.Proof.RArr

@[expose] public section

set_option maxRecDepth 16384

noncomputable section

/-! The equation: where the arguments agree, the reference's three arrays are the kernel's. -/

namespace Cert.Equation

open Idealize.ShloMosaic Idealize.ShloMosaic.TcCoe
open Cert.Spec

/-! ## From the arrays the two launches find -/

section
variable (h : Vec Ideal Cert.KernelIdeal.S19x19 .f32) (x : Vec Ideal Cert.KernelIdeal.S16384x4864 .bf16) (R : Vec Ideal Cert.ReferenceIdeal.S16384x4864 .f32)
  (hR : ∀ r j q, R (ix2 r (at2 j q)) = Cert.KernelIdeal.Own.rMix h x r j q)
include hR

/-- The two scales of a token are equal. -/
theorem scale_eq (r : Fin 16384) : scaleOf (Cert.ReferenceIdeal.Own.amaxRow R r) = Cert.KernelIdeal.Own.scaleF h x r :=
  congrArg scaleOf (amax_eq (fun k => R (ix2 r k)) (Cert.KernelIdeal.Own.rMix h x r) (hR r))

/-- The two codes of an entry are equal: the scale is never zero. -/
theorem code_eq (r : Fin 16384) (k : Fin 4864) : Cert.ReferenceIdeal.Own.qR R r k = Cert.KernelIdeal.Own.qF h x r k := by
  unfold Cert.ReferenceIdeal.Own.qR Cert.KernelIdeal.Own.qF quant Cert.KernelIdeal.Own.qmul
  rw [scale_eq h x R hR r, ← hR, at2_div_mod, div_eq_mul_recip _ (show Cert.KernelIdeal.Own.scaleF h x r ≠ 0 from scaleOf_ne_zero (amax_nonneg _))]
  rfl

variable (wp : Vec Ideal Cert.KernelIdeal.S2432x896 .i8) (pw : Vec Ideal Cert.KernelIdeal.S38x896 .f32) (wp' : Vec Ideal Cert.ReferenceIdeal.S2432x896 .i8)
  (pw' : Vec Ideal Cert.ReferenceIdeal.S38x896 .bf16) (hw : wp' = wp) (hp : ∀ g q, pw' (ix2 g q) = pw (ix2 g q))
include hw hp

/-- The products over the even and over the odd rows add up to the product over all rows. -/
theorem sum_eq (r : Fin 16384) (q : Fin 896) :
    ∑ x : Fin 2432, FloatOps.sitofp (F := Ideal) .bf16 (FloatOps.fptosi (F := Ideal) (φ := .f32) 8 (Cert.ReferenceIdeal.Own.qR R r ⟨x.val * 2, by omega⟩))
            * (nib (IntOp.andi ((wp' (ix2 x q)).setWidth 32) 15#32) * pw' (ix2 ⟨x.val / 64, by omega⟩ q))
        + ∑ x : Fin 2432, FloatOps.sitofp (F := Ideal) .bf16 (FloatOps.fptosi (F := Ideal) (φ := .f32) 8 (Cert.ReferenceIdeal.Own.qR R r ⟨x.val * 2 + 1, by omega⟩))
            * (nib (IntOp.andi (IntOp.shrsi .vector ((wp' (ix2 x q)).setWidth 32) 4#32) 15#32) * pw' (ix2 ⟨x.val / 64, by omega⟩ q))
      = ∑ k : Fin 4864, Cert.KernelIdeal.Own.qF h x r k * Cert.KernelIdeal.Own.wArr wp pw (ix2 k q) := by
  subst hw
  rw [sum_even_odd]
  have hb : ∀ k, FloatOps.sitofp (F := Ideal) .bf16 (FloatOps.fptosi (F := Ideal) (φ := .f32) 8 (Cert.ReferenceIdeal.Own.qR R r k)) = Cert.KernelIdeal.Own.qF h x r k :=
    fun k => (code_back _ _).trans (code_eq h x R hR r k)
  have he : ∀ y : Fin 2432, Cert.KernelIdeal.Own.wArr wp' pw (ix2 ⟨y.val * 2, by omega⟩ q)
      = nib (IntOp.andi ((wp' (ix2 y q)).setWidth 32) 15#32) * pw' (ix2 ⟨y.val / 64, by omega⟩ q) := by
    intro y
    rw [hp]
    show wEnt (wp' (ix2 ⟨y.val * 2 / 2, _⟩ q)) (pw (ix2 ⟨y.val * 2 / 128, _⟩ q)) (y.val * 2) = _
    rw [show (⟨y.val * 2 / 2, by omega⟩ : Fin 2432) = y from Fin.ext (by simp only; omega),
      show (⟨y.val * 2 / 128, by omega⟩ : Fin 38) = ⟨y.val / 64, by omega⟩ from Fin.ext (by simp only; omega)]
    unfold wEnt
    rw [if_pos (by omega)]
  have ho : ∀ y : Fin 2432, Cert.KernelIdeal.Own.wArr wp' pw (ix2 ⟨y.val * 2 + 1, by omega⟩ q)
      = nib (IntOp.andi (IntOp.shrsi .vector ((wp' (ix2 y q)).setWidth 32) 4#32) 15#32) * pw' (ix2 ⟨y.val / 64, by omega⟩ q) := by
    intro y
    rw [hp]
    show wEnt (wp' (ix2 ⟨(y.val * 2 + 1) / 2, _⟩ q)) (pw (ix2 ⟨(y.val * 2 + 1) / 128, _⟩ q)) (y.val * 2 + 1) = _
    rw [show (⟨(y.val * 2 + 1) / 2, by omega⟩ : Fin 2432) = y from Fin.ext (by simp only; omega),
      show (⟨(y.val * 2 + 1) / 128, by omega⟩ : Fin 38) = ⟨y.val / 64, by omega⟩ from Fin.ext (by simp only; omega)]
    unfold wEnt
    rw [if_neg (by omega)]
  exact congrArg₂ (· + ·) (Finset.sum_congr rfl fun y _ => by rw [hb, he]) (Finset.sum_congr rfl fun y _ => by rw [hb, ho])
end

/-! ## From the arguments -/

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The two programs find the same five arguments on device `c`. -/
structure Agree : Prop where
  a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)

variable {m m' c} (ag : Agree m m' c)
include ag

/-- The rotated tokens are equal. -/
theorem rot_eq (r : Fin 16384) (j : Fin 19) (q : Fin 256) :
    Cert.ReferenceIdeal.Own.rR m' c (ix2 r (at2 j q)) = Cert.KernelIdeal.Own.rMix (Cert.KernelIdeal.Own.hK m c) (Cert.KernelIdeal.Own.xK m c) r j q := by
  rw [Cert.ReferenceIdeal.Own.rR_apply, ag.a0, ag.a1]
  unfold Cert.KernelIdeal.Own.rMix
  rw [Cert.KernelIdeal.Own.hK_eq, show (fun k => Cert.KernelIdeal.Own.xK m c (ix2 r k)) = tokOf (m ((c.tc : Thread Cert.KernelIdeal.nD Cert.KernelIdeal.τ).loc Cert.KernelIdeal.main_arg0)) r from
    funext fun k => Cert.KernelIdeal.Own.xK_apply m c r k]

theorem wp_eq : Cert.ReferenceIdeal.Own.wpR m' c = Cert.KernelIdeal.Own.wpK m c := by
  rw [Cert.ReferenceIdeal.Own.wpR_eq, Cert.KernelIdeal.Own.wpK_eq, ag.a2]

theorem pw_eq (g : Fin 38) (q : Fin 896) : Cert.ReferenceIdeal.Own.pwR m' c (ix2 g q) = Cert.KernelIdeal.Own.pwK m c (ix2 g q) := by
  rw [Cert.ReferenceIdeal.Own.pwR_apply, Cert.KernelIdeal.Own.pwK_apply, ag.a3]

theorem ws_eq : Cert.ReferenceIdeal.Own.wsR m' c = Cert.KernelIdeal.Own.wsK m c := by
  rw [Cert.ReferenceIdeal.Own.wsR_eq, Cert.KernelIdeal.Own.wsK_eq, ag.a4]

/-- The scales. -/
theorem scales : (Cert.ReferenceIdeal.Gen.dats m' 0 c).arrAt 6 Cert.ReferenceIdeal.cfg0.N = Cert.KernelIdeal.Own.Value.G7 m c := by
  rw [Cert.ReferenceIdeal.Own.final6]
  funext i
  idx_vars i
  obtain rfl : i1 = 0 := Subsingleton.elim _ _
  rw [Cert.ReferenceIdeal.Own.out6_apply]
  exact (scale_eq _ _ _ (rot_eq ag) i0).trans (Cert.KernelIdeal.Own.G7_eq m c i0).symm

/-- The codes. -/
theorem codes : (Cert.ReferenceIdeal.Gen.dats m' 0 c).arrAt 5 Cert.ReferenceIdeal.cfg0.N = Cert.KernelIdeal.Own.Value.G6 m c := by
  rw [Cert.ReferenceIdeal.Own.final5]
  funext i
  idx_vars i
  rw [Cert.ReferenceIdeal.Own.out5_apply, code_eq _ _ _ (rot_eq ag) i0 i1]
  exact (Cert.KernelIdeal.Own.G6_eq m c i0 i1).symm

/-- The products. -/
theorem products : (Cert.ReferenceIdeal.Gen.dats m' 0 c).arrAt 4 Cert.ReferenceIdeal.cfg0.N = Cert.KernelIdeal.Own.Value.G5 m c := by
  rw [Cert.ReferenceIdeal.Own.final4]
  funext i
  idx_vars i
  rw [Cert.ReferenceIdeal.Own.out4_apply, sum_eq _ _ _ (rot_eq ag) _ _ _ _ (wp_eq ag) (pw_eq ag) i0 i1, scale_eq _ _ _ (rot_eq ag) i0, ws_eq ag]
  exact (Cert.KernelIdeal.Own.G5_eq m c i0 i1).symm
end

end Cert.Equation

end
-- ==== Proof.lean ====
/- The certificate: the three frames, the ideal program against the kernel, and the equality of the kernel's three
   results with the reference's over the extended reals. Each part is proved in a module of its own under Proof/. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.WordFrame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init
public import Idealize.ShloMosaic.Lib.Bf16Pair
public import proofs.«01_k».proof.Proof.Gen.ReferenceIdeal.Value
public import proofs.«01_k».proof.Proof.Value
public import proofs.«01_k».proof.Proof.Equation

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Own.frame m ρ,
  fun m ρ _ => Cert.KernelIdeal.Own.frame m ρ,
  fun m ρ _ => Cert.ReferenceIdeal.Gen.frame m ρ,
  ⟨IdealRules.bf16_pair.statement Cert.KernelIdeal.S128x896 Cert.KernelIdeal.S64x896,
    IdealRules.bf16_pack.statement Cert.KernelIdeal.S64x896⟩,
  fun m ρ m' ρ' _ hag =>
    ⟨fun c => Cert.KernelIdeal.Own.Value.G5 m c, fun c => Cert.KernelIdeal.Own.Value.G6 m c, fun c => Cert.KernelIdeal.Own.Value.G7 m c,
      Cert.KernelIdeal.Own.Value.run m ρ,
      (θ_run _ _ _).mono (fun r h c =>
        have ag : Cert.Equation.Agree m m' c := ⟨(hag c).1, (hag c).2.1, (hag c).2.2.1, (hag c).2.2.2.1, (hag c).2.2.2.2⟩
        ⟨(h c).1.trans (Cert.Equation.products ag), (h c).2.1.trans (Cert.Equation.codes ag), (h c).2.2.1.trans (Cert.Equation.scales ag), (h c).2.2.2⟩)
        (Cert.ReferenceIdeal.Value.run_blocks m' ρ')⟩⟩

end Cert.Proof

end
